-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v89) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v105_0)) (v1 : (c : Dev Cert.Kernel3Ideal.nD) → Buf (Elt Ideal) ((c.tc : Thread Cert.Kernel3Ideal.nD Cert.Kernel3Ideal.τ).loc Cert.Kernel3Ideal.main_v105_1)) (v2 : (c : Dev Cert.Kernel3Ideal.nD) → Buf (Elt Ideal) ((c.tc : Thread Cert.Kernel3Ideal.nD Cert.Kernel3Ideal.τ).loc Cert.Kernel3Ideal.main_v105_5)) (v3 : (c : Dev Cert.Kernel3Ideal.nD) → Buf (Elt Ideal) ((c.tc : Thread Cert.Kernel3Ideal.nD Cert.Kernel3Ideal.τ).loc Cert.Kernel3Ideal.main_v105_7)) (v4 : (c : Dev Cert.Kernel3Ideal.nD) → Buf (Elt Ideal) ((c.tc : Thread Cert.Kernel3Ideal.nD Cert.Kernel3Ideal.τ).loc Cert.Kernel3Ideal.main_v105_8)) (v5 : (c : Dev Cert.Kernel3Ideal.nD) → Buf (Elt Ideal) ((c.tc : Thread Cert.Kernel3Ideal.nD Cert.Kernel3Ideal.τ).loc Cert.Kernel3Ideal.main_v105_11)) (v6 : (c : Dev Cert.Kernel3Ideal.nD) → Buf (Elt Ideal) ((c.tc : Thread Cert.Kernel3Ideal.nD Cert.Kernel3Ideal.τ).loc Cert.Kernel3Ideal.main_v105_13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v105_0) = v0 c
          ∧ r.2.mem ((c.tc : Thread Cert.Kernel3Ideal.nD Cert.Kernel3Ideal.τ).loc Cert.Kernel3Ideal.main_v105_1) = v1 c
          ∧ r.2.mem ((c.tc : Thread Cert.Kernel3Ideal.nD Cert.Kernel3Ideal.τ).loc Cert.Kernel3Ideal.main_v105_5) = v2 c
          ∧ r.2.mem ((c.tc : Thread Cert.Kernel3Ideal.nD Cert.Kernel3Ideal.τ).loc Cert.Kernel3Ideal.main_v105_7) = v3 c
          ∧ r.2.mem ((c.tc : Thread Cert.Kernel3Ideal.nD Cert.Kernel3Ideal.τ).loc Cert.Kernel3Ideal.main_v105_8) = v4 c
          ∧ r.2.mem ((c.tc : Thread Cert.Kernel3Ideal.nD Cert.Kernel3Ideal.τ).loc Cert.Kernel3Ideal.main_v105_11) = v5 c
          ∧ r.2.mem ((c.tc : Thread Cert.Kernel3Ideal.nD Cert.Kernel3Ideal.τ).loc Cert.Kernel3Ideal.main_v105_13) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_v80) = v3 c
          ∧ r.2.mem ((c.tc : Thread Cert.Reference3Ideal.nD Cert.Reference3Ideal.τ).loc Cert.Reference3Ideal.main_v81) = v4 c
          ∧ r.2.mem ((c.tc : Thread Cert.Reference3Ideal.nD Cert.Reference3Ideal.τ).loc Cert.Reference3Ideal.main_v49) = v5 c
          ∧ r.2.mem ((c.tc : Thread Cert.Reference3Ideal.nD Cert.Reference3Ideal.τ).loc Cert.Reference3Ideal.main_v83) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16384x1024 : Shape := ⟨2, ![16384, 1024]⟩
abbrev S4x8x6144 : Shape := ⟨3, ![4, 8, 6144]⟩
abbrev S4x1024 : Shape := ⟨2, ![4, 1024]⟩
abbrev S4x1024x4 : Shape := ⟨3, ![4, 1024, 4]⟩
abbrev S4x4 : Shape := ⟨2, ![4, 4]⟩
abbrev S4x1024x16 : Shape := ⟨3, ![4, 1024, 16]⟩
abbrev S4x16 : Shape := ⟨2, ![4, 16]⟩
abbrev S4x16x1024x256 : Shape := ⟨4, ![4, 16, 1024, 256]⟩
abbrev S4x16x256x1024 : Shape := ⟨4, ![4, 16, 256, 1024]⟩
abbrev S_ : Shape := ⟨0, ![]⟩

class Facts : Prop where
  bcast_S_S4x8x6144 : S_.BroadcastsInDim S4x8x6144 (![] : Fin 0 → Fin S4x8x6144.rank)
  reducesTo_S4x8x6144_S_d0_1_2 : S4x8x6144.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S4x1024x4 : S_.BroadcastsInDim S4x1024x4 (![] : Fin 0 → Fin S4x1024x4.rank)
  reducesTo_S4x1024x4_S_d0_1_2 : S4x1024x4.ReducesTo [0, 1, 2] S_
  bcast_S_S4x4 : S_.BroadcastsInDim S4x4 (![] : Fin 0 → Fin S4x4.rank)
  reducesTo_S4x4_S_d0_1 : S4x4.ReducesTo [0, 1] S_
  bcast_S_S4x1024x16 : S_.BroadcastsInDim S4x1024x16 (![] : Fin 0 → Fin S4x1024x16.rank)
  reducesTo_S4x1024x16_S_d0_1_2 : S4x1024x16.ReducesTo [0, 1, 2] S_
  bcast_S_S4x16 : S_.BroadcastsInDim S4x16 (![] : Fin 0 → Fin S4x16.rank)
  reducesTo_S4x16_S_d0_1 : S4x16.ReducesTo [0, 1] S_

variable [Facts]

def fn_part1 {F : FTy → Type} [FloatOps F] (main_arg5 : FVec F S4x1024x16 .f32) (main_arg6 : FVec F S4x16 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4x1024x16 .f32 := Host.absf main_arg5
  let main_cst_6 : FVec F S_ .f32 := constant S_ .f32 0x7F800000#32
  let main_v20 : FVec F S4x1024x16 .f32 := broadcastInDim S4x1024x16 ![] bcast_S_S4x1024x16 main_cst_6
  let main_v21 : IVec S4x1024x16 1 := cmpf .olt main_v19 main_v20
  let main_c_7 : IVec S_ 1 := constantI S_ 1 1#1
  let main_v22 : IVec S_ 1 := (fun x v => Host.reduce IntOp.andi x v reducesTo_S4x1024x16_S_d0_1_2 h_S_) main_v21 main_c_7
  let main_v23 : IVec S_ 1 := andi main_v18 main_v22
  let main_v24 : FVec F S4x16 .f32 := Host.absf main_arg6
  let main_cst_8 : FVec F S_ .f32 := constant S_ .f32 0x7F800000#32
  let main_v25 : FVec F S4x16 .f32 := broadcastInDim S4x16 ![] bcast_S_S4x16 main_cst_8
  let main_v26 : IVec S4x16 1 := cmpf .olt main_v24 main_v25
  let main_c_9 : IVec S_ 1 := constantI S_ 1 1#1
  let main_v27 : IVec S_ 1 := (fun x v => Host.reduce IntOp.andi x v reducesTo_S4x16_S_d0_1 h_S_) main_v26 main_c_9
  let main_v28 : IVec S_ 1 := andi main_v23 main_v27
  main_v28

def fn {F : FTy → Type} [FloatOps F] (main_arg0 : FVec F S16384x1024 .f32) (main_arg1 : FVec F S4x8x6144 .f32) (main_arg2 : FVec F S4x1024 .f32) (main_arg3 : FVec F S4x1024x4 .f32) (main_arg4 : FVec F S4x4 .f32) (main_arg5 : FVec F S4x1024x16 .f32) (main_arg6 : FVec F S4x16 .f32) (main_arg7 : FVec F S4x16x1024x256 .f32) (main_arg8 : FVec F S4x16x1024x256 .f32) (main_arg9 : FVec F S4x16x256x1024 .f32) : IVec S_ 1 :=
  let main_v0 : FVec F S4x8x6144 .f32 := Host.absf main_arg1
  let main_cst : FVec F S_ .f32 := constant S_ .f32 0x7F800000#32
  let main_v1 : FVec F S4x8x6144 .f32 := broadcastInDim S4x8x6144 ![] bcast_S_S4x8x6144 main_cst
  let main_v2 : IVec S4x8x6144 1 := cmpf .olt main_v0 main_v1
  let main_c : IVec S_ 1 := constantI S_ 1 1#1
  let main_v3 : IVec S_ 1 := (fun x v => Host.reduce IntOp.andi x v reducesTo_S4x8x6144_S_d0_1_2 h_S_) main_v2 main_c
  let main_v4 : FVec F S4x1024 .f32 := Host.absf main_arg2
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4x1024x4 .f32 := Host.absf main_arg3
  let main_cst_2 : FVec F S_ .f32 := constant S_ .f32 0x7F800000#32
  let main_v10 : FVec F S4x1024x4 .f32 := broadcastInDim S4x1024x4 ![] bcast_S_S4x1024x4 main_cst_2
  let main_v11 : IVec S4x1024x4 1 := cmpf .olt main_v9 main_v10
  let main_c_3 : IVec S_ 1 := constantI S_ 1 1#1
  let main_v12 : IVec S_ 1 := (fun x v => Host.reduce IntOp.andi x v reducesTo_S4x1024x4_S_d0_1_2 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_v13 main_v16
-- ==== Kernel.lean ====
abbrev S16384x1024 : Shape := ⟨2, ![16384, 1024]⟩
abbrev S4x8x6144 : Shape := ⟨3, ![4, 8, 6144]⟩
abbrev S4x1024 : Shape := ⟨2, ![4, 1024]⟩
abbrev S4x1024x4 : Shape := ⟨3, ![4, 1024, 4]⟩
abbrev S4x4 : Shape := ⟨2, ![4, 4]⟩
abbrev S4x1024x16 : Shape := ⟨3, ![4, 1024, 16]⟩
abbrev S4x16 : Shape := ⟨2, ![4, 16]⟩
abbrev S4x16x1024x256 : Shape := ⟨4, ![4, 16, 1024, 256]⟩
abbrev S4x16x256x1024 : Shape := ⟨4, ![4, 16, 256, 1024]⟩
abbrev S4x8x1x6144 : Shape := ⟨4, ![4, 8, 1, 6144]⟩
abbrev S_ : Shape := ⟨0, ![]⟩
abbrev S4x32x1024 : Shape := ⟨3, ![4, 32, 1024]⟩
abbrev S4x4x1024 : Shape := ⟨3, ![4, 4, 1024]⟩
abbrev S1 : Shape := ⟨1, ![1]⟩
abbrev S4x16x1024 : Shape := ⟨3, ![4, 16, 1024]⟩
abbrev S4x64x1024 : Shape := ⟨3, ![4, 64, 1024]⟩
abbrev S4x32x1 : Shape := ⟨3, ![4, 32, 1]⟩
abbrev S2 : Shape := ⟨1, ![2]⟩
abbrev S4x1x1024 : Shape := ⟨3, ![4, 1, 1024]⟩
abbrev S1024x1024 : Shape := ⟨2, ![1024, 1024]⟩
abbrev S1x1x1x6144 : Shape := ⟨4, ![1, 1, 1, 6144]⟩
abbrev S1x1x1024 : Shape := ⟨3, ![1, 1, 1024]⟩
abbrev S1x64x1024 : Shape := ⟨3, ![1, 64, 1024]⟩
abbrev S1x32x1 : Shape := ⟨3, ![1, 32, 1]⟩
abbrev S1x4x1024x256 : Shape := ⟨4, ![1, 4, 1024, 256]⟩
abbrev S1x4x256x1024 : Shape := ⟨4, ![1, 4, 256, 1024]⟩
abbrev S1024x128 : Shape := ⟨2, ![1024, 128]⟩
abbrev S1x1024 : Shape := ⟨2, ![1, 1024]⟩
abbrev S1x1x1x1024 : Shape := ⟨4, ![1, 1, 1, 1024]⟩
abbrev S1024 : Shape := ⟨1, ![1024]⟩
abbrev S1024x1 : Shape := ⟨2, ![1024, 1]⟩
abbrev S64x1024 : Shape := ⟨2, ![64, 1024]⟩
abbrev S32x1024 : Shape := ⟨2, ![32, 1024]⟩
abbrev S1x32x1024 : Shape := ⟨3, ![1, 32, 1024]⟩
abbrev S32x1 : Shape := ⟨2, ![32, 1]⟩
abbrev S4x1 : Shape := ⟨2, ![4, 1]⟩
abbrev S16x1024 : Shape := ⟨2, ![16, 1024]⟩
abbrev S16x1 : Shape := ⟨2, ![16, 1]⟩
abbrev S112x1024 : Shape := ⟨2, ![112, 1024]⟩
abbrev S128x1024 : Shape := ⟨2, ![128, 1024]⟩
abbrev S1x128 : Shape := ⟨2, ![1, 128]⟩
abbrev S1x1x1024x256 : Shape := ⟨4, ![1, 1, 1024, 256]⟩
abbrev S1024x256 : Shape := ⟨2, ![1024, 256]⟩
abbrev S4x256x1024 : Shape := ⟨3, ![4, 256, 1024]⟩

abbrev nBuf : Space → Nat
  | .hbm => 45
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S4x8x6144, .f32⟩
  | .hbm, ⟨2, _⟩ => ⟨S4x1024, .f32⟩
  | .hbm, ⟨3, _⟩ => ⟨S4x1024x4, .f32⟩
  | .hbm, ⟨4, _⟩ => ⟨S4x4, .f32⟩
  | .hbm, ⟨5, _⟩ => ⟨S4x1024x16, .f32⟩
  | .hbm, ⟨6, _⟩ => ⟨S4x16, .f32⟩
  | .hbm, ⟨7, _⟩ => ⟨S4x16x1024x256, .f32⟩
  | .hbm, ⟨8, _⟩ => ⟨S4x16x1024x256, .f32⟩
  | .hbm, ⟨9, _⟩ => ⟨S4x16x256x1024, .f32⟩
  | .hbm, ⟨10, _⟩ => ⟨S4x8x1x6144, .f32⟩
  | .hbm, ⟨11, _⟩ => ⟨S4x16x1024x256, .bf16⟩
  | .hbm, ⟨12, _⟩ => ⟨S4x16x1024x256, .bf16⟩
  | .hbm, ⟨13, _⟩ => ⟨S4x16x256x1024, .bf16⟩
  | .hbm, ⟨14, _⟩ => ⟨S_, .f32⟩
  | .hbm, ⟨15, _⟩ => ⟨S4x32x1024, .f32⟩
  | .hbm, ⟨16, _⟩ => ⟨S4x4x1024, .f32⟩
  | .hbm, ⟨17, _⟩ => ⟨S_, .i32⟩
  | .hbm, ⟨18, _⟩ => ⟨S1, .i32⟩
  | .hbm, ⟨19, _⟩ => ⟨S4x32x1024, .f32⟩
  | .hbm, ⟨20, _⟩ => ⟨S4x16x1024, .f32⟩
  | .hbm, ⟨21, _⟩ => ⟨S_, .i32⟩
  | .hbm, ⟨22, _⟩ => ⟨S1, .i32⟩
  | .hbm, ⟨23, _⟩ => ⟨S4x32x1024, .f32⟩
  | .hbm, ⟨24, _⟩ => ⟨S4x32x1024, .bf16⟩
  | .hbm, ⟨25, _⟩ => ⟨S4x32x1024, .f32⟩
  | .hbm, ⟨26, _⟩ => ⟨S4x32x1024, .f32⟩
  | .hbm, ⟨27, _⟩ => ⟨S4x32x1024, .bf16⟩
  | .hbm, ⟨28, _⟩ => ⟨S4x64x1024, .bf16⟩
  | .hbm, ⟨29, _⟩ => ⟨S_, .f32⟩
  | .hbm, ⟨30, _⟩ => ⟨S4x32x1, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S4x32x1, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S4x32x1, .f32⟩
  | .hbm, ⟨43, _⟩ => ⟨S4x1x1024, .f32⟩
  | .hbm, ⟨44, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1x1024, .f32⟩
  | .local _ .vmem, ⟨5, _⟩ => ⟨S1x64x1024, .bf16⟩
  | .local _ .vmem, ⟨6, _⟩ => ⟨S1x32x1, .f32⟩
  | .local _ .vmem, ⟨7, _⟩ => ⟨S1x4x1024x256, .bf16⟩
  | .local _ .vmem, ⟨8, _⟩ => ⟨S1x4x1024x256, .bf16⟩
  | .local _ .vmem, ⟨9, _⟩ => ⟨S1x4x1024x256, .bf16⟩
  | .local _ .vmem, ⟨10, _⟩ => ⟨S1x4x1024x256, .bf16⟩
  | .local _ .vmem, ⟨11, _⟩ => ⟨S1x4x256x1024, .bf16⟩
  | .local _ .vmem, ⟨12, _⟩ => ⟨S1x4x256x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x128, .f32⟩
  | .local _ .vmem, ⟨17, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32_73 : BitVec 32 := 3#32
  let v128 : BitVec 1 := Scalar.cmpi .eq arg1 c3_i32_73
  let v129 : BitVec 32 := Scalar.extui v128
  let c0_i32_74 : BitVec 32 := 0#32
  let v130 : BitVec 1 := Scalar.cmpi .ne v129 c0_i32_74
  v130

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![c0_i32_7.toNat, v20.toNat, c0_i32_8.toNat, c0_i32_9.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16384x1024 : Shape := ⟨2, ![16384, 1024]⟩
abbrev S4x8x6144 : Shape := ⟨3, ![4, 8, 6144]⟩
abbrev S4x1024 : Shape := ⟨2, ![4, 1024]⟩
abbrev S4x1024x4 : Shape := ⟨3, ![4, 1024, 4]⟩
abbrev S4x4 : Shape := ⟨2, ![4, 4]⟩
abbrev S4x1024x16 : Shape := ⟨3, ![4, 1024, 16]⟩
abbrev S4x16 : Shape := ⟨2, ![4, 16]⟩
abbrev S4x16x1024x256 : Shape := ⟨4, ![4, 16, 1024, 256]⟩
abbrev S4x16x256x1024 : Shape := ⟨4, ![4, 16, 256, 1024]⟩
abbrev S1x1x6144 : Shape := ⟨3, ![1, 1, 6144]⟩
abbrev S6144 : Shape := ⟨1, ![6144]⟩
abbrev S8192x6144 : Shape := ⟨2, ![8192, 6144]⟩
abbrev S4096x6144 : Shape := ⟨2, ![4096, 6144]⟩
abbrev S16384x6144 : Shape := ⟨2, ![16384, 6144]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x16 : Shape := ⟨3, ![1, 1024, 16]⟩
abbrev S1024x16 : Shape := ⟨2, ![1024, 16]⟩
abbrev S1x16 : Shape := ⟨2, ![1, 16]⟩
abbrev S16 : Shape := ⟨1, ![16]⟩
abbrev S1x16x1024x256 : Shape := ⟨4, ![1, 16, 1024, 256]⟩
abbrev S16x1024x256 : Shape := ⟨3, ![16, 1024, 256]⟩
abbrev S1x16x256x1024 : Shape := ⟨4, ![1, 16, 256, 1024]⟩
abbrev S16x256x1024 : Shape := ⟨3, ![16, 256, 1024]⟩
abbrev S16384x4 : Shape := ⟨2, ![16384, 4]⟩
abbrev S16384x16 : Shape := ⟨2, ![16384, 16]⟩
abbrev S16384x4x4 : Shape := ⟨3, ![16384, 4, 4]⟩
abbrev S16384x4x1 : Shape := ⟨3, ![16384, 4, 1]⟩
abbrev S16384x2 : Shape := ⟨2, ![16384, 2]⟩
abbrev S16384x2x1 : Shape := ⟨3, ![16384, 2, 1]⟩
abbrev S1x1x16 : Shape := ⟨3, ![1, 1, 16]⟩
abbrev S16384x2x16 : Shape := ⟨3, ![16384, 2, 16]⟩
abbrev S16384x16x256 : Shape := ⟨3, ![16384, 16, 256]⟩
abbrev S16384x16x1 : Shape := ⟨3, ![16384, 16, 1]⟩

abbrev nBuf : Space → Nat
  | .hbm => 156
  | .vmem => 0
  | .smem => 0
  | _ => 0

abbrev hbmTy0_0 (i : Nat) : BufTy := match i % 128 with
  | 0 => ⟨S16384x1024, .f32⟩
  | 1 => ⟨S4x8x6144, .f32⟩
  | 2 => ⟨S4x1024, .f32⟩
  | 3 => ⟨S4x1024x4, .f32⟩
  | 4 => ⟨S4x4, .f32⟩
  | 5 => ⟨S4x1024x16, .f32⟩
  | 6 => ⟨S4x16, .f32⟩
  | 7 => ⟨S4x16x1024x256, .f32⟩
  | 8 => ⟨S4x16x1024x256, .f32⟩
  | 9 => ⟨S4x16x256x1024, .f32⟩
  | 10 => ⟨S1x1x6144, .f32⟩
  | 11 => ⟨S6144, .f32⟩
  | 12 => ⟨S8192x6144, .f32⟩
  | 13 => ⟨S1x1x6144, .f32⟩
  | 14 => ⟨S6144, .f32⟩
  | 15 => ⟨S4096x6144, .f32⟩
  | 16 => ⟨S1x1x6144, .f32⟩
  | 17 => ⟨S6144, .f32⟩
  | 18 => ⟨S4096x6144, .f32⟩
  | 19 => ⟨S16384x6144, .f32⟩
  | 20 => ⟨S16384x1024, .f32⟩
  | 21 => ⟨S16384x1024, .f32⟩
  | 22 => ⟨S16384x1024, .f32⟩
  | 23 => ⟨S16384x1024, .f32⟩
  | 24 => ⟨S16384x1024, .f32⟩
  | 25 => ⟨S16384x1024, .f32⟩
  | 26 => ⟨S1x1024, .f32⟩
  | 27 => ⟨S1024, .f32⟩
  | 28 => ⟨S16384x1024, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S_, .f32⟩
  | 36 => ⟨S16384x1, .f32⟩
  | 37 => ⟨S16384x1, .f32⟩
  | 38 => ⟨S16384x1, .f32⟩
  | 39 => ⟨S16384x1024, .f32⟩
  | 40 => ⟨S16384x1024, .f32⟩
  | 41 => ⟨S1x1024, .f32⟩
  | 42 => ⟨S16384x1024, .f32⟩
  | 43 => ⟨S16384x1024, .f32⟩
  | 44 => ⟨S_, .f32⟩
  | 45 => ⟨S16384x1024, .f32⟩
  | 46 => ⟨S16384x1024, .f32⟩
  | 47 => ⟨S16384x1024, .f32⟩
  | 48 => ⟨S16384x1024, .f32⟩
  | 49 => ⟨S1x1024x4, .f32⟩
  | 50 => ⟨S1024x4, .f32⟩
  | 51 => ⟨S1x4, .f32⟩
  | 52 => ⟨S4, .f32⟩
  | 53 => ⟨S1x1024x16, .f32⟩
  | 54 => ⟨S1024x16, .f32⟩
  | 55 => ⟨S1x16, .f32⟩
  | 56 => ⟨S16, .f32⟩
  | 57 => ⟨S1x16x1024x256, .f32⟩
  | 58 => ⟨S16x1024x256, .f32⟩
  | 59 => ⟨S1x16x1024x256, .f32⟩
  | 60 => ⟨S16x1024x256, .f32⟩
  | 61 => ⟨S1x16x256x1024, .f32⟩
  | 62 => ⟨S16x256x1024, .f32⟩
  | 63 => ⟨S16384x4, .f32⟩
  | 64 => ⟨S1x4, .f32⟩
  | 65 => ⟨S16384x4, .f32⟩
  | 66 => ⟨S16384x4, .f32⟩
  | 67 => ⟨S_, .f32⟩
  | 68 => ⟨S16384, .f32⟩
  | 69 => ⟨S_, .f32⟩
  | 70 => ⟨S16384, .f32⟩
  | 71 => ⟨S16384, .f32⟩
  | 72 => ⟨S16384x1, .f32⟩
  | 73 => ⟨S16384x4, .f32⟩
  | 74 => ⟨S16384x4, .f32⟩
  | 75 => ⟨S16384x4, .f32⟩
  | 76 => ⟨S_, .f32⟩
  | 77 => ⟨S16384, .f32⟩
  | 78 => ⟨S16384x1, .f32⟩
  | 79 => ⟨S16384x4, .f32⟩
  | 80 => ⟨S16384x4, .f32⟩
  | 81 => ⟨S16384x1, .f32⟩
  | 82 => ⟨S16384x1, .i32⟩
  | 83 => ⟨S16384, .i32⟩
  | 84 => ⟨S16384x1, .i32⟩
  | 85 => ⟨S1x4, .i32⟩
  | 86 => ⟨S16384x4, .i32⟩
  | 87 => ⟨S16384x4, .i32⟩
  | 88 => ⟨S16384x4, .i1⟩
  | 89 => ⟨S16384x4, .f32⟩
  | 90 => ⟨S16384x16, .f32⟩
  | 91 => ⟨S1x16, .f32⟩
  | 92 => ⟨S16384x16, .f32⟩
  | 93 => ⟨S16384x16, .f32⟩
  | 94 => ⟨S16384x4x4, .f32⟩
  | 95 => ⟨S16384x4x1, .f32⟩
  | 96 => ⟨S16384x4x4, .f32⟩
  | 97 => ⟨S16384x4x4, .f32⟩
  | 98 => ⟨S_, .f32⟩
  | 99 => ⟨S16384x4, .f32⟩
  | 100 => ⟨S16384x2, .f32⟩
  | 101 => ⟨S16384x2, .i32⟩
  | 102 => ⟨S_, .f32⟩
  | 103 => ⟨S16384, .f32⟩
  | 104 => ⟨S_, .f32⟩
  | 105 => ⟨S16384, .f32⟩
  | 106 => ⟨S16384, .f32⟩
  | 107 => ⟨S16384x1, .f32⟩
  | 108 => ⟨S16384x2, .f32⟩
  | 109 => ⟨S16384x2, .f32⟩
  | 110 => ⟨S16384x2, .f32⟩
  | 111 => ⟨S_, .f32⟩
  | 112 => ⟨S16384, .f32⟩
  | 113 => ⟨S16384x1, .f32⟩
  | 114 => ⟨S16384x2, .f32⟩
  | 115 => ⟨S16384x2, .f32⟩
  | 116 => ⟨S_, .f32⟩
  | 117 => ⟨S16384, .f32⟩
  | 118 => ⟨S16384x1, .f32⟩
  | 119 => ⟨S16384x2, .f32⟩
  | 120 => ⟨S16384x2, .f32⟩
  | 121 => ⟨S16384x1, .i32⟩
  | 122 => ⟨S_, .i32⟩
  | 123 => ⟨S16384x1, .i32⟩
  | 124 => ⟨S16384x1, .i32⟩
  | 125 => ⟨S16384x2, .i32⟩
  | 126 => ⟨S16384x2, .i32⟩
  | 127 => ⟨S16384x2x1, .i32⟩
  | _ => ⟨S16384x1024, .f32⟩

abbrev hbmTy0_1 (i : Nat) : BufTy := match i % 128 with
  | 0 => ⟨S1x1x16, .i32⟩
  | 1 => ⟨S16384x2x16, .i32⟩
  | 2 => ⟨S16384x2x16, .i32⟩
  | 3 => ⟨S16384x2x16, .i1⟩
  | 4 => ⟨S16384x2x16, .f32⟩
  | 5 => ⟨S16384x2x1, .f32⟩
  | 6 => ⟨S16384x2x16, .f32⟩
  | 7 => ⟨S16384x2x16, .f32⟩
  | 8 => ⟨S_, .f32⟩
  | 9 => ⟨S16384x16, .f32⟩
  | 10 => ⟨S16384x16x256, .f32⟩
  | 11 => ⟨S16384x16x256, .f32⟩
  | 12 => ⟨S16384x16x256, .f32⟩
  | 13 => ⟨S_, .f32⟩
  | 14 => ⟨S16384x16x256, .f32⟩
  | 15 => ⟨S16384x16x256, .f32⟩
  | 16 => ⟨S_, .f32⟩
  | 17 => ⟨S16384x16x256, .f32⟩
  | 18 => ⟨S16384x16x256, .f32⟩
  | 19 => ⟨S16384x16x256, .f32⟩
  | 20 => ⟨S16384x16x256, .f32⟩
  | 21 => ⟨S16384x16x256, .f32⟩
  | 22 => ⟨S16384x16x1, .f32⟩
  | 23 => ⟨S16384x16x256, .f32⟩
  | 24 => ⟨S16384x16x256, .f32⟩
  | 25 => ⟨S16384x1024, .f32⟩
  | 26 => ⟨S16384x1024, .f32⟩
  | 27 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_3 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_values : Ref sig .tc := ⟨.hbm, 81, rfl⟩
abbrev main_indices : Ref sig .tc := ⟨.hbm, 82, rfl⟩
abbrev main_v64 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_6 : Ref sig .tc := ⟨.hbm, 98, rfl⟩
abbrev main_v74 : Ref sig .tc := ⟨.hbm, 99, rfl⟩
abbrev main_values_7 : Ref sig .tc := ⟨.hbm, 100, rfl⟩
abbrev main_indices_8 : Ref sig .tc := ⟨.hbm, 101, rfl⟩
abbrev main_cst_9 : Ref sig .tc := ⟨.hbm, 102, rfl⟩
abbrev main_v75 : Ref sig .tc := ⟨.hbm, 103, rfl⟩
abbrev main_cst_10 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_11 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_12 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_13 : Ref sig .tc := ⟨.hbm, 136, rfl⟩
abbrev main_v99 : Ref sig .tc := ⟨.hbm, 137, rfl⟩
abbrev main_v100 : Ref sig .tc := ⟨.hbm, 138, rfl⟩
abbrev main_call2_v0 : Ref sig .tc := ⟨.hbm, 139, rfl⟩
abbrev main_call2_v1 : Ref sig .tc := ⟨.hbm, 140, rfl⟩
abbrev main_call2_cst : Ref sig .tc := ⟨.hbm, 141, rfl⟩
abbrev main_call2_v2 : Ref sig .tc := ⟨.hbm, 142, rfl⟩
abbrev main_call2_v3 : Ref sig .tc := ⟨.hbm, 143, rfl⟩
abbrev main_call2_cst_0 : Ref sig .tc := ⟨.hbm, 144, rfl⟩
abbrev main_call2_v4 : Ref sig .tc := ⟨.hbm, 145, rfl⟩
abbrev main_call2_v5 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩

abbrev nD : Nat := 1
abbrev τ : Topo := Topo.v7x

variable {F : FTy → Type} [FloatOps F]
-- ==== Kernel2.lean ====
abbrev S16384x1024 : Shape := ⟨2, ![16384, 1024]⟩
abbrev S4x8x6144 : Shape := ⟨3, ![4, 8, 6144]⟩
abbrev S4x1024 : Shape := ⟨2, ![4, 1024]⟩
abbrev S4x8192x64 : Shape := ⟨3, ![4, 8192, 64]⟩
abbrev S16384x256 : Shape := ⟨2, ![16384, 256]⟩
abbrev S4x64 : Shape := ⟨2, ![4, 64]⟩
abbrev S8192x256 : Shape := ⟨2, ![8192, 256]⟩
abbrev S4x1024x6928 : Shape := ⟨3, ![4, 1024, 6928]⟩
abbrev S4x4x256x1024 : Shape := ⟨4, ![4, 4, 256, 1024]⟩
abbrev S4x1024x1024 : Shape := ⟨3, ![4, 1024, 1024]⟩
abbrev S256 : Shape := ⟨1, ![256]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S4x1024x4096 : Shape := ⟨3, ![4, 1024, 4096]⟩
abbrev S4x3x256x1024 : Shape := ⟨4, ![4, 3, 256, 1024]⟩
abbrev S4x1x256x1024 : Shape := ⟨4, ![4, 1, 256, 1024]⟩
abbrev S4x256x1024 : Shape := ⟨3, ![4, 256, 1024]⟩
abbrev S256x1 : Shape := ⟨2, ![256, 1]⟩
abbrev S1 : Shape := ⟨1, ![1]⟩
abbrev S1x1 : Shape := ⟨2, ![1, 1]⟩
abbrev S1x4x1x64 : Shape := ⟨4, ![1, 4, 1, 64]⟩
abbrev S1x4x4x64 : Shape := ⟨4, ![1, 4, 4, 64]⟩
abbrev S4x256 : Shape := ⟨2, ![4, 256]⟩
abbrev S4x1x256 : Shape := ⟨3, ![4, 1, 256]⟩
abbrev S4x8x1x6144 : Shape := ⟨4, ![4, 8, 1, 6144]⟩
abbrev S4x1x1024 : Shape := ⟨3, ![4, 1, 1024]⟩
abbrev S512x1024 : Shape := ⟨2, ![512, 1024]⟩
abbrev S1x1x1x6144 : Shape := ⟨4, ![1, 1, 1, 6144]⟩
abbrev S1x1x1024 : Shape := ⟨3, ![1, 1, 1024]⟩
abbrev S4x512x64 : Shape := ⟨3, ![4, 512, 64]⟩
abbrev S512x256 : Shape := ⟨2, ![512, 256]⟩
abbrev S1x1x256 : Shape := ⟨3, ![1, 1, 256]⟩
abbrev S1x1024x4096 : Shape := ⟨3, ![1, 1024, 4096]⟩
abbrev S1x4x256x1024 : Shape := ⟨4, ![1, 4, 256, 1024]⟩
abbrev S1x1024x1024 : Shape := ⟨3, ![1, 1024, 1024]⟩
abbrev S1x1024 : Shape := ⟨2, ![1, 1024]⟩
abbrev S1x1x1x1024 : Shape := ⟨4, ![1, 1, 1, 1024]⟩
abbrev S512 : Shape := ⟨1, ![512]⟩
abbrev S512x1 : Shape := ⟨2, ![512, 1]⟩
abbrev S1x512x64 : Shape := ⟨3, ![1, 512, 64]⟩
abbrev S512x64 : Shape := ⟨2, ![512, 64]⟩
abbrev S512x128 : Shape := ⟨2, ![512, 128]⟩
abbrev S1x1x128 : Shape := ⟨3, ![1, 1, 128]⟩
abbrev S1024x1024 : Shape := ⟨2, ![1024, 1024]⟩
abbrev S1x1x128x1024 : Shape := ⟨4, ![1, 1, 128, 1024]⟩
abbrev S128x1024 : Shape := ⟨2, ![128, 1024]⟩
abbrev S1x1x256x1024 : Shape := ⟨4, ![1, 1, 256, 1024]⟩
abbrev S256x1024 : Shape := ⟨2, ![256, 1024]⟩

abbrev nBuf : Space → Nat
  | .hbm => 103
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S4x8x6144, .f32⟩
  | .hbm, ⟨2, _⟩ => ⟨S4x1024, .f32⟩
  | .hbm, ⟨3, _⟩ => ⟨S4x8192x64, .f32⟩
  | .hbm, ⟨4, _⟩ => ⟨S4x8192x64, .f32⟩
  | .hbm, ⟨5, _⟩ => ⟨S16384x256, .f32⟩
  | .hbm, ⟨6, _⟩ => ⟨S4x64, .f32⟩
  | .hbm, ⟨7, _⟩ => ⟨S8192x256, .bf16⟩
  | .hbm, ⟨8, _⟩ => ⟨S8192x256, .bf16⟩
  | .hbm, ⟨9, _⟩ => ⟨S16384x256, .bf16⟩
  | .hbm, ⟨10, _⟩ => ⟨S8192x256, .bf16⟩
  | .hbm, ⟨11, _⟩ => ⟨S8192x256, .bf16⟩
  | .hbm, ⟨12, _⟩ => ⟨S4x1024x6928, .f32⟩
  | .hbm, ⟨13, _⟩ => ⟨S4x4x256x1024, .f32⟩
  | .hbm, ⟨14, _⟩ => ⟨S4x1024x1024, .f32⟩
  | .hbm, ⟨15, _⟩ => ⟨S256, .i32⟩
  | .hbm, ⟨16, _⟩ => ⟨S128, .i32⟩
  | .hbm, ⟨17, _⟩ => ⟨S128x1, .i32⟩
  | .hbm, ⟨18, _⟩ => ⟨S_, .i32⟩
  | .hbm, ⟨19, _⟩ => ⟨S_, .i32⟩
  | .hbm, ⟨20, _⟩ => ⟨S128x1, .i32⟩
  | .hbm, ⟨21, _⟩ => ⟨S128x1, .i32⟩
  | .hbm, ⟨22, _⟩ => ⟨S128x1, .i32⟩
  | .hbm, ⟨23, _⟩ => ⟨S_, .i32⟩
  | .hbm, ⟨24, _⟩ => ⟨S128x1, .i32⟩
  | .hbm, ⟨25, _⟩ => ⟨S128x1, .i1⟩
  | .hbm, ⟨26, _⟩ => ⟨S128x1, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i1⟩
  | .hbm, ⟨31, _⟩ => ⟨S128x1, .i1⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x1, .i32⟩
  | .hbm, ⟨36, _⟩ => ⟨S1x128, .i32⟩
  | .hbm, ⟨37, _⟩ => ⟨S_, .i32⟩
  | .hbm, ⟨38, _⟩ => ⟨S_, .i32⟩
  | .hbm, ⟨39, _⟩ => ⟨S1x128, .i32⟩
  | .hbm, ⟨40, _⟩ => ⟨S1x128, .i32⟩
  | .hbm, ⟨41, _⟩ => ⟨S1x128, .i32⟩
  | .hbm, ⟨42, _⟩ => ⟨S_, .i32⟩
  | .hbm, ⟨43, _⟩ => ⟨S1x128, .i32⟩
  | .hbm, ⟨44, _⟩ => ⟨S1x128, .i1⟩
  | .hbm, ⟨45, _⟩ => ⟨S1x128, .i32⟩
  | .hbm, ⟨46, _⟩ => ⟨S1x128, .i32⟩
  | .hbm, ⟨47, _⟩ => ⟨S_, .i32⟩
  | .hbm, ⟨48, _⟩ => ⟨S1x128, .i32⟩
  | .hbm, ⟨49, _⟩ => ⟨S1x128, .i1⟩
  | .hbm, ⟨50, _⟩ => ⟨S1x128, .i1⟩
  | .hbm, ⟨51, _⟩ => ⟨S_, .i32⟩
  | .hbm, ⟨52, _⟩ => ⟨S1x128, .i32⟩
  | .hbm, ⟨53, _⟩ => ⟨S1x128, .i32⟩
  | .hbm, ⟨54, _⟩ => ⟨S1x128, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S_, .f32⟩
  | .hbm, ⟨59, _⟩ => ⟨S_, .f32⟩
  | .hbm, ⟨60, _⟩ => ⟨S128x128, .f32⟩
  | .hbm, ⟨61, _⟩ => ⟨S128x128, .f32⟩
  | .hbm, ⟨62, _⟩ => ⟨S128x128, .f32⟩
  | .hbm, ⟨63, _⟩ => ⟨S128x128, .bf16⟩
  | .hbm, ⟨64, _⟩ => ⟨S4x1024x4096, .f32⟩
  | .hbm, ⟨65, _⟩ => ⟨S4x1024x4096, .bf16⟩
  | .hbm, ⟨66, _⟩ => ⟨S4x3x256x1024, .f32⟩
  | .hbm, ⟨67, _⟩ => ⟨S4x1x256x1024, .f32⟩
  | .hbm, ⟨68, _⟩ => ⟨S4x256x1024, .f32⟩
  | .hbm, ⟨69, _⟩ => ⟨S_, .i32⟩
  | .hbm, ⟨70, _⟩ => ⟨S256, .i32⟩
  | .hbm, ⟨71, _⟩ => ⟨S256, .i1⟩
  | .hbm, ⟨72, _⟩ => ⟨S_, .i32⟩
  | .hbm, ⟨73, _⟩ => ⟨S256, .i32⟩
  | .hbm, ⟨74, _⟩ => ⟨S256, .i32⟩
  | .hbm, ⟨75, _⟩ => ⟨S256, .i32⟩
  | .hbm, ⟨76, _⟩ => ⟨S256x1, .i32⟩
  | .hbm, ⟨77, _⟩ => ⟨S1, .i32⟩
  | .hbm, ⟨78, _⟩ => ⟨S_, .i32⟩
  | .hbm, ⟨79, _⟩ => ⟨S256x1, .i32⟩
  | .hbm, ⟨80, _⟩ => ⟨S256x1, .i1⟩
  | .hbm, ⟨81, _⟩ => ⟨S1x1, .i32⟩
  | .hbm, ⟨82, _⟩ => ⟨S256x1, .i32⟩
  | .hbm, ⟨83, _⟩ => ⟨S256x1, .i1⟩
  | .hbm, ⟨84, _⟩ => ⟨S256x1, .i1⟩
  | .hbm, ⟨85, _⟩ => ⟨S_, .i1⟩
  | .hbm, ⟨86, _⟩ => ⟨S256, .i1⟩
  | .hbm, ⟨87, _⟩ => ⟨S4x256x1024, .f32⟩
  | .hbm, ⟨88, _⟩ => ⟨S4x256x1024, .i1⟩
  | .hbm, ⟨89, _⟩ => ⟨S_, .f32⟩
  | .hbm, ⟨90, _⟩ => ⟨S4x256x1024, .f32⟩
  | .hbm, ⟨91, _⟩ => ⟨S4x256x1024, .f32⟩
  | .hbm, ⟨92, _⟩ => ⟨S4x1x256x1024, .f32⟩
  | .hbm, ⟨93, _⟩ => ⟨S4x4x256x1024, .f32⟩
  | .hbm, ⟨94, _⟩ => ⟨S4x4x256x1024, .bf16⟩
  | .hbm, ⟨95, _⟩ => ⟨S4x1024x1024, .bf16⟩
  | .hbm, ⟨96, _⟩ => ⟨S1x4x1x64, .f32⟩
  | .hbm, ⟨97, _⟩ => ⟨S1x4x4x64, .f32⟩
  | .hbm, ⟨98, _⟩ => ⟨S4x256, .f32⟩
  | .hbm, ⟨99, _⟩ => ⟨S4x1x256, .f32⟩
  | .hbm, ⟨100, _⟩ => ⟨S4x8x1x6144, .f32⟩
  | .hbm, ⟨101, _⟩ => ⟨S4x1x1024, .f32⟩
  | .hbm, ⟨102, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1x1024, .f32⟩
  | .local _ .vmem, ⟨5, _⟩ => ⟨S4x512x64, .f32⟩
  | .local _ .vmem, ⟨6, _⟩ => ⟨S4x512x64, .f32⟩
  | .local _ .vmem, ⟨7, _⟩ => ⟨S4x512x64, .f32⟩
  | .local _ .vmem, ⟨8, _⟩ => ⟨S4x512x64, .f32⟩
  | .local _ .vmem, ⟨9, _⟩ => ⟨S512x256, .f32⟩
  | .local _ .vmem, ⟨10, _⟩ => ⟨S512x256, .f32⟩
  | .local _ .vmem, ⟨11, _⟩ => ⟨S1x1x256, .f32⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S1x1024x4096, .bf16⟩
  | .local _ .vmem, ⟨23, _⟩ => ⟨S1x4x256x1024, .bf16⟩
  | .local _ .vmem, ⟨24, _⟩ => ⟨S1x1024x1024, .bf16⟩
  | .local _ .vmem, ⟨25, _⟩ => ⟨S128x128, .bf16⟩
  | .local _ .vmem, ⟨26, _⟩ => ⟨S512x1024, .f32⟩
  | .local _ .vmem, ⟨27, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v2 : Ref sig .tc := ⟨.hbm, 35, rfl⟩
abbrev main_v3 : Ref sig .tc := ⟨.hbm, 36, rfl⟩
abbrev main_c_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_cst : Ref sig .tc := ⟨.hbm, 58, rfl⟩
abbrev main_cst_2 : Ref sig .tc := ⟨.hbm, 59, rfl⟩
abbrev main_call2_v0 : Ref sig .tc := ⟨.hbm, 60, rfl⟩
abbrev main_call2_v1 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_c_2 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_3 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_call3_cst : Ref sig .tc := ⟨.hbm, 89, rfl⟩
abbrev main_call3_v15 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![c0_i32_7.toNat, v20.toNat, c0_i32_8.toNat, c0_i32_9.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x4x256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S16384x1024 : Shape := ⟨2, ![16384, 1024]⟩
abbrev S4x8x6144 : Shape := ⟨3, ![4, 8, 6144]⟩
abbrev S4x1024 : Shape := ⟨2, ![4, 1024]⟩
abbrev S4x8192x64 : Shape := ⟨3, ![4, 8192, 64]⟩
abbrev S16384x256 : Shape := ⟨2, ![16384, 256]⟩
abbrev S4x64 : Shape := ⟨2, ![4, 64]⟩
abbrev S8192x256 : Shape := ⟨2, ![8192, 256]⟩
abbrev S4x1024x6928 : Shape := ⟨3, ![4, 1024, 6928]⟩
abbrev S4x4x256x1024 : Shape := ⟨4, ![4, 4, 256, 1024]⟩
abbrev S4x1024x1024 : Shape := ⟨3, ![4, 1024, 1024]⟩
abbrev S1x1x6144 : Shape := ⟨3, ![1, 1, 6144]⟩
abbrev S6144 : Shape := ⟨1, ![6144]⟩
abbrev S8192x6144 : Shape := ⟨2, ![8192, 6144]⟩
abbrev S4096x6144 : Shape := ⟨2, ![4096, 6144]⟩
abbrev S16384x6144 : Shape := ⟨2, ![16384, 6144]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S16384x4096 : Shape := ⟨2, ![16384, 4096]⟩
abbrev S4x16384x64 : Shape := ⟨3, ![4, 16384, 64]⟩
abbrev S16384x4x64 : Shape := ⟨3, ![16384, 4, 64]⟩
abbrev S1x64 : Shape := ⟨2, ![1, 64]⟩
abbrev S64 : Shape := ⟨1, ![64]⟩
abbrev S16384x4 : Shape := ⟨2, ![16384, 4]⟩
abbrev S16384x4x1 : Shape := ⟨3, ![16384, 4, 1]⟩
abbrev S1x1x64 : Shape := ⟨3, ![1, 1, 64]⟩
abbrev S16384x2x2x64 : Shape := ⟨4, ![16384, 2, 2, 64]⟩
abbrev S16384x1x256 : Shape := ⟨3, ![16384, 1, 256]⟩
abbrev S16384x4x256 : Shape := ⟨3, ![16384, 4, 256]⟩
abbrev S1x4x256x1024 : Shape := ⟨4, ![1, 4, 256, 1024]⟩
abbrev S4x256x1024 : Shape := ⟨3, ![4, 256, 1024]⟩
abbrev S4x1024x16384 : Shape := ⟨3, ![4, 1024, 16384]⟩
abbrev S16384x4x1024 : Shape := ⟨3, ![16384, 4, 1024]⟩
abbrev S1x1024x1024 : Shape := ⟨3, ![1, 1024, 1024]⟩
abbrev S1024x1024 : Shape := ⟨2, ![1024, 1024]⟩

abbrev nBuf : Space → Nat
  | .hbm => 123
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x8x6144, .f32⟩
  | .hbm, ⟨2, _⟩ => ⟨S4x1024, .f32⟩
  | .hbm, ⟨3, _⟩ => ⟨S4x8192x64, .f32⟩
  | .hbm, ⟨4, _⟩ => ⟨S4x8192x64, .f32⟩
  | .hbm, ⟨5, _⟩ => ⟨S16384x256, .f32⟩
  | .hbm, ⟨6, _⟩ => ⟨S4x64, .f32⟩
  | .hbm, ⟨7, _⟩ => ⟨S8192x256, .bf16⟩
  | .hbm, ⟨8, _⟩ => ⟨S8192x256, .bf16⟩
  | .hbm, ⟨9, _⟩ => ⟨S16384x256, .bf16⟩
  | .hbm, ⟨10, _⟩ => ⟨S8192x256, .bf16⟩
  | .hbm, ⟨11, _⟩ => ⟨S8192x256, .bf16⟩
  | .hbm, ⟨12, _⟩ => ⟨S4x1024x6928, .f32⟩
  | .hbm, ⟨13, _⟩ => ⟨S4x4x256x1024, .f32⟩
  | .hbm, ⟨14, _⟩ => ⟨S4x1024x1024, .f32⟩
  | .hbm, ⟨15, _⟩ => ⟨S1x1x6144, .f32⟩
  | .hbm, ⟨16, _⟩ => ⟨S6144, .f32⟩
  | .hbm, ⟨17, _⟩ => ⟨S8192x6144, .f32⟩
  | .hbm, ⟨18, _⟩ => ⟨S1x1x6144, .f32⟩
  | .hbm, ⟨19, _⟩ => ⟨S6144, .f32⟩
  | .hbm, ⟨20, _⟩ => ⟨S4096x6144, .f32⟩
  | .hbm, ⟨21, _⟩ => ⟨S1x1x6144, .f32⟩
  | .hbm, ⟨22, _⟩ => ⟨S6144, .f32⟩
  | .hbm, ⟨23, _⟩ => ⟨S4096x6144, .f32⟩
  | .hbm, ⟨24, _⟩ => ⟨S16384x6144, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024x4096, .f32⟩
  | .hbm, ⟨55, _⟩ => ⟨S1024x4096, .f32⟩
  | .hbm, ⟨56, _⟩ => ⟨S16384x4096, .f32⟩
  | .hbm, ⟨57, _⟩ => ⟨S4x16384x64, .f32⟩
  | .hbm, ⟨58, _⟩ => ⟨S16384x4x64, .f32⟩
  | .hbm, ⟨59, _⟩ => ⟨S1x64, .f32⟩
  | .hbm, ⟨60, _⟩ => ⟨S64, .f32⟩
  | .hbm, ⟨61, _⟩ => ⟨S16384x4x64, .f32⟩
  | .hbm, ⟨62, _⟩ => ⟨S_, .f32⟩
  | .hbm, ⟨63, _⟩ => ⟨S16384x4, .f32⟩
  | .hbm, ⟨64, _⟩ => ⟨S16384x4x1, .f32⟩
  | .hbm, ⟨65, _⟩ => ⟨S_, .f32⟩
  | .hbm, ⟨66, _⟩ => ⟨S16384x4x1, .f32⟩
  | .hbm, ⟨67, _⟩ => ⟨S16384x4x1, .f32⟩
  | .hbm, ⟨68, _⟩ => ⟨S_, .f32⟩
  | .hbm, ⟨69, _⟩ => ⟨S16384x4x1, .f32⟩
  | .hbm, ⟨70, _⟩ => ⟨S16384x4x1, .f32⟩
  | .hbm, ⟨71, _⟩ => ⟨S16384x4x1, .f32⟩
  | .hbm, ⟨72, _⟩ => ⟨S16384x4x64, .f32⟩
  | .hbm, ⟨73, _⟩ => ⟨S16384x4x64, .f32⟩
  | .hbm, ⟨74, _⟩ => ⟨S1x1x64, .f32⟩
  | .hbm, ⟨75, _⟩ => ⟨S16384x4x64, .f32⟩
  | .hbm, ⟨76, _⟩ => ⟨S16384x4x64, .f32⟩
  | .hbm, ⟨77, _⟩ => ⟨S16384x4x64, .f32⟩
  | .hbm, ⟨78, _⟩ => ⟨S16384x4x64, .f32⟩
  | .hbm, ⟨79, _⟩ => ⟨S16384x4x64, .f32⟩
  | .hbm, ⟨80, _⟩ => ⟨S_, .f32⟩
  | .hbm, ⟨81, _⟩ => ⟨S16384x4x64, .f32⟩
  | .hbm, ⟨82, _⟩ => ⟨S16384x4x64, .f32⟩
  | .hbm, ⟨83, _⟩ => ⟨S_, .f32⟩
  | .hbm, ⟨84, _⟩ => ⟨S16384x4x64, .f32⟩
  | .hbm, ⟨85, _⟩ => ⟨S16384x4x64, .f32⟩
  | .hbm, ⟨86, _⟩ => ⟨S16384x4x64, .f32⟩
  | .hbm, ⟨87, _⟩ => ⟨S16384x4x64, .f32⟩
  | .hbm, ⟨88, _⟩ => ⟨S16384x256, .bf16⟩
  | .hbm, ⟨89, _⟩ => ⟨S16384x256, .f32⟩
  | .hbm, ⟨90, _⟩ => ⟨S16384x256, .bf16⟩
  | .hbm, ⟨91, _⟩ => ⟨S16384x256, .f32⟩
  | .hbm, ⟨92, _⟩ => ⟨S16384x2x2x64, .f32⟩
  | .hbm, ⟨93, _⟩ => ⟨S16384x2x2x64, .f32⟩
  | .hbm, ⟨94, _⟩ => ⟨S16384x256, .f32⟩
  | .hbm, ⟨95, _⟩ => ⟨S16384x256, .f32⟩
  | .hbm, ⟨96, _⟩ => ⟨S16384x256, .f32⟩
  | .hbm, ⟨97, _⟩ => ⟨S16384x1x256, .f32⟩
  | .hbm, ⟨98, _⟩ => ⟨S16384x1x256, .f32⟩
  | .hbm, ⟨99, _⟩ => ⟨S16384x1x256, .f32⟩
  | .hbm, ⟨100, _⟩ => ⟨S16384x1x256, .f32⟩
  | .hbm, ⟨101, _⟩ => ⟨S16384x4x256, .f32⟩
  | .hbm, ⟨102, _⟩ => ⟨S1x4x256x1024, .f32⟩
  | .hbm, ⟨103, _⟩ => ⟨S4x256x1024, .f32⟩
  | .hbm, ⟨104, _⟩ => ⟨S4x1024x16384, .f32⟩
  | .hbm, ⟨105, _⟩ => ⟨S16384x4x1024, .f32⟩
  | .hbm, ⟨106, _⟩ => ⟨S16384x4x1024, .f32⟩
  | .hbm, ⟨107, _⟩ => ⟨S16384x4x1024, .f32⟩
  | .hbm, ⟨108, _⟩ => ⟨S16384x4x1024, .f32⟩
  | .hbm, ⟨109, _⟩ => ⟨S_, .f32⟩
  | .hbm, ⟨110, _⟩ => ⟨S16384x4x1024, .f32⟩
  | .hbm, ⟨111, _⟩ => ⟨S16384x4x1024, .f32⟩
  | .hbm, ⟨112, _⟩ => ⟨S_, .f32⟩
  | .hbm, ⟨113, _⟩ => ⟨S16384x4x1024, .f32⟩
  | .hbm, ⟨114, _⟩ => ⟨S16384x4x1024, .f32⟩
  | .hbm, ⟨115, _⟩ => ⟨S16384x4x1024, .f32⟩
  | .hbm, ⟨116, _⟩ => ⟨S_, .f32⟩
  | .hbm, ⟨117, _⟩ => ⟨S16384x1024, .f32⟩
  | .hbm, ⟨118, _⟩ => ⟨S1x1024x1024, .f32⟩
  | .hbm, ⟨119, _⟩ => ⟨S1024x1024, .f32⟩
  | .hbm, ⟨120, _⟩ => ⟨S16384x1024, .f32⟩
  | .hbm, ⟨121, _⟩ => ⟨S16384x1024, .f32⟩
  | .hbm, ⟨122, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_6 : Ref sig .tc := ⟨.hbm, 109, rfl⟩
abbrev main_v79 : Ref sig .tc := ⟨.hbm, 110, rfl⟩
abbrev main_v80 : Ref sig .tc := ⟨.hbm, 111, rfl⟩
abbrev main_cst_7 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_8 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]
-- ==== Kernel3.lean ====
abbrev S16384x1024 : Shape := ⟨2, ![16384, 1024]⟩
abbrev S4x8x6144 : Shape := ⟨3, ![4, 8, 6144]⟩
abbrev S4x1024 : Shape := ⟨2, ![4, 1024]⟩
abbrev S4x1024x6928 : Shape := ⟨3, ![4, 1024, 6928]⟩
abbrev S4x256 : Shape := ⟨2, ![4, 256]⟩
abbrev S4x4x128x128 : Shape := ⟨4, ![4, 4, 128, 128]⟩
abbrev S4x4x128 : Shape := ⟨3, ![4, 4, 128]⟩
abbrev S4x64 : Shape := ⟨2, ![4, 64]⟩
abbrev S16 : Shape := ⟨1, ![16]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S4096 : Shape := ⟨1, ![4096]⟩
abbrev S4096x1 : Shape := ⟨2, ![4096, 1]⟩
abbrev S4096x128 : Shape := ⟨2, ![4096, 128]⟩
abbrev S1x4096x128 : Shape := ⟨3, ![1, 4096, 128]⟩
abbrev S4x4096x128 : Shape := ⟨3, ![4, 4096, 128]⟩
abbrev S512x128 : Shape := ⟨2, ![512, 128]⟩
abbrev S1x512x128 : Shape := ⟨3, ![1, 512, 128]⟩
abbrev S4x512x128 : Shape := ⟨3, ![4, 512, 128]⟩
abbrev S4x4608x128 : Shape := ⟨3, ![4, 4608, 128]⟩
abbrev S4x1024x16 : Shape := ⟨3, ![4, 1024, 16]⟩
abbrev S16x1 : Shape := ⟨2, ![16, 1]⟩
abbrev S1 : Shape := ⟨1, ![1]⟩
abbrev S1x1 : Shape := ⟨2, ![1, 1]⟩
abbrev S4x1024x1024 : Shape := ⟨3, ![4, 1024, 1024]⟩
abbrev S4x1024x112 : Shape := ⟨3, ![4, 1024, 112]⟩
abbrev S4x1024x1280 : Shape := ⟨3, ![4, 1024, 1280]⟩
abbrev S4x1024x64 : Shape := ⟨3, ![4, 1024, 64]⟩
abbrev S4x1024x256 : Shape := ⟨3, ![4, 1024, 256]⟩
abbrev S4x1024x2944 : Shape := ⟨3, ![4, 1024, 2944]⟩
abbrev S4x128x4 : Shape := ⟨3, ![4, 128, 4]⟩
abbrev S4x128x4x64 : Shape := ⟨4, ![4, 128, 4, 64]⟩
abbrev S4x128x256 : Shape := ⟨3, ![4, 128, 256]⟩
abbrev S1x4x1x64 : Shape := ⟨4, ![1, 4, 1, 64]⟩
abbrev S1x4x2x64 : Shape := ⟨4, ![1, 4, 2, 64]⟩
abbrev S4x128 : Shape := ⟨2, ![4, 128]⟩
abbrev S4x1x128 : Shape := ⟨3, ![4, 1, 128]⟩
abbrev S4x8x1x6144 : Shape := ⟨4, ![4, 8, 1, 6144]⟩
abbrev S4x1x1024 : Shape := ⟨3, ![4, 1, 1024]⟩
abbrev S4x1x256 : Shape := ⟨3, ![4, 1, 256]⟩
abbrev S16384x768 : Shape := ⟨2, ![16384, 768]⟩
abbrev S16384x256 : Shape := ⟨2, ![16384, 256]⟩
abbrev S16384x128 : Shape := ⟨2, ![16384, 128]⟩
abbrev S256x16384 : Shape := ⟨2, ![256, 16384]⟩
abbrev S128x16384 : Shape := ⟨2, ![128, 16384]⟩
abbrev S512x1024 : Shape := ⟨2, ![512, 1024]⟩
abbrev S1x1x1x6144 : Shape := ⟨4, ![1, 1, 1, 6144]⟩
abbrev S1x1x1024 : Shape := ⟨3, ![1, 1, 1024]⟩
abbrev S1x1024x2944 : Shape := ⟨3, ![1, 1024, 2944]⟩
abbrev S1x1x256 : Shape := ⟨3, ![1, 1, 256]⟩
abbrev S1x4x128x128 : Shape := ⟨4, ![1, 4, 128, 128]⟩
abbrev S1x128x256 : Shape := ⟨3, ![1, 128, 256]⟩
abbrev S1x1x128 : Shape := ⟨3, ![1, 1, 128]⟩
abbrev S512x768 : Shape := ⟨2, ![512, 768]⟩
abbrev S512x256 : Shape := ⟨2, ![512, 256]⟩
abbrev S256x512 : Shape := ⟨2, ![256, 512]⟩
abbrev S128x512 : Shape := ⟨2, ![128, 512]⟩
abbrev S1x1024 : Shape := ⟨2, ![1, 1024]⟩
abbrev S1x1x1x1024 : Shape := ⟨4, ![1, 1, 1, 1024]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩
abbrev S1x256 : Shape := ⟨2, ![1, 256]⟩
abbrev S128x256 : Shape := ⟨2, ![128, 256]⟩
abbrev S1x1x128x128 : Shape := ⟨4, ![1, 1, 128, 128]⟩

abbrev nBuf : Space → Nat
  | .hbm => 420
  | .vmem => 42
  | .smem => 0
  | _ => 0

abbrev hbmTy0_0 (i : Nat) : BufTy := match i % 128 with
  | 0 => ⟨S16384x1024, .f32⟩
  | 1 => ⟨S4x8x6144, .f32⟩
  | 2 => ⟨S4x1024, .f32⟩
  | 3 => ⟨S4x1024x6928, .f32⟩
  | 4 => ⟨S4x256, .f32⟩
  | 5 => ⟨S4x4x128x128, .f32⟩
  | 6 => ⟨S4x4x128, .f32⟩
  | 7 => ⟨S4x64, .f32⟩
  | 8 => ⟨S4x64, .f32⟩
  | 9 => ⟨S16, .i32⟩
  | 10 => ⟨S128, .i32⟩
  | 11 => ⟨S128x1, .i32⟩
  | 12 => ⟨S_, .i32⟩
  | 13 => ⟨S_, .i32⟩
  | 14 => ⟨S128x1, .i32⟩
  | 15 => ⟨S128x1, .i32⟩
  | 16 => ⟨S128x1, .i32⟩
  | 17 => ⟨S_, .i32⟩
  | 18 => ⟨S128x1, .i32⟩
  | 19 => ⟨S128x1, .i1⟩
  | 20 => ⟨S128x1, .i32⟩
  | 21 => ⟨S128x1, .i32⟩
  | 22 => ⟨S_, .i32⟩
  | 23 => ⟨S128x1, .i32⟩
  | 24 => ⟨S128x1, .i1⟩
  | 25 => ⟨S128x1, .i1⟩
  | 26 => ⟨S_, .i32⟩
  | 27 => ⟨S128x1, .i32⟩
  | 28 => ⟨S128x1, .i32⟩
  | 29 => ⟨S128x1, .i32⟩
  | 30 => ⟨S1x128, .i32⟩
  | 31 => ⟨S_, .i32⟩
  | 32 => ⟨S_, .i32⟩
  | 33 => ⟨S1x128, .i32⟩
  | 34 => ⟨S1x128, .i32⟩
  | 35 => ⟨S1x128, .i32⟩
  | 36 => ⟨S_, .i32⟩
  | 37 => ⟨S1x128, .i32⟩
  | 38 => ⟨S1x128, .i1⟩
  | 39 => ⟨S1x128, .i32⟩
  | 40 => ⟨S1x128, .i32⟩
  | 41 => ⟨S_, .i32⟩
  | 42 => ⟨S1x128, .i32⟩
  | 43 => ⟨S1x128, .i1⟩
  | 44 => ⟨S1x128, .i1⟩
  | 45 => ⟨S_, .i32⟩
  | 46 => ⟨S1x128, .i32⟩
  | 47 => ⟨S1x128, .i32⟩
  | 48 => ⟨S1x128, .i32⟩
  | 49 => ⟨S128x128, .i32⟩
  | 50 => ⟨S128x128, .i32⟩
  | 51 => ⟨S128x128, .i1⟩
  | 52 => ⟨S_, .f32⟩
  | 53 => ⟨S_, .f32⟩
  | 54 => ⟨S128x128, .f32⟩
  | 55 => ⟨S128x128, .f32⟩
  | 56 => ⟨S128x128, .f32⟩
  | 57 => ⟨S128x128, .bf16⟩
  | 58 => ⟨S4096, .i32⟩
  | 59 => ⟨S_, .i32⟩
  | 60 => ⟨S_, .i32⟩
  | 61 => ⟨S4096, .i32⟩
  | 62 => ⟨S4096, .i32⟩
  | 63 => ⟨S4096, .i32⟩
  | 64 => ⟨S_, .i32⟩
  | 65 => ⟨S4096, .i32⟩
  | 66 => ⟨S4096, .i1⟩
  | 67 => ⟨S4096, .i32⟩
  | 68 => ⟨S4096, .i32⟩
  | 69 => ⟨S_, .i32⟩
  | 70 => ⟨S4096, .i32⟩
  | 71 => ⟨S4096, .i1⟩
  | 72 => ⟨S4096, .i1⟩
  | 73 => ⟨S_, .i32⟩
  | 74 => ⟨S4096, .i32⟩
  | 75 => ⟨S4096, .i32⟩
  | 76 => ⟨S4096, .i32⟩
  | 77 => ⟨S4096, .f32⟩
  | 78 => ⟨S4096x1, .f32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S4096, .i32⟩
  | 86 => ⟨S4096, .i32⟩
  | 87 => ⟨S_, .i32⟩
  | 88 => ⟨S4096, .i32⟩
  | 89 => ⟨S4096, .i1⟩
  | 90 => ⟨S_, .i32⟩
  | 91 => ⟨S4096, .i32⟩
  | 92 => ⟨S4096, .i1⟩
  | 93 => ⟨S_, .i32⟩
  | 94 => ⟨S_, .i1⟩
  | 95 => ⟨S4096, .i1⟩
  | 96 => ⟨S4096, .i1⟩
  | 97 => ⟨S4096, .i1⟩
  | 98 => ⟨S4096, .i32⟩
  | 99 => ⟨S4096, .i32⟩
  | 100 => ⟨S4096, .i32⟩
  | 101 => ⟨S4096, .f32⟩
  | 102 => ⟨S4096x1, .f32⟩
  | 103 => ⟨S128, .i32⟩
  | 104 => ⟨S1x128, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S1x128, .i32⟩
  | 112 => ⟨S1x128, .i32⟩
  | 113 => ⟨S_, .i32⟩
  | 114 => ⟨S1x128, .i32⟩
  | 115 => ⟨S1x128, .i1⟩
  | 116 => ⟨S_, .i32⟩
  | 117 => ⟨S1x128, .i32⟩
  | 118 => ⟨S1x128, .i1⟩
  | 119 => ⟨S_, .i32⟩
  | 120 => ⟨S_, .i1⟩
  | 121 => ⟨S1x128, .i1⟩
  | 122 => ⟨S1x128, .i1⟩
  | 123 => ⟨S1x128, .i1⟩
  | 124 => ⟨S1x128, .i32⟩
  | 125 => ⟨S1x128, .i32⟩
  | 126 => ⟨S1x128, .i32⟩
  | 127 => ⟨S_, .i32⟩
  | _ => ⟨S16384x1024, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S1x128, .i32⟩
  | 6 => ⟨S1x128, .i32⟩
  | 7 => ⟨S_, .i32⟩
  | 8 => ⟨S1x128, .i32⟩
  | 9 => ⟨S1x128, .i1⟩
  | 10 => ⟨S_, .i32⟩
  | 11 => ⟨S1x128, .i32⟩
  | 12 => ⟨S1x128, .i1⟩
  | 13 => ⟨S_, .i32⟩
  | 14 => ⟨S_, .i1⟩
  | 15 => ⟨S1x128, .i1⟩
  | 16 => ⟨S1x128, .i1⟩
  | 17 => ⟨S1x128, .i1⟩
  | 18 => ⟨S1x128, .i32⟩
  | 19 => ⟨S1x128, .i32⟩
  | 20 => ⟨S1x128, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S1x128, .i32⟩
  | 28 => ⟨S1x128, .i32⟩
  | 29 => ⟨S_, .i32⟩
  | 30 => ⟨S1x128, .i32⟩
  | 31 => ⟨S1x128, .i1⟩
  | 32 => ⟨S_, .i32⟩
  | 33 => ⟨S1x128, .i32⟩
  | 34 => ⟨S1x128, .i1⟩
  | 35 => ⟨S_, .i32⟩
  | 36 => ⟨S_, .i1⟩
  | 37 => ⟨S1x128, .i1⟩
  | 38 => ⟨S1x128, .i1⟩
  | 39 => ⟨S1x128, .i1⟩
  | 40 => ⟨S1x128, .i32⟩
  | 41 => ⟨S1x128, .i32⟩
  | 42 => ⟨S1x128, .i32⟩
  | 43 => ⟨S1x128, .f32⟩
  | 44 => ⟨S1x128, .f32⟩
  | 45 => ⟨S_, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S_, .i32⟩
  | 52 => ⟨S1x128, .i32⟩
  | 53 => ⟨S1x128, .i1⟩
  | 54 => ⟨S4096x128, .i1⟩
  | 55 => ⟨S4096x128, .f32⟩
  | 56 => ⟨S4096x128, .f32⟩
  | 57 => ⟨S4096x128, .f32⟩
  | 58 => ⟨S4096x128, .f32⟩
  | 59 => ⟨S4096x128, .f32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S1x128, .i32⟩
  | 67 => ⟨S1x128, .i32⟩
  | 68 => ⟨S_, .i32⟩
  | 69 => ⟨S1x128, .i32⟩
  | 70 => ⟨S1x128, .i1⟩
  | 71 => ⟨S_, .i32⟩
  | 72 => ⟨S1x128, .i32⟩
  | 73 => ⟨S1x128, .i1⟩
  | 74 => ⟨S_, .i32⟩
  | 75 => ⟨S_, .i1⟩
  | 76 => ⟨S1x128, .i1⟩
  | 77 => ⟨S1x128, .i1⟩
  | 78 => ⟨S1x128, .i1⟩
  | 79 => ⟨S1x128, .i32⟩
  | 80 => ⟨S1x128, .i32⟩
  | 81 => ⟨S1x128, .i32⟩
  | 82 => ⟨S_, .i32⟩
  | 83 => ⟨S1x128, .i32⟩
  | 84 => ⟨S1x128, .i1⟩
  | 85 => ⟨S_, .f32⟩
  | 86 => ⟨S_, .f32⟩
  | 87 => ⟨S1x128, .f32⟩
  | 88 => ⟨S1x128, .f32⟩
  | 89 => ⟨S1x128, .f32⟩
  | 90 => ⟨S4096x128, .f32⟩
  | 91 => ⟨S4096x128, .f32⟩
  | 92 => ⟨S1x128, .f32⟩
  | 93 => ⟨S4096x128, .f32⟩
  | 94 => ⟨S4096x128, .f32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S1x128, .i32⟩
  | 102 => ⟨S1x128, .i32⟩
  | 103 => ⟨S_, .i32⟩
  | 104 => ⟨S1x128, .i32⟩
  | 105 => ⟨S1x128, .i1⟩
  | 106 => ⟨S_, .i32⟩
  | 107 => ⟨S1x128, .i32⟩
  | 108 => ⟨S1x128, .i1⟩
  | 109 => ⟨S_, .i32⟩
  | 110 => ⟨S_, .i1⟩
  | 111 => ⟨S1x128, .i1⟩
  | 112 => ⟨S1x128, .i1⟩
  | 113 => ⟨S1x128, .i1⟩
  | 114 => ⟨S1x128, .i32⟩
  | 115 => ⟨S1x128, .i32⟩
  | 116 => ⟨S1x128, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S1x128, .i32⟩
  | 124 => ⟨S1x128, .i32⟩
  | 125 => ⟨S_, .i32⟩
  | 126 => ⟨S1x128, .i32⟩
  | 127 => ⟨S1x128, .i1⟩
  | _ => ⟨S16384x1024, .f32⟩

abbrev hbmTy0_2 (i : Nat) : BufTy := match i % 128 with
  | 0 => ⟨S_, .i32⟩
  | 1 => ⟨S1x128, .i32⟩
  | 2 => ⟨S1x128, .i1⟩
  | 3 => ⟨S_, .i32⟩
  | 4 => ⟨S_, .i1⟩
  | 5 => ⟨S1x128, .i1⟩
  | 6 => ⟨S1x128, .i1⟩
  | 7 => ⟨S1x128, .i1⟩
  | 8 => ⟨S1x128, .i32⟩
  | 9 => ⟨S1x128, .i32⟩
  | 10 => ⟨S1x128, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S1x128, .i32⟩
  | 18 => ⟨S1x128, .i32⟩
  | 19 => ⟨S_, .i32⟩
  | 20 => ⟨S1x128, .i32⟩
  | 21 => ⟨S1x128, .i1⟩
  | 22 => ⟨S_, .i32⟩
  | 23 => ⟨S1x128, .i32⟩
  | 24 => ⟨S1x128, .i1⟩
  | 25 => ⟨S_, .i32⟩
  | 26 => ⟨S_, .i1⟩
  | 27 => ⟨S1x128, .i1⟩
  | 28 => ⟨S1x128, .i1⟩
  | 29 => ⟨S1x128, .i1⟩
  | 30 => ⟨S1x128, .i32⟩
  | 31 => ⟨S1x128, .i32⟩
  | 32 => ⟨S1x128, .i32⟩
  | 33 => ⟨S1x128, .f32⟩
  | 34 => ⟨S1x128, .f32⟩
  | 35 => ⟨S_, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S_, .i32⟩
  | 42 => ⟨S1x128, .i32⟩
  | 43 => ⟨S1x128, .i1⟩
  | 44 => ⟨S4096x128, .i1⟩
  | 45 => ⟨S4096x128, .f32⟩
  | 46 => ⟨S4096x128, .f32⟩
  | 47 => ⟨S4096x128, .f32⟩
  | 48 => ⟨S4096x128, .f32⟩
  | 49 => ⟨S4096x128, .f32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x128, .i32⟩
  | 57 => ⟨S1x128, .i32⟩
  | 58 => ⟨S_, .i32⟩
  | 59 => ⟨S1x128, .i32⟩
  | 60 => ⟨S1x128, .i1⟩
  | 61 => ⟨S_, .i32⟩
  | 62 => ⟨S1x128, .i32⟩
  | 63 => ⟨S1x128, .i1⟩
  | 64 => ⟨S_, .i32⟩
  | 65 => ⟨S_, .i1⟩
  | 66 => ⟨S1x128, .i1⟩
  | 67 => ⟨S1x128, .i1⟩
  | 68 => ⟨S1x128, .i1⟩
  | 69 => ⟨S1x128, .i32⟩
  | 70 => ⟨S1x128, .i32⟩
  | 71 => ⟨S1x128, .i32⟩
  | 72 => ⟨S_, .i32⟩
  | 73 => ⟨S1x128, .i32⟩
  | 74 => ⟨S1x128, .i1⟩
  | 75 => ⟨S_, .f32⟩
  | 76 => ⟨S_, .f32⟩
  | 77 => ⟨S1x128, .f32⟩
  | 78 => ⟨S1x128, .f32⟩
  | 79 => ⟨S1x128, .f32⟩
  | 80 => ⟨S4096x128, .f32⟩
  | 81 => ⟨S4096x128, .f32⟩
  | 82 => ⟨S1x128, .f32⟩
  | 83 => ⟨S4096x128, .f32⟩
  | 84 => ⟨S4096x128, .f32⟩
  | 85 => ⟨S1x4096x128, .f32⟩
  | 86 => ⟨S1x4096x128, .f32⟩
  | 87 => ⟨S1x4096x128, .f32⟩
  | 88 => ⟨S1x4096x128, .f32⟩
  | 89 => ⟨S4x4096x128, .f32⟩
  | 90 => ⟨S_, .f32⟩
  | 91 => ⟨S512x128, .f32⟩
  | 92 => ⟨S_, .f32⟩
  | 93 => ⟨S512x128, .f32⟩
  | 94 => ⟨S1x512x128, .f32⟩
  | 95 => ⟨S1x512x128, .f32⟩
  | 96 => ⟨S1x512x128, .f32⟩
  | 97 => ⟨S1x512x128, .f32⟩
  | 98 => ⟨S4x512x128, .f32⟩
  | 99 => ⟨S4x4608x128, .f32⟩
  | 100 => ⟨S4x1024x16, .f32⟩
  | 101 => ⟨S_, .i32⟩
  | 102 => ⟨S16, .i32⟩
  | 103 => ⟨S16, .i1⟩
  | 104 => ⟨S_, .i32⟩
  | 105 => ⟨S16, .i32⟩
  | 106 => ⟨S16, .i32⟩
  | 107 => ⟨S16, .i32⟩
  | 108 => ⟨S16x1, .i32⟩
  | 109 => ⟨S1, .i32⟩
  | 110 => ⟨S_, .i32⟩
  | 111 => ⟨S16x1, .i32⟩
  | 112 => ⟨S16x1, .i1⟩
  | 113 => ⟨S1x1, .i32⟩
  | 114 => ⟨S16x1, .i32⟩
  | 115 => ⟨S16x1, .i1⟩
  | 116 => ⟨S16x1, .i1⟩
  | 117 => ⟨S_, .i1⟩
  | 118 => ⟨S16, .i1⟩
  | 119 => ⟨S4x1024x16, .f32⟩
  | 120 => ⟨S4x1024x16, .i1⟩
  | 121 => ⟨S_, .f32⟩
  | 122 => ⟨S4x1024x16, .f32⟩
  | 123 => ⟨S4x1024x16, .f32⟩
  | 124 => ⟨S4x1024x1024, .f32⟩
  | 125 => ⟨S_, .f32⟩
  | 126 => ⟨S4x1024x112, .f32⟩
  | 127 => ⟨S4x1024x1280, .f32⟩
  | _ => ⟨S16384x1024, .f32⟩

abbrev hbmTy0_3 (i : Nat) : BufTy := match i % 128 with
  | 0 => ⟨S4x1024x64, .f32⟩
  | 1 => ⟨S4x1024x64, .f32⟩
  | 2 => ⟨S4x1024x64, .f32⟩
  | 3 => ⟨S4x1024x64, .f32⟩
  | 4 => ⟨S4x1024x256, .f32⟩
  | 5 => ⟨S4x1024x2944, .f32⟩
  | 6 => ⟨S4x1024x2944, .bf16⟩
  | 7 => ⟨S4x4x128x128, .bf16⟩
  | 8 => ⟨S4x128x4, .f32⟩
  | 9 => ⟨S4x128x4x64, .f32⟩
  | 10 => ⟨S4x128x256, .f32⟩
  | 11 => ⟨S1x4x1x64, .f32⟩
  | 12 => ⟨S1x4x2x64, .f32⟩
  | 13 => ⟨S4x128, .f32⟩
  | 14 => ⟨S4x1x128, .f32⟩
  | 15 => ⟨S1x4x1x64, .f32⟩
  | 16 => ⟨S1x4x2x64, .f32⟩
  | 17 => ⟨S4x128, .f32⟩
  | 18 => ⟨S4x1x128, .f32⟩
  | 19 => ⟨S4x8x1x6144, .f32⟩
  | 20 => ⟨S4x1x1024, .f32⟩
  | 21 => ⟨S4x1x256, .f32⟩
  | 22 => ⟨S16384x768, .f32⟩
  | 23 => ⟨S16384x256, .f32⟩
  | 24 => ⟨S16384x128, .f32⟩
  | 25 => ⟨S256x16384, .bf16⟩
  | 26 => ⟨S16384x256, .f32⟩
  | 27 => ⟨S16384x256, .f32⟩
  | 28 => ⟨S16384x256, .bf16⟩
  | 29 => ⟨S256x16384, .bf16⟩
  | 30 => ⟨S16384x256, .bf16⟩
  | 31 => ⟨S256x16384, .bf16⟩
  | 32 => ⟨S16384x128, .f32⟩
  | 33 => ⟨S16384x128, .f32⟩
  | 34 => ⟨S16384x128, .bf16⟩
  | 35 => ⟨S128x16384, .bf16⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1x1024, .f32⟩
  | .local _ .vmem, ⟨5, _⟩ => ⟨S1x1024x2944, .bf16⟩
  | .local _ .vmem, ⟨6, _⟩ => ⟨S4x512x128, .f32⟩
  | .local _ .vmem, ⟨7, _⟩ => ⟨S4x512x128, .f32⟩
  | .local _ .vmem, ⟨8, _⟩ => ⟨S128x128, .bf16⟩
  | .local _ .vmem, ⟨9, _⟩ => ⟨S1x1x256, .f32⟩
  | .local _ .vmem, ⟨10, _⟩ => ⟨S1x4x128x128, .bf16⟩
  | .local _ .vmem, ⟨11, _⟩ => ⟨S1x128x256, .f32⟩
  | .local _ .vmem, ⟨12, _⟩ => ⟨S1x1x128, .f32⟩
  | .local _ .vmem, ⟨13, _⟩ => ⟨S1x1x128, .f32⟩
  | .local _ .vmem, ⟨14, _⟩ => ⟨S512x768, .f32⟩
  | .local _ .vmem, ⟨15, _⟩ => ⟨S512x768, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S256x512, .bf16⟩
  | .local _ .vmem, ⟨21, _⟩ => ⟨S256x512, .bf16⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .bf16⟩
  | .local _ .vmem, ⟨27, _⟩ => ⟨S512x256, .bf16⟩
  | .local _ .vmem, ⟨28, _⟩ => ⟨S256x512, .bf16⟩
  | .local _ .vmem, ⟨29, _⟩ => ⟨S256x512, .bf16⟩
  | .local _ .vmem, ⟨30, _⟩ => ⟨S512x256, .bf16⟩
  | .local _ .vmem, ⟨31, _⟩ => ⟨S512x256, .bf16⟩
  | .local _ .vmem, ⟨32, _⟩ => ⟨S256x512, .bf16⟩
  | .local _ .vmem, ⟨33, _⟩ => ⟨S256x512, .bf16⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S512x128, .bf16⟩
  | .local _ .vmem, ⟨39, _⟩ => ⟨S512x128, .bf16⟩
  | .local _ .vmem, ⟨40, _⟩ => ⟨S128x512, .bf16⟩
  | .local _ .vmem, ⟨41, _⟩ => ⟨S128x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v2 : Ref sig .tc := ⟨.hbm, 29, rfl⟩
abbrev main_v3 : Ref sig .tc := ⟨.hbm, 30, rfl⟩
abbrev main_c_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_cst : Ref sig .tc := ⟨.hbm, 52, rfl⟩
abbrev main_cst_2 : Ref sig .tc := ⟨.hbm, 53, rfl⟩
abbrev main_call2_v0 : Ref sig .tc := ⟨.hbm, 54, rfl⟩
abbrev main_call2_v1 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_c_3 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_c : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_0 : Ref sig .tc := ⟨.hbm, 73, rfl⟩
abbrev main_call3_v12 : Ref sig .tc := ⟨.hbm, 74, rfl⟩
abbrev main_call3_v13 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_c_4 : Ref sig .tc := ⟨.hbm, 79, rfl⟩
abbrev main_call4_v0 : Ref sig .tc := ⟨.hbm, 80, rfl⟩
abbrev main_call4_c : Ref sig .tc := ⟨.hbm, 81, rfl⟩
abbrev main_call4_v1 : Ref sig .tc := ⟨.hbm, 82, rfl⟩
abbrev main_call4_c_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_c_1 : Ref sig .tc := ⟨.hbm, 87, rfl⟩
abbrev main_call4_v5 : Ref sig .tc := ⟨.hbm, 88, rfl⟩
abbrev main_call4_v6 : Ref sig .tc := ⟨.hbm, 89, rfl⟩
abbrev main_call4_c_2 : Ref sig .tc := ⟨.hbm, 90, rfl⟩
abbrev main_call4_v7 : Ref sig .tc := ⟨.hbm, 91, rfl⟩
abbrev main_call4_v8 : Ref sig .tc := ⟨.hbm, 92, rfl⟩
abbrev main_call4_c_3 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_v12 : Ref sig .tc := ⟨.hbm, 97, rfl⟩
abbrev main_call4_v13 : Ref sig .tc := ⟨.hbm, 98, rfl⟩
abbrev main_call4_v14 : Ref sig .tc := ⟨.hbm, 99, rfl⟩
abbrev main_v14 : Ref sig .tc := ⟨.hbm, 100, rfl⟩
abbrev main_v15 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_c_5 : Ref sig .tc := ⟨.hbm, 105, rfl⟩
abbrev main_call5_v0 : Ref sig .tc := ⟨.hbm, 106, rfl⟩
abbrev main_call5_c : Ref sig .tc := ⟨.hbm, 107, rfl⟩
abbrev main_call5_v1 : Ref sig .tc := ⟨.hbm, 108, rfl⟩
abbrev main_call5_c_0 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_call5_c_1 : Ref sig .tc := ⟨.hbm, 113, rfl⟩
abbrev main_call5_v5 : Ref sig .tc := ⟨.hbm, 114, rfl⟩
abbrev main_call5_v6 : Ref sig .tc := ⟨.hbm, 115, rfl⟩
abbrev main_call5_c_2 : Ref sig .tc := ⟨.hbm, 116, rfl⟩
abbrev main_call5_v7 : Ref sig .tc := ⟨.hbm, 117, rfl⟩
abbrev main_call5_v8 : Ref sig .tc := ⟨.hbm, 118, rfl⟩
abbrev main_call5_c_3 : Ref sig .tc := ⟨.hbm, 119, rfl⟩
abbrev main_call5_v9 : Ref sig .tc := ⟨.hbm, 120, rfl⟩
abbrev main_call5_v10 : Ref sig .tc := ⟨.hbm, 121, rfl⟩
abbrev main_call5_v11 : Ref sig .tc := ⟨.hbm, 122, rfl⟩
abbrev main_call5_v12 : Ref sig .tc := ⟨.hbm, 123, rfl⟩
abbrev main_call5_v13 : Ref sig .tc := ⟨.hbm, 124, rfl⟩
abbrev main_call5_v14 : Ref sig .tc := ⟨.hbm, 125, rfl⟩
abbrev main_v19 : Ref sig .tc := ⟨.hbm, 126, rfl⟩
abbrev main_c_6 : Ref sig .tc := ⟨.hbm, 127, rfl⟩
abbrev main_call6_v0 : Ref sig .tc := ⟨.hbm, 128, rfl⟩
abbrev main_call6_c : Ref sig .tc := ⟨.hbm, 129, rfl⟩
abbrev main_call6_v1 : Ref sig .tc := ⟨.hbm, 130, rfl⟩
abbrev main_call6_c_0 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_call6_c_1 : Ref sig .tc := ⟨.hbm, 135, rfl⟩
abbrev main_call6_v5 : Ref sig .tc := ⟨.hbm, 136, rfl⟩
abbrev main_call6_v6 : Ref sig .tc := ⟨.hbm, 137, rfl⟩
abbrev main_call6_c_2 : Ref sig .tc := ⟨.hbm, 138, rfl⟩
abbrev main_call6_v7 : Ref sig .tc := ⟨.hbm, 139, rfl⟩
abbrev main_call6_v8 : Ref sig .tc := ⟨.hbm, 140, rfl⟩
abbrev main_call6_c_3 : Ref sig .tc := ⟨.hbm, 141, rfl⟩
abbrev main_call6_v9 : Ref sig .tc := ⟨.hbm, 142, rfl⟩
abbrev main_call6_v10 : Ref sig .tc := ⟨.hbm, 143, rfl⟩
abbrev main_call6_v11 : Ref sig .tc := ⟨.hbm, 144, rfl⟩
abbrev main_call6_v12 : Ref sig .tc := ⟨.hbm, 145, rfl⟩
abbrev main_call6_v13 : Ref sig .tc := ⟨.hbm, 146, rfl⟩
abbrev main_call6_v14 : Ref sig .tc := ⟨.hbm, 147, rfl⟩
abbrev main_v20 : Ref sig .tc := ⟨.hbm, 148, rfl⟩
abbrev main_c_7 : Ref sig .tc := ⟨.hbm, 149, rfl⟩
abbrev main_call7_v0 : Ref sig .tc := ⟨.hbm, 150, rfl⟩
abbrev main_call7_c : Ref sig .tc := ⟨.hbm, 151, rfl⟩
abbrev main_call7_v1 : Ref sig .tc := ⟨.hbm, 152, rfl⟩
abbrev main_call7_c_0 : Ref sig .tc := ⟨.hbm, 153, rfl⟩
abbrev main_call7_v2 : Ref sig .tc := ⟨.hbm, 154, rfl⟩
abbrev main_call7_v3 : Ref sig .tc := ⟨.hbm, 155, rfl⟩
abbrev main_call7_v4 : Ref sig .tc := ⟨.hbm, 156, rfl⟩
abbrev main_call7_c_1 : Ref sig .tc := ⟨.hbm, 157, rfl⟩
abbrev main_call7_v5 : Ref sig .tc := ⟨.hbm, 158, rfl⟩
abbrev main_call7_v6 : Ref sig .tc := ⟨.hbm, 159, rfl⟩
abbrev main_call7_c_2 : Ref sig .tc := ⟨.hbm, 160, rfl⟩
abbrev main_call7_v7 : Ref sig .tc := ⟨.hbm, 161, rfl⟩
abbrev main_call7_v8 : Ref sig .tc := ⟨.hbm, 162, rfl⟩
abbrev main_call7_c_3 : Ref sig .tc := ⟨.hbm, 163, rfl⟩
abbrev main_call7_v9 : Ref sig .tc := ⟨.hbm, 164, rfl⟩
abbrev main_call7_v10 : Ref sig .tc := ⟨.hbm, 165, rfl⟩
abbrev main_call7_v11 : Ref sig .tc := ⟨.hbm, 166, rfl⟩
abbrev main_call7_v12 : Ref sig .tc := ⟨.hbm, 167, rfl⟩
abbrev main_call7_v13 : Ref sig .tc := ⟨.hbm, 168, rfl⟩
abbrev main_call7_v14 : Ref sig .tc := ⟨.hbm, 169, rfl⟩
abbrev main_v21 : Ref sig .tc := ⟨.hbm, 170, rfl⟩
abbrev main_v22 : Ref sig .tc := ⟨.hbm, 171, rfl⟩
abbrev main_v23 : Ref sig .tc := ⟨.hbm, 172, rfl⟩
abbrev main_cst_8 : Ref sig .tc := ⟨.hbm, 173, rfl⟩
abbrev main_v24 : Ref sig .tc := ⟨.hbm, 174, rfl⟩
abbrev main_v25 : Ref sig .tc := ⟨.hbm, 175, rfl⟩
abbrev main_cst_9 : Ref sig .tc := ⟨.hbm, 176, rfl⟩
abbrev main_v26 : Ref sig .tc := ⟨.hbm, 177, rfl⟩
abbrev main_v27 : Ref sig .tc := ⟨.hbm, 178, rfl⟩
abbrev main_c_10 : Ref sig .tc := ⟨.hbm, 179, rfl⟩
abbrev main_v28 : Ref sig .tc := ⟨.hbm, 180, rfl⟩
abbrev main_v29 : Ref sig .tc := ⟨.hbm, 181, rfl⟩
abbrev main_call8_v0 : Ref sig .tc := ⟨.hbm, 182, rfl⟩
abbrev main_call8_v1 : Ref sig .tc := ⟨.hbm, 183, rfl⟩
abbrev main_call8_v2 : Ref sig .tc := ⟨.hbm, 184, rfl⟩
abbrev main_v30 : Ref sig .tc := ⟨.hbm, 185, rfl⟩
abbrev main_v31 : Ref sig .tc := ⟨.hbm, 186, rfl⟩
abbrev main_v32 : Ref sig .tc := ⟨.hbm, 187, rfl⟩
abbrev main_c_11 : Ref sig .tc := ⟨.hbm, 188, rfl⟩
abbrev main_call9_v0 : Ref sig .tc := ⟨.hbm, 189, rfl⟩
abbrev main_call9_c : Ref sig .tc := ⟨.hbm, 190, rfl⟩
abbrev main_call9_v1 : Ref sig .tc := ⟨.hbm, 191, rfl⟩
abbrev main_call9_c_0 : Ref sig .tc := ⟨.hbm, 192, rfl⟩
abbrev main_call9_v2 : Ref sig .tc := ⟨.hbm, 193, rfl⟩
abbrev main_call9_v3 : Ref sig .tc := ⟨.hbm, 194, rfl⟩
abbrev main_call9_v4 : Ref sig .tc := ⟨.hbm, 195, rfl⟩
abbrev main_call9_c_1 : Ref sig .tc := ⟨.hbm, 196, rfl⟩
abbrev main_call9_v5 : Ref sig .tc := ⟨.hbm, 197, rfl⟩
abbrev main_call9_v6 : Ref sig .tc := ⟨.hbm, 198, rfl⟩
abbrev main_call9_c_2 : Ref sig .tc := ⟨.hbm, 199, rfl⟩
abbrev main_call9_v7 : Ref sig .tc := ⟨.hbm, 200, rfl⟩
abbrev main_call9_v8 : Ref sig .tc := ⟨.hbm, 201, rfl⟩
abbrev main_call9_c_3 : Ref sig .tc := ⟨.hbm, 202, rfl⟩
abbrev main_call9_v9 : Ref sig .tc := ⟨.hbm, 203, rfl⟩
abbrev main_call9_v10 : Ref sig .tc := ⟨.hbm, 204, rfl⟩
abbrev main_call9_v11 : Ref sig .tc := ⟨.hbm, 205, rfl⟩
abbrev main_call9_v12 : Ref sig .tc := ⟨.hbm, 206, rfl⟩
abbrev main_call9_v13 : Ref sig .tc := ⟨.hbm, 207, rfl⟩
abbrev main_call9_v14 : Ref sig .tc := ⟨.hbm, 208, rfl⟩
abbrev main_v33 : Ref sig .tc := ⟨.hbm, 209, rfl⟩
abbrev main_c_12 : Ref sig .tc := ⟨.hbm, 210, rfl⟩
abbrev main_v34 : Ref sig .tc := ⟨.hbm, 211, rfl⟩
abbrev main_v35 : Ref sig .tc := ⟨.hbm, 212, rfl⟩
abbrev main_cst_13 : Ref sig .tc := ⟨.hbm, 213, rfl⟩
abbrev main_cst_14 : Ref sig .tc := ⟨.hbm, 214, rfl⟩
abbrev main_call10_v0 : Ref sig .tc := ⟨.hbm, 215, rfl⟩
abbrev main_call10_v1 : Ref sig .tc := ⟨.hbm, 216, rfl⟩
abbrev main_v36 : Ref sig .tc := ⟨.hbm, 217, rfl⟩
abbrev main_v37 : Ref sig .tc := ⟨.hbm, 218, rfl⟩
abbrev main_v38 : Ref sig .tc := ⟨.hbm, 219, rfl⟩
abbrev main_v39 : Ref sig .tc := ⟨.hbm, 220, rfl⟩
abbrev main_v40 : Ref sig .tc := ⟨.hbm, 221, rfl⟩
abbrev main_v41 : Ref sig .tc := ⟨.hbm, 222, rfl⟩
abbrev main_c_15 : Ref sig .tc := ⟨.hbm, 223, rfl⟩
abbrev main_call11_v0 : Ref sig .tc := ⟨.hbm, 224, rfl⟩
abbrev main_call11_c : Ref sig .tc := ⟨.hbm, 225, rfl⟩
abbrev main_call11_v1 : Ref sig .tc := ⟨.hbm, 226, rfl⟩
abbrev main_call11_c_0 : Ref sig .tc := ⟨.hbm, 227, rfl⟩
abbrev main_call11_v2 : Ref sig .tc := ⟨.hbm, 228, rfl⟩
abbrev main_call11_v3 : Ref sig .tc := ⟨.hbm, 229, rfl⟩
abbrev main_call11_v4 : Ref sig .tc := ⟨.hbm, 230, rfl⟩
abbrev main_call11_c_1 : Ref sig .tc := ⟨.hbm, 231, rfl⟩
abbrev main_call11_v5 : Ref sig .tc := ⟨.hbm, 232, rfl⟩
abbrev main_call11_v6 : Ref sig .tc := ⟨.hbm, 233, rfl⟩
abbrev main_call11_c_2 : Ref sig .tc := ⟨.hbm, 234, rfl⟩
abbrev main_call11_v7 : Ref sig .tc := ⟨.hbm, 235, rfl⟩
abbrev main_call11_v8 : Ref sig .tc := ⟨.hbm, 236, rfl⟩
abbrev main_call11_c_3 : Ref sig .tc := ⟨.hbm, 237, rfl⟩
abbrev main_call11_v9 : Ref sig .tc := ⟨.hbm, 238, rfl⟩
abbrev main_call11_v10 : Ref sig .tc := ⟨.hbm, 239, rfl⟩
abbrev main_call11_v11 : Ref sig .tc := ⟨.hbm, 240, rfl⟩
abbrev main_call11_v12 : Ref sig .tc := ⟨.hbm, 241, rfl⟩
abbrev main_call11_v13 : Ref sig .tc := ⟨.hbm, 242, rfl⟩
abbrev main_call11_v14 : Ref sig .tc := ⟨.hbm, 243, rfl⟩
abbrev main_v42 : Ref sig .tc := ⟨.hbm, 244, rfl⟩
abbrev main_c_16 : Ref sig .tc := ⟨.hbm, 245, rfl⟩
abbrev main_call12_v0 : Ref sig .tc := ⟨.hbm, 246, rfl⟩
abbrev main_call12_c : Ref sig .tc := ⟨.hbm, 247, rfl⟩
abbrev main_call12_v1 : Ref sig .tc := ⟨.hbm, 248, rfl⟩
abbrev main_call12_c_0 : Ref sig .tc := ⟨.hbm, 249, rfl⟩
abbrev main_call12_v2 : Ref sig .tc := ⟨.hbm, 250, rfl⟩
abbrev main_call12_v3 : Ref sig .tc := ⟨.hbm, 251, rfl⟩
abbrev main_call12_v4 : Ref sig .tc := ⟨.hbm, 252, rfl⟩
abbrev main_call12_c_1 : Ref sig .tc := ⟨.hbm, 253, rfl⟩
abbrev main_call12_v5 : Ref sig .tc := ⟨.hbm, 254, rfl⟩
abbrev main_call12_v6 : Ref sig .tc := ⟨.hbm, 255, rfl⟩
abbrev main_call12_c_2 : Ref sig .tc := ⟨.hbm, 256, rfl⟩
abbrev main_call12_v7 : Ref sig .tc := ⟨.hbm, 257, rfl⟩
abbrev main_call12_v8 : Ref sig .tc := ⟨.hbm, 258, rfl⟩
abbrev main_call12_c_3 : Ref sig .tc := ⟨.hbm, 259, rfl⟩
abbrev main_call12_v9 : Ref sig .tc := ⟨.hbm, 260, rfl⟩
abbrev main_call12_v10 : Ref sig .tc := ⟨.hbm, 261, rfl⟩
abbrev main_call12_v11 : Ref sig .tc := ⟨.hbm, 262, rfl⟩
abbrev main_call12_v12 : Ref sig .tc := ⟨.hbm, 263, rfl⟩
abbrev main_call12_v13 : Ref sig .tc := ⟨.hbm, 264, rfl⟩
abbrev main_call12_v14 : Ref sig .tc := ⟨.hbm, 265, rfl⟩
abbrev main_v43 : Ref sig .tc := ⟨.hbm, 266, rfl⟩
abbrev main_c_17 : Ref sig .tc := ⟨.hbm, 267, rfl⟩
abbrev main_call13_v0 : Ref sig .tc := ⟨.hbm, 268, rfl⟩
abbrev main_call13_c : Ref sig .tc := ⟨.hbm, 269, rfl⟩
abbrev main_call13_v1 : Ref sig .tc := ⟨.hbm, 270, rfl⟩
abbrev main_call13_c_0 : Ref sig .tc := ⟨.hbm, 271, rfl⟩
abbrev main_call13_v2 : Ref sig .tc := ⟨.hbm, 272, rfl⟩
abbrev main_call13_v3 : Ref sig .tc := ⟨.hbm, 273, rfl⟩
abbrev main_call13_v4 : Ref sig .tc := ⟨.hbm, 274, rfl⟩
abbrev main_call13_c_1 : Ref sig .tc := ⟨.hbm, 275, rfl⟩
abbrev main_call13_v5 : Ref sig .tc := ⟨.hbm, 276, rfl⟩
abbrev main_call13_v6 : Ref sig .tc := ⟨.hbm, 277, rfl⟩
abbrev main_call13_c_2 : Ref sig .tc := ⟨.hbm, 278, rfl⟩
abbrev main_call13_v7 : Ref sig .tc := ⟨.hbm, 279, rfl⟩
abbrev main_call13_v8 : Ref sig .tc := ⟨.hbm, 280, rfl⟩
abbrev main_call13_c_3 : Ref sig .tc := ⟨.hbm, 281, rfl⟩
abbrev main_call13_v9 : Ref sig .tc := ⟨.hbm, 282, rfl⟩
abbrev main_call13_v10 : Ref sig .tc := ⟨.hbm, 283, rfl⟩
abbrev main_call13_v11 : Ref sig .tc := ⟨.hbm, 284, rfl⟩
abbrev main_call13_v12 : Ref sig .tc := ⟨.hbm, 285, rfl⟩
abbrev main_call13_v13 : Ref sig .tc := ⟨.hbm, 286, rfl⟩
abbrev main_call13_v14 : Ref sig .tc := ⟨.hbm, 287, rfl⟩
abbrev main_v44 : Ref sig .tc := ⟨.hbm, 288, rfl⟩
abbrev main_v45 : Ref sig .tc := ⟨.hbm, 289, rfl⟩
abbrev main_v46 : Ref sig .tc := ⟨.hbm, 290, rfl⟩
abbrev main_cst_18 : Ref sig .tc := ⟨.hbm, 291, rfl⟩
abbrev main_v47 : Ref sig .tc := ⟨.hbm, 292, rfl⟩
abbrev main_v48 : Ref sig .tc := ⟨.hbm, 293, rfl⟩
abbrev main_cst_19 : Ref sig .tc := ⟨.hbm, 294, rfl⟩
abbrev main_v49 : Ref sig .tc := ⟨.hbm, 295, rfl⟩
abbrev main_v50 : Ref sig .tc := ⟨.hbm, 296, rfl⟩
abbrev main_c_20 : Ref sig .tc := ⟨.hbm, 297, rfl⟩
abbrev main_v51 : Ref sig .tc := ⟨.hbm, 298, rfl⟩
abbrev main_v52 : Ref sig .tc := ⟨.hbm, 299, rfl⟩
abbrev main_call14_v0 : Ref sig .tc := ⟨.hbm, 300, rfl⟩
abbrev main_call14_v1 : Ref sig .tc := ⟨.hbm, 301, rfl⟩
abbrev main_call14_v2 : Ref sig .tc := ⟨.hbm, 302, rfl⟩
abbrev main_v53 : Ref sig .tc := ⟨.hbm, 303, rfl⟩
abbrev main_v54 : Ref sig .tc := ⟨.hbm, 304, rfl⟩
abbrev main_v55 : Ref sig .tc := ⟨.hbm, 305, rfl⟩
abbrev main_c_21 : Ref sig .tc := ⟨.hbm, 306, rfl⟩
abbrev main_call15_v0 : Ref sig .tc := ⟨.hbm, 307, rfl⟩
abbrev main_call15_c : Ref sig .tc := ⟨.hbm, 308, rfl⟩
abbrev main_call15_v1 : Ref sig .tc := ⟨.hbm, 309, rfl⟩
abbrev main_call15_c_0 : Ref sig .tc := ⟨.hbm, 310, rfl⟩
abbrev main_call15_v2 : Ref sig .tc := ⟨.hbm, 311, rfl⟩
abbrev main_call15_v3 : Ref sig .tc := ⟨.hbm, 312, rfl⟩
abbrev main_call15_v4 : Ref sig .tc := ⟨.hbm, 313, rfl⟩
abbrev main_call15_c_1 : Ref sig .tc := ⟨.hbm, 314, rfl⟩
abbrev main_call15_v5 : Ref sig .tc := ⟨.hbm, 315, rfl⟩
abbrev main_call15_v6 : Ref sig .tc := ⟨.hbm, 316, rfl⟩
abbrev main_call15_c_2 : Ref sig .tc := ⟨.hbm, 317, rfl⟩
abbrev main_call15_v7 : Ref sig .tc := ⟨.hbm, 318, rfl⟩
abbrev main_call15_v8 : Ref sig .tc := ⟨.hbm, 319, rfl⟩
abbrev main_call15_c_3 : Ref sig .tc := ⟨.hbm, 320, rfl⟩
abbrev main_call15_v9 : Ref sig .tc := ⟨.hbm, 321, rfl⟩
abbrev main_call15_v10 : Ref sig .tc := ⟨.hbm, 322, rfl⟩
abbrev main_call15_v11 : Ref sig .tc := ⟨.hbm, 323, rfl⟩
abbrev main_call15_v12 : Ref sig .tc := ⟨.hbm, 324, rfl⟩
abbrev main_call15_v13 : Ref sig .tc := ⟨.hbm, 325, rfl⟩
abbrev main_call15_v14 : Ref sig .tc := ⟨.hbm, 326, rfl⟩
abbrev main_v56 : Ref sig .tc := ⟨.hbm, 327, rfl⟩
abbrev main_c_22 : Ref sig .tc := ⟨.hbm, 328, rfl⟩
abbrev main_v57 : Ref sig .tc := ⟨.hbm, 329, rfl⟩
abbrev main_v58 : Ref sig .tc := ⟨.hbm, 330, rfl⟩
abbrev main_cst_23 : Ref sig .tc := ⟨.hbm, 331, rfl⟩
abbrev main_cst_24 : Ref sig .tc := ⟨.hbm, 332, rfl⟩
abbrev main_call16_v0 : Ref sig .tc := ⟨.hbm, 333, rfl⟩
abbrev main_call16_v1 : Ref sig .tc := ⟨.hbm, 334, rfl⟩
abbrev main_v59 : Ref sig .tc := ⟨.hbm, 335, rfl⟩
abbrev main_v60 : Ref sig .tc := ⟨.hbm, 336, rfl⟩
abbrev main_v61 : Ref sig .tc := ⟨.hbm, 337, rfl⟩
abbrev main_v62 : Ref sig .tc := ⟨.hbm, 338, rfl⟩
abbrev main_v63 : Ref sig .tc := ⟨.hbm, 339, rfl⟩
abbrev main_v64 : Ref sig .tc := ⟨.hbm, 340, rfl⟩
abbrev main_v65 : Ref sig .tc := ⟨.hbm, 341, rfl⟩
abbrev main_v66 : Ref sig .tc := ⟨.hbm, 342, rfl⟩
abbrev main_v67 : Ref sig .tc := ⟨.hbm, 343, rfl⟩
abbrev main_v68 : Ref sig .tc := ⟨.hbm, 344, rfl⟩
abbrev main_v69 : Ref sig .tc := ⟨.hbm, 345, rfl⟩
abbrev main_cst_25 : Ref sig .tc := ⟨.hbm, 346, rfl⟩
abbrev main_v70 : Ref sig .tc := ⟨.hbm, 347, rfl⟩
abbrev main_cst_26 : Ref sig .tc := ⟨.hbm, 348, rfl⟩
abbrev main_v71 : Ref sig .tc := ⟨.hbm, 349, rfl⟩
abbrev main_v72 : Ref sig .tc := ⟨.hbm, 350, rfl⟩
abbrev main_v73 : Ref sig .tc := ⟨.hbm, 351, rfl⟩
abbrev main_v74 : Ref sig .tc := ⟨.hbm, 352, rfl⟩
abbrev main_v75 : Ref sig .tc := ⟨.hbm, 353, rfl⟩
abbrev main_v76 : Ref sig .tc := ⟨.hbm, 354, rfl⟩
abbrev main_v77 : Ref sig .tc := ⟨.hbm, 355, rfl⟩
abbrev main_v78 : Ref sig .tc := ⟨.hbm, 356, rfl⟩
abbrev main_call17_c : Ref sig .tc := ⟨.hbm, 357, rfl⟩
abbrev main_call17_v0 : Ref sig .tc := ⟨.hbm, 358, rfl⟩
abbrev main_call17_v1 : Ref sig .tc := ⟨.hbm, 359, rfl⟩
abbrev main_call17_c_0 : Ref sig .tc := ⟨.hbm, 360, rfl⟩
abbrev main_call17_v2 : Ref sig .tc := ⟨.hbm, 361, rfl⟩
abbrev main_call17_v3 : Ref sig .tc := ⟨.hbm, 362, rfl⟩
abbrev main_call17_v4 : Ref sig .tc := ⟨.hbm, 363, rfl⟩
abbrev main_call17_v5 : Ref sig .tc := ⟨.hbm, 364, rfl⟩
abbrev main_call17_c_1 : Ref sig .tc := ⟨.hbm, 365, rfl⟩
abbrev main_call17_c_2 : Ref sig .tc := ⟨.hbm, 366, rfl⟩
abbrev main_call17_v6 : Ref sig .tc := ⟨.hbm, 367, rfl⟩
abbrev main_call17_v7 : Ref sig .tc := ⟨.hbm, 368, rfl⟩
abbrev main_call17_v8 : Ref sig .tc := ⟨.hbm, 369, rfl⟩
abbrev main_call17_v9 : Ref sig .tc := ⟨.hbm, 370, rfl⟩
abbrev main_call17_v10 : Ref sig .tc := ⟨.hbm, 371, rfl⟩
abbrev main_call17_v11 : Ref sig .tc := ⟨.hbm, 372, rfl⟩
abbrev main_call17_c_3 : Ref sig .tc := ⟨.hbm, 373, rfl⟩
abbrev main_call17_v12 : Ref sig .tc := ⟨.hbm, 374, rfl⟩
abbrev main_call17_v13 : Ref sig .tc := ⟨.hbm, 375, rfl⟩
abbrev main_call17_v14 : Ref sig .tc := ⟨.hbm, 376, rfl⟩
abbrev main_call17_cst : Ref sig .tc := ⟨.hbm, 377, rfl⟩
abbrev main_call17_v15 : Ref sig .tc := ⟨.hbm, 378, rfl⟩
abbrev main_v79 : Ref sig .tc := ⟨.hbm, 379, rfl⟩
abbrev main_v80 : Ref sig .tc := ⟨.hbm, 380, rfl⟩
abbrev main_cst_27 : Ref sig .tc := ⟨.hbm, 381, rfl⟩
abbrev main_v81 : Ref sig .tc := ⟨.hbm, 382, rfl⟩
abbrev main_v82 : Ref sig .tc := ⟨.hbm, 383, rfl⟩
abbrev main_v83 : Ref sig .tc := ⟨.hbm, 384, rfl⟩
abbrev main_v84 : Ref sig .tc := ⟨.hbm, 385, rfl⟩
abbrev main_v85 : Ref sig .tc := ⟨.hbm, 386, rfl⟩
abbrev main_v86 : Ref sig .tc := ⟨.hbm, 387, rfl⟩
abbrev main_v87 : Ref sig .tc := ⟨.hbm, 388, rfl⟩
abbrev main_v88 : Ref sig .tc := ⟨.hbm, 389, rfl⟩
abbrev main_v89 : Ref sig .tc := ⟨.hbm, 390, rfl⟩
abbrev main_v90 : Ref sig .tc := ⟨.hbm, 391, rfl⟩
abbrev main_v91 : Ref sig .tc := ⟨.hbm, 392, rfl⟩
abbrev main_v92 : Ref sig .tc := ⟨.hbm, 393, rfl⟩
abbrev main_v93 : Ref sig .tc := ⟨.hbm, 394, rfl⟩
abbrev main_v94 : Ref sig .tc := ⟨.hbm, 395, rfl⟩
abbrev main_v95 : Ref sig .tc := ⟨.hbm, 396, rfl⟩
abbrev main_v96 : Ref sig .tc := ⟨.hbm, 397, rfl⟩
abbrev main_v97 : Ref sig .tc := ⟨.hbm, 398, rfl⟩
abbrev main_v98 : Ref sig .tc := ⟨.hbm, 399, rfl⟩
abbrev main_v99 : Ref sig .tc := ⟨.hbm, 400, rfl⟩
abbrev main_v100 : Ref sig .tc := ⟨.hbm, 401, rfl⟩
abbrev main_v101 : Ref sig .tc := ⟨.hbm, 402, rfl⟩
abbrev main_v102 : Ref sig .tc := ⟨.hbm, 403, rfl⟩
abbrev main_v103 : Ref sig .tc := ⟨.hbm, 404, rfl⟩
abbrev main_v104 : Ref sig .tc := ⟨.hbm, 405, rfl⟩
abbrev main_v105_0 : Ref sig .tc := ⟨.hbm, 406, rfl⟩
abbrev main_v105_1 : Ref sig .tc := ⟨.hbm, 407, rfl⟩
abbrev main_v105_2 : Ref sig .tc := ⟨.hbm, 408, rfl⟩
abbrev main_v105_3 : Ref sig .tc := ⟨.hbm, 409, rfl⟩
abbrev main_v105_4 : Ref sig .tc := ⟨.hbm, 410, rfl⟩
abbrev main_v105_5 : Ref sig .tc := ⟨.hbm, 411, rfl⟩
abbrev main_v105_6 : Ref sig .tc := ⟨.hbm, 412, rfl⟩
abbrev main_v105_7 : Ref sig .tc := ⟨.hbm, 413, rfl⟩
abbrev main_v105_8 : Ref sig .tc := ⟨.hbm, 414, rfl⟩
abbrev main_v105_9 : Ref sig .tc := ⟨.hbm, 415, rfl⟩
abbrev main_v105_10 : Ref sig .tc := ⟨.hbm, 416, rfl⟩
abbrev main_v105_11 : Ref sig .tc := ⟨.hbm, 417, rfl⟩
abbrev main_v105_12 : Ref sig .tc := ⟨.hbm, 418, rfl⟩
abbrev main_v105_13 : Ref sig .tc := ⟨.hbm, 419, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![c0_i32_7.toNat, v20.toNat, c0_i32_8.toNat, c0_i32_9.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  let c0_i32_8 : BitVec 32 := 0#32
  ![c0_i32_6.toNat, v13.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S128x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference3Ideal.lean ====
abbrev S16384x1024 : Shape := ⟨2, ![16384, 1024]⟩
abbrev S4x8x6144 : Shape := ⟨3, ![4, 8, 6144]⟩
abbrev S4x1024 : Shape := ⟨2, ![4, 1024]⟩
abbrev S4x1024x6928 : Shape := ⟨3, ![4, 1024, 6928]⟩
abbrev S4x256 : Shape := ⟨2, ![4, 256]⟩
abbrev S4x4x128x128 : Shape := ⟨4, ![4, 4, 128, 128]⟩
abbrev S4x4x128 : Shape := ⟨3, ![4, 4, 128]⟩
abbrev S4x64 : Shape := ⟨2, ![4, 64]⟩
abbrev S1x1x6144 : Shape := ⟨3, ![1, 1, 6144]⟩
abbrev S6144 : Shape := ⟨1, ![6144]⟩
abbrev S8192x6144 : Shape := ⟨2, ![8192, 6144]⟩
abbrev S4096x6144 : Shape := ⟨2, ![4096, 6144]⟩
abbrev S16384x6144 : Shape := ⟨2, ![16384, 6144]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x6928 : Shape := ⟨3, ![1, 1024, 6928]⟩
abbrev S1024x6928 : Shape := ⟨2, ![1024, 6928]⟩
abbrev S16384x6928 : Shape := ⟨2, ![16384, 6928]⟩
abbrev S16384x768 : Shape := ⟨2, ![16384, 768]⟩
abbrev S16384x256 : Shape := ⟨2, ![16384, 256]⟩
abbrev S16384x8 : Shape := ⟨2, ![16384, 8]⟩
abbrev S16384x128 : Shape := ⟨2, ![16384, 128]⟩
abbrev S16384x4096 : Shape := ⟨2, ![16384, 4096]⟩
abbrev S1x256 : Shape := ⟨2, ![1, 256]⟩
abbrev S256 : Shape := ⟨1, ![256]⟩
abbrev S128x128x4x64 : Shape := ⟨4, ![128, 128, 4, 64]⟩
abbrev S1x4x128x128 : Shape := ⟨4, ![1, 4, 128, 128]⟩
abbrev S4x128x128 : Shape := ⟨3, ![4, 128, 128]⟩
abbrev S4x128x64x128 : Shape := ⟨4, ![4, 128, 64, 128]⟩
abbrev S1x4x128 : Shape := ⟨3, ![1, 4, 128]⟩
abbrev S4x128 : Shape := ⟨2, ![4, 128]⟩
abbrev S128x4 : Shape := ⟨2, ![128, 4]⟩
abbrev S1x128x4x1 : Shape := ⟨4, ![1, 128, 4, 1]⟩
abbrev S256x16384 : Shape := ⟨2, ![256, 16384]⟩
abbrev S128x16384 : Shape := ⟨2, ![128, 16384]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x8x6144, .f32⟩
  | .hbm, ⟨2, _⟩ => ⟨S4x1024, .f32⟩
  | .hbm, ⟨3, _⟩ => ⟨S4x1024x6928, .f32⟩
  | .hbm, ⟨4, _⟩ => ⟨S4x256, .f32⟩
  | .hbm, ⟨5, _⟩ => ⟨S4x4x128x128, .f32⟩
  | .hbm, ⟨6, _⟩ => ⟨S4x4x128, .f32⟩
  | .hbm, ⟨7, _⟩ => ⟨S4x64, .f32⟩
  | .hbm, ⟨8, _⟩ => ⟨S4x64, .f32⟩
  | .hbm, ⟨9, _⟩ => ⟨S1x1x6144, .f32⟩
  | .hbm, ⟨10, _⟩ => ⟨S6144, .f32⟩
  | .hbm, ⟨11, _⟩ => ⟨S8192x6144, .f32⟩
  | .hbm, ⟨12, _⟩ => ⟨S1x1x6144, .f32⟩
  | .hbm, ⟨13, _⟩ => ⟨S6144, .f32⟩
  | .hbm, ⟨14, _⟩ => ⟨S4096x6144, .f32⟩
  | .hbm, ⟨15, _⟩ => ⟨S1x1x6144, .f32⟩
  | .hbm, ⟨16, _⟩ => ⟨S6144, .f32⟩
  | .hbm, ⟨17, _⟩ => ⟨S4096x6144, .f32⟩
  | .hbm, ⟨18, _⟩ => ⟨S16384x6144, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S1x1024x6928, .f32⟩
  | .hbm, ⟨49, _⟩ => ⟨S1024x6928, .f32⟩
  | .hbm, ⟨50, _⟩ => ⟨S16384x6928, .f32⟩
  | .hbm, ⟨51, _⟩ => ⟨S16384x768, .f32⟩
  | .hbm, ⟨52, _⟩ => ⟨S16384x256, .f32⟩
  | .hbm, ⟨53, _⟩ => ⟨S16384x8, .f32⟩
  | .hbm, ⟨54, _⟩ => ⟨S16384x8, .f32⟩
  | .hbm, ⟨55, _⟩ => ⟨S16384x256, .f32⟩
  | .hbm, ⟨56, _⟩ => ⟨S16384x256, .f32⟩
  | .hbm, ⟨57, _⟩ => ⟨S16384x256, .f32⟩
  | .hbm, ⟨58, _⟩ => ⟨S16384x256, .f32⟩
  | .hbm, ⟨59, _⟩ => ⟨S16384x256, .f32⟩
  | .hbm, ⟨60, _⟩ => ⟨S16384x256, .f32⟩
  | .hbm, ⟨61, _⟩ => ⟨S16384x128, .f32⟩
  | .hbm, ⟨62, _⟩ => ⟨S16384x128, .f32⟩
  | .hbm, ⟨63, _⟩ => ⟨S16384x4096, .f32⟩
  | .hbm, ⟨64, _⟩ => ⟨S1x256, .f32⟩
  | .hbm, ⟨65, _⟩ => ⟨S256, .f32⟩
  | .hbm, ⟨66, _⟩ => ⟨S16384x256, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x256, .f32⟩
  | .hbm, ⟨78, _⟩ => ⟨S16384x256, .f32⟩
  | .hbm, ⟨79, _⟩ => ⟨S1x256, .f32⟩
  | .hbm, ⟨80, _⟩ => ⟨S16384x256, .f32⟩
  | .hbm, ⟨81, _⟩ => ⟨S16384x256, .f32⟩
  | .hbm, ⟨82, _⟩ => ⟨S128x128x4x64, .f32⟩
  | .hbm, ⟨83, _⟩ => ⟨S1x4x128x128, .f32⟩
  | .hbm, ⟨84, _⟩ => ⟨S4x128x128, .f32⟩
  | .hbm, ⟨85, _⟩ => ⟨S4x128x64x128, .f32⟩
  | .hbm, ⟨86, _⟩ => ⟨S128x128x4x64, .f32⟩
  | .hbm, ⟨87, _⟩ => ⟨S1x4x128, .f32⟩
  | .hbm, ⟨88, _⟩ => ⟨S4x128, .f32⟩
  | .hbm, ⟨89, _⟩ => ⟨S128x4, .f32⟩
  | .hbm, ⟨90, _⟩ => ⟨S1x128x4x1, .f32⟩
  | .hbm, ⟨91, _⟩ => ⟨S128x128x4x64, .f32⟩
  | .hbm, ⟨92, _⟩ => ⟨S128x128x4x64, .f32⟩
  | .hbm, ⟨93, _⟩ => ⟨S16384x256, .f32⟩
  | .hbm, ⟨94, _⟩ => ⟨S16384x256, .f32⟩
  | .hbm, ⟨95, _⟩ => ⟨S256x16384, .f32⟩
  | .hbm, ⟨96, _⟩ => ⟨S256x16384, .bf16⟩
  | .hbm, ⟨97, _⟩ => ⟨S16384x256, .bf16⟩
  | .hbm, ⟨98, _⟩ => ⟨S128x16384, .f32⟩
  | .hbm, ⟨99, _⟩ => ⟨S128x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩

abbrev nD : Nat := 1
abbrev τ : Topo := Topo.v7x

variable {F : FTy → Type} [FloatOps F]
-- ==== Proof.Order.lean ====
/-
  Order facts about the router's selections: what "the first position of the greatest" is, that a stable sort by
  "greater first" begins with it, and that a minimum over the positions that reach the maximum is it.
-/
module

public import Idealize.ShloMosaic.Lib.SortFacts
public import Idealize.ShloMosaic.PureOps.Ideal
public import Idealize.ShloMosaic.Lib.Pointwise

@[expose] public section

noncomputable section

namespace Cert.Order

open Idealize.ShloMosaic

/-- Position `i` holds the greatest value of `f`, and no earlier position does. -/
def FirstMax {n : ℕ} (f : Fin n → EReal) (i : Fin n) : Prop := (∀ j, f j ≤ f i) ∧ ∀ j, f j = f i → i ≤ j

/-- There is at most one first position of the greatest. -/
theorem FirstMax.unique {n : ℕ} {f : Fin n → EReal} {i j : Fin n} (hi : FirstMax f i) (hj : FirstMax f j) : i = j :=
  le_antisymm (hi.2 j (le_antisymm (hi.1 j) (hj.1 i))) (hj.2 i (le_antisymm (hj.1 i) (hi.1 j)))

/-- The order of a descending stable sort: a greater value first, an equal one at the lower position first. -/
def Ahead {n : ℕ} (f : Fin n → EReal) (a b : Fin n) : Prop := f b < f a ∨ (f b = f a ∧ a < b)

theorem Ahead.of_le_lt {n : ℕ} {f : Fin n → EReal} {a b : Fin n} (h : ¬ f a < f b) (hab : a < b) : Ahead f a b := by
  rcases lt_or_eq_of_le (not_lt.mp h) with h | h
  · exact Or.inl h
  · exact Or.inr ⟨h, hab⟩

theorem Ahead.trans {n : ℕ} {f : Fin n → EReal} {a b c : Fin n} (h : Ahead f a b) (h' : Ahead f b c) : Ahead f a c := by
  rcases h with h | ⟨h, l⟩ <;> rcases h' with h' | ⟨h', l'⟩
  · exact Or.inl (h'.trans h)
  · exact Or.inl (h' ▸ h)
  · exact Or.inl (h ▸ h')
  · exact Or.inr ⟨h'.trans h, l.trans l'⟩

/-- Inserting a position lower than all those of an ordered list keeps the list ordered. -/
theorem pairwise_insert {n : ℕ} (f : Fin n → EReal) (R : Fin n → Fin n → Bool) (hR : ∀ a b, R a b = true ↔ f b < f a)
    (a : Fin n) (l : List (Fin n)) (ha : ∀ b ∈ l, a < b) (hl : l.Pairwise (Ahead f)) :
    (insertBefore R a l).Pairwise (Ahead f) := by
  induction l with
  | nil => exact List.pairwise_singleton _ _
  | cons b l ih =>
    rw [List.pairwise_cons] at hl
    unfold insertBefore
    split
    · rename_i h
      refine List.pairwise_cons.mpr ⟨fun c hc => ?_, ih (fun x hx => ha x (List.mem_cons_of_mem _ hx)) hl.2⟩
      rcases List.mem_cons.mp ((perm_insertBefore R a l).mem_iff.mp hc) with rfl | hc'
      · exact Or.inl ((hR _ _).mp h)
      · exact hl.1 c hc'
    · rename_i h
      have hab : Ahead f a b := Ahead.of_le_lt (fun h' => h ((hR b a).mpr h')) (ha b List.mem_cons_self)
      refine List.pairwise_cons.mpr ⟨fun c hc => ?_, List.pairwise_cons.mpr hl⟩
      rcases List.mem_cons.mp hc with rfl | hc'
      · exact hab
      · exact hab.trans (hl.1 c hc')

/-- A stable sort by "greater first" of increasing positions is ordered. -/
theorem pairwise_sort {n : ℕ} (f : Fin n → EReal) (R : Fin n → Fin n → Bool) (hR : ∀ a b, R a b = true ↔ f b < f a)
    (l : List (Fin n)) (hl : l.Pairwise (· < ·)) : (stableSort R l).Pairwise (Ahead f) := by
  induction l with
  | nil => exact List.Pairwise.nil
  | cons a l ih =>
    rw [List.pairwise_cons] at hl
    unfold stableSort
    exact pairwise_insert f R hR a _ (fun b hb => hl.1 b ((perm_stableSort R l).mem_iff.mp hb)) (ih hl.2)

/-- What a stable sort by "greater first" puts at two places is in that order. -/
theorem sorted_ahead {n : ℕ} (f : Fin n → EReal) (R : Fin n → Fin n → Bool) (hR : ∀ a b, R a b = true ↔ f b < f a)
    (i j : Fin n) (hij : i < j) : Ahead f (sortedFrom R i) (sortedFrom R j) := by
  have hp : ∀ a b : Fin (sortPositions n R).length, a < b →
      Ahead f ((sortPositions n R).get a) ((sortPositions n R).get b) :=
    List.pairwise_iff_get.mp (pairwise_sort f R hR (List.finRange n) (List.pairwise_lt_finRange n))
  unfold sortedFrom
  exact hp _ _ (by simp only [Fin.lt_def, Fin.val_cast]; exact hij)

/-- The stable sort's first position is the first of the greatest. -/
theorem sorted_first {n : ℕ} (f : Fin n → EReal) (R : Fin n → Fin n → Bool) (hR : ∀ a b, R a b = true ↔ f b < f a)
    (z : Fin n) (hz : z.val = 0) : FirstMax f (sortedFrom R z) := by
  have key : ∀ j, j = sortedFrom R z ∨ Ahead f (sortedFrom R z) j := by
    intro j
    obtain ⟨q, rfl⟩ := sortedFrom_surjective R j
    rcases Nat.eq_zero_or_pos q.val with h | h
    · exact Or.inl (congrArg _ (Fin.ext (h.trans hz.symm)))
    · exact Or.inr (sorted_ahead f R hR z q (by rw [Fin.lt_def, hz]; exact h))
  refine ⟨fun j => ?_, fun j hj => ?_⟩
  · rcases key j with rfl | h | ⟨h, _⟩
    · exact le_rfl
    · exact h.le
    · exact h.le
  · rcases key j with rfl | h | ⟨_, h⟩
    · exact le_rfl
    · exact absurd hj h.ne
    · exact h.le

/-- The stable sort's second position is the first of the greatest among the positions other than its first. -/
theorem sorted_second {n : ℕ} (f : Fin n → EReal) (R : Fin n → Fin n → Bool) (hR : ∀ a b, R a b = true ↔ f b < f a)
    (z o : Fin n) (hz : z.val = 0) (ho : o.val = 1) : sortedFrom R o ≠ sortedFrom R z
      ∧ (∀ j, j ≠ sortedFrom R z → f j ≤ f (sortedFrom R o))
      ∧ ∀ j, j ≠ sortedFrom R z → f j = f (sortedFrom R o) → sortedFrom R o ≤ j := by
  have key : ∀ j, j ≠ sortedFrom R z → j = sortedFrom R o ∨ Ahead f (sortedFrom R o) j := by
    intro j hj
    obtain ⟨q, rfl⟩ := sortedFrom_surjective R j
    rcases Nat.lt_or_ge 1 q.val with h | h
    · exact Or.inr (sorted_ahead f R hR o q (by rw [Fin.lt_def, ho]; exact h))
    · rcases Nat.lt_or_ge 0 q.val with h' | h'
      · exact Or.inl (congrArg _ (Fin.ext (by omega)))
      · exact absurd (congrArg _ (Fin.ext (by omega))) hj
  refine ⟨fun h => ?_, fun j hj => ?_, fun j hj he => ?_⟩
  · have := sortedFrom_injective R h
    rw [this] at ho
    omega
  · rcases key j hj with rfl | h | ⟨h, _⟩
    · exact le_rfl
    · exact h.le
    · exact h.le
  · rcases key j hj with rfl | h | ⟨_, h⟩
    · exact le_rfl
    · exact absurd he h.ne
    · exact h.le

/-- The maximum of `f` folded from `⊥` is its value at the first position of the greatest. -/
theorem fold_max {n : ℕ} {f : Fin n → EReal} {i : Fin n} (h : FirstMax f i) :
    Finset.univ.fold max (⊥ : EReal) f = f i := by
  have h1 : Finset.univ.fold max (⊥ : EReal) f = Finset.univ.sup f := rfl
  rw [h1]
  exact le_antisymm (Finset.sup_le fun j _ => h.1 j) (Finset.le_sup (f := f) (Finset.mem_univ i))

/-- The signed minimum of words folded over all positions is the word at a position that no other word and not the
    start is below. -/
theorem fold_minsi {n : ℕ} (g : Fin n → BitVec 32) (b : BitVec 32) (i : Fin n) (hb : (g i).toInt ≤ b.toInt)
    (h : ∀ j, (g i).toInt ≤ (g j).toInt) : Finset.univ.fold IntOp.minsi b g = g i := by
  have key : ∀ s : Finset (Fin n), (s.fold IntOp.minsi b g = b ∨ ∃ k ∈ s, s.fold IntOp.minsi b g = g k)
      ∧ ∀ k ∈ s, (s.fold IntOp.minsi b g).toInt ≤ (g k).toInt := by
    intro s
    induction s using Finset.induction_on with
    | empty => exact ⟨Or.inl rfl, fun k hk => absurd hk (Finset.notMem_empty k)⟩
    | insert a s ha ih =>
      rw [Finset.fold_insert ha]
      have hm : ∀ x y : BitVec 32, IntOp.minsi x y = if x.slt y = true then x else y := fun _ _ => rfl
      rw [hm]
      by_cases hlt : (g a).slt (s.fold IntOp.minsi b g) = true
      · rw [if_pos hlt]
        have hlt' := (BitVec.slt_iff_toInt_lt).mp hlt
        refine ⟨Or.inr ⟨a, Finset.mem_insert_self a s, rfl⟩, fun k hk => ?_⟩
        rcases Finset.mem_insert.mp hk with rfl | hk
        · exact le_rfl
        · exact hlt'.le.trans (ih.2 k hk)
      · rw [if_neg hlt]
        have hlt' : ¬ (g a).toInt < (s.fold IntOp.minsi b g).toInt := fun h => hlt ((BitVec.slt_iff_toInt_lt).mpr h)
        refine ⟨ih.1.imp_right fun ⟨k, hk, e⟩ => ⟨k, Finset.mem_insert_of_mem hk, e⟩, fun k hk => ?_⟩
        rcases Finset.mem_insert.mp hk with rfl | hk
        · omega
        · exact ih.2 k hk
  have hall := key Finset.univ
  apply BitVec.eq_of_toInt_eq
  refine le_antisymm (hall.2 i (Finset.mem_univ i)) ?_
  rcases hall.1 with e | ⟨k, _, e⟩
  · rw [e]; exact hb
  · rw [e]; exact h k

/-- A position below 16 read back as a signed word is itself. -/
theorem toInt_pos {n : ℕ} (hn : n ≤ 16) (k : Fin n) : (BitVec.ofNat 32 k.val).toInt = (k.val : ℤ) := by
  have := k.isLt
  rw [BitVec.toInt_ofNat', Int.bmod_def]
  omega

/-- The least position among those that reach the maximum, the others standing at `n`, is the first of the greatest. -/
theorem fold_first {n : ℕ} (hn : n ≤ 16) {f : Fin n → EReal} {i : Fin n} (h : FirstMax f i) (c : BitVec 32)
    (hc : c.toInt = (n : ℤ)) (M : EReal) (hM : M = f i) :
    Finset.univ.fold IntOp.minsi 2147483647#32 (fun k : Fin n => if f k = M then BitVec.ofNat 32 k.val else c)
      = BitVec.ofNat 32 i.val := by
  subst hM
  have hi := i.isLt
  rw [fold_minsi _ _ i]
  · rw [if_pos rfl]
  · rw [if_pos rfl, toInt_pos hn]
    have : (2147483647#32 : BitVec 32).toInt = 2147483647 := by decide
    omega
  · intro j
    rw [if_pos rfl, toInt_pos hn]
    by_cases hj : f j = f i
    · rw [if_pos hj, toInt_pos hn]
      have := h.2 j hj
      rw [Fin.le_def] at this
      omega
    · rw [if_neg hj, hc]
      omega

end Cert.Order

end
-- ==== Proof.Router.lean ====
module

public import proofs.«01_k».proof.Proof.Order
public import Idealize.ShloMosaic.Lib.Pointwise
public import Idealize.ShloMosaic.PureOps.Ideal.Laws
public import Idealize.ShloMosaic.Lib.StableHlo.Predicate

@[expose] public section

noncomputable section

namespace Cert.Router

open Idealize.ShloMosaic Cert.Order

/-- A selection on the equality of two words is the case distinction on it. -/
theorem sel_eq {α : Type} (a b : BitVec 32) (x y : α) :
    Scalar.select (IntOp.cmpi .eq a b) x y = if a = b then x else y := by
  by_cases h : a = b
  · rw [if_pos h, Idealize.ShloMosaic.StableHlo.Predicate.cmpi_eq_iff.2 h]; rfl
  · rw [if_neg h]
    exact if_neg fun hc => h (Idealize.ShloMosaic.StableHlo.Predicate.cmpi_eq_iff.1 hc)

/-- The number of the truth of an equality of two words is one or zero. -/
theorem num_eq (a b : BitVec 32) :
    (FloatOps.uitofp FTy.f32 (IntOp.cmpi .eq a b) : Ideal .f32) = if a = b then 1 else 0 := by
  by_cases h : a = b
  · rw [if_pos h, Idealize.ShloMosaic.StableHlo.Predicate.cmpi_eq_iff.2 h]
    exact show (((1#1 : BitVec 1).toNat : ℝ) : EReal) = 1 by simp
  · rw [if_neg h]
    have : IntOp.cmpi .eq a b = 0#1 := by
      rcases BitVec.eq_zero_or_eq_one (IntOp.cmpi .eq a b) with h' | h'
      · exact h'
      · exact absurd (Idealize.ShloMosaic.StableHlo.Predicate.cmpi_eq_iff.1 h') h
    rw [this]
    exact show (((0#1 : BitVec 1).toNat : ℝ) : EReal) = 0 by simp

/-- The comparison a top-k sorts by is the order of the extended reals. -/
theorem gt_iff (a b : Ideal .f32) : (FloatOps.cmpfTotal CmpDirection.gt a b == 1#1) = true ↔ b < a := by
  rw [beq_iff_eq, Ideal.cmpfTotal_def]
  by_cases h : b < a
  · simp [Ideal.cmp, CmpDirection.ordered, h]
  · simp [Ideal.cmp, CmpDirection.ordered, h]

/-- The word of minus infinity. -/
theorem ninf : Ideal.ofBits FTy.f32 4286578688#32 = (⊥ : EReal) := by
  simp [Ideal.ofBits, Ideal.ieee]

/-- The place of an expert of a group among all experts. -/
def pos (G A : Fin 4) : Fin 16 := ⟨4 * G.val + A.val, by omega⟩

theorem pos_inj (G A B : Fin 4) (h : pos G A = pos G B) : A = B := by
  have := congrArg Fin.val h
  simp only [pos] at this
  exact Fin.ext (by omega)

theorem pos_le (G A B : Fin 4) (h : A ≤ B) : pos G A ≤ pos G B := by
  simp only [pos, Fin.le_def] at *
  omega

theorem pos_of_div (G : Fin 4) (k : Fin 16) (h : k.val / 4 = G.val) : ∃ A, k = pos G A :=
  ⟨⟨k.val % 4, by omega⟩, Fin.ext (by simp only [pos]; omega)⟩

theorem pos_div (G A : Fin 4) : (pos G A).val / 4 = G.val := by simp only [pos]; omega

theorem ofNat_inj16 (a b : Fin 16) : BitVec.ofNat 32 a.val = BitVec.ofNat 32 b.val ↔ a = b := by
  revert a b; decide

theorem ofNat_inj4 (a b : Fin 4) : BitVec.ofNat 32 a.val = BitVec.ofNat 32 b.val ↔ a = b := by
  revert a b; decide

theorem word_pos (G A : Fin 4) :
    IntOp.addi (IntOp.muli (BitVec.ofNat 32 G.val) 4#32) (BitVec.ofNat 32 A.val) = BitVec.ofNat 32 (pos G A).val := by
  revert G A; decide

/-- What a token's logits select: `G` the first greatest group, `A` the first greatest of its experts and `B` the
    first greatest of the others. -/
structure Route (gl : Fin 4 → EReal) (el : Fin 16 → EReal) (G A B : Fin 4) : Prop where
  group : FirstMax gl G
  first : FirstMax (fun j => el (pos G j)) A
  ne : B ≠ A
  second : ∀ j, j ≠ A → el (pos G j) ≤ el (pos G B)
  least : ∀ j, j ≠ A → el (pos G j) = el (pos G B) → B ≤ j

/-- The quotient of the second weight to the first. -/
def ratio (el : Fin 16 → EReal) (G A B : Fin 4) : EReal := Ideal.exp (el (pos G B) - el (pos G A))

/-- The softmax weight of the selected group. -/
def share (gl : Fin 4 → EReal) (G : Fin 4) : EReal := Ideal.div 1 (∑ x, Ideal.exp (gl x - gl G))

/-- A token's gate of expert `e`. -/
def gate (gl : Fin 4 → EReal) (el : Fin 16 → EReal) (G A B : Fin 4) (e : Fin 16) : EReal :=
  if e = pos G A then Ideal.div 1 (1 + ratio el G A B) * share gl G
  else if e = pos G B then ratio el G A B * Ideal.div 1 (1 + ratio el G A B) * share gl G
  else 0

section reference

/-- The masked sum over the groups is the selected group's logit. -/
theorem ein (el : Fin 16 → EReal) (G : Fin 4) (f : Fin 4) (hb : ∀ x : Fin 4, x.val * 4 + f.val < 16) :
    (∑ x : Fin 4, el ⟨x.val * 4 + f.val, hb x⟩ *
      (FloatOps.uitofp FTy.f32 (IntOp.cmpi .eq (BitVec.ofNat 32 G.val) (BitVec.ofNat 32 x.val)) : Ideal .f32))
    = el (pos G f) := by
  rw [Finset.sum_eq_single G]
  · rw [num_eq, if_pos rfl]
    refine (mul_one _).trans (congrArg el (Fin.ext ?_))
    simp only [pos]; omega
  · intro x _ hx
    rw [num_eq, if_neg (fun h => hx ((ofNat_inj4 _ _).1 h).symm)]
    exact mul_zero _
  · exact fun h => absurd (Finset.mem_univ G) h

/-- The greatest weight of the softmax of the groups. -/
theorem gprob (g : Fin 4 → ℝ) (G : Fin 4) (h : FirstMax (fun x => (g x : EReal)) G) :
    Finset.univ.fold max (Ideal.ofBits FTy.f32 4286578688#32) (fun y : Fin 4 =>
      Ideal.div (Ideal.exp ((g y : EReal) - max (Ideal.ofBits FTy.f32 4286578688#32)
          (Finset.univ.fold max (Ideal.ofBits FTy.f32 4286578688#32) fun x => (g x : EReal))))
        (∑ x, Ideal.exp ((g x : EReal) - max (Ideal.ofBits FTy.f32 4286578688#32)
          (Finset.univ.fold max (Ideal.ofBits FTy.f32 4286578688#32) fun x => (g x : EReal)))))
    = share (fun x => (g x : EReal)) G := by
  rw [ninf, fold_max h, max_eq_right bot_le]
  have hs : (∑ x, Ideal.exp ((g x : EReal) - (g G : EReal))) = ((∑ x, Real.exp (g x - g G) : ℝ) : EReal) := by
    simp only [← EReal.coe_sub, Ideal.exp_coe, Fin.sum_univ_four, EReal.coe_add]
  have hpos : (0 : ℝ) < ∑ x, Real.exp (g x - g G) := Finset.sum_pos (fun x _ => Real.exp_pos _) ⟨G, Finset.mem_univ _⟩
  have hf : ∀ y, Ideal.div (Ideal.exp ((g y : EReal) - (g G : EReal))) (∑ x, Ideal.exp ((g x : EReal) - (g G : EReal)))
      = ((Real.exp (g y - g G) * (1 / ∑ x, Real.exp (g x - g G)) : ℝ) : EReal) := by
    intro y
    rw [hs, Ideal.div_coe hpos.ne', ← EReal.coe_sub, Ideal.exp_coe, ← EReal.coe_mul]
  simp only [hf]
  have hm : ∀ y, g y ≤ g G := fun y => EReal.coe_le_coe_iff.1 (h.1 y)
  have : Finset.univ.fold max (⊥ : EReal) (fun y : Fin 4 => ((Real.exp (g y - g G) * (1 / ∑ x, Real.exp (g x - g G)) : ℝ) : EReal))
      = ((Real.exp (g G - g G) * (1 / ∑ x, Real.exp (g x - g G)) : ℝ) : EReal) := by
    have h1 : ∀ f : Fin 4 → EReal, Finset.univ.fold max (⊥ : EReal) f = Finset.univ.sup f := fun _ => rfl
    rw [h1]
    refine le_antisymm (Finset.sup_le fun j _ => ?_) (Finset.le_sup (f := fun y : Fin 4 => ((Real.exp (g y - g G) * (1 / ∑ x, Real.exp (g x - g G)) : ℝ) : EReal)) (Finset.mem_univ G))
    refine EReal.coe_le_coe_iff.2 (mul_le_mul_of_nonneg_right (Real.exp_le_exp.2 ?_) (by positivity))
    have := hm j
    linarith
  rw [this, share]
  simp only [hs]
  rw [Ideal.div_coe hpos.ne', sub_self, Real.exp_zero, EReal.coe_mul, EReal.coe_one]

/-- The softmax of the two greatest logits. -/
theorem two (v : Fin 2 → ℝ) (h : v 1 ≤ v 0) :
    let w : Fin 2 → EReal := fun f =>
      Ideal.div (Ideal.exp ((v f : EReal) - max (Ideal.ofBits FTy.f32 4286578688#32)
          (Finset.univ.fold max (Ideal.ofBits FTy.f32 4286578688#32) fun x => (v x : EReal))))
        (∑ x, Ideal.exp ((v x : EReal) - max (Ideal.ofBits FTy.f32 4286578688#32)
          (Finset.univ.fold max (Ideal.ofBits FTy.f32 4286578688#32) fun x => (v x : EReal))))
    w 0 = Ideal.div 1 (1 + Ideal.exp ((v 1 : EReal) - (v 0 : EReal)))
    ∧ w 1 = Ideal.exp ((v 1 : EReal) - (v 0 : EReal)) * Ideal.div 1 (1 + Ideal.exp ((v 1 : EReal) - (v 0 : EReal))) := by
  intro w
  have hm : max (Ideal.ofBits FTy.f32 4286578688#32)
          (Finset.univ.fold max (Ideal.ofBits FTy.f32 4286578688#32) fun x : Fin 2 => (v x : EReal)) = (v 0 : EReal) := by
    have h1 : ∀ f : Fin 2 → EReal, Finset.univ.fold max (⊥ : EReal) f = Finset.univ.sup f := fun _ => rfl
    rw [ninf, h1, max_eq_right bot_le]
    refine le_antisymm (Finset.sup_le fun j _ => ?_) (Finset.le_sup (f := fun x : Fin 2 => (v x : EReal)) (Finset.mem_univ 0))
    refine EReal.coe_le_coe_iff.2 ?_
    match j with
    | 0 => exact le_rfl
    | 1 => exact h
  have h0 : Ideal.exp ((v 0 : EReal) - (v 0 : EReal)) = 1 := by
    rw [← EReal.coe_sub, Ideal.exp_coe, sub_self, Real.exp_zero, EReal.coe_one]
  have hs : (1 : EReal) + Ideal.exp ((v 1 : EReal) - (v 0 : EReal)) = ((1 + Real.exp (v 1 - v 0) : ℝ) : EReal) := by
    rw [← EReal.coe_sub, Ideal.exp_coe, EReal.coe_add, EReal.coe_one]
  have hp : (1 + Real.exp (v 1 - v 0)) ≠ 0 := (by positivity : (0 : ℝ) < 1 + Real.exp (v 1 - v 0)).ne'
  simp only [w, hm, Fin.sum_univ_two, h0, hs, true_and, Ideal.div_coe hp, one_mul]

/-- The reference's gates: the weight of each selected expert at its place. -/
theorem gates_ref (G A B : Fin 4) (hAB : B ≠ A) (w : Fin 2 → EReal) (i : Fin 2 → BitVec 32)
    (hA : i 0 = BitVec.ofNat 32 A.val) (hB : i 1 = BitVec.ofNat 32 B.val) (f : Fin 16) :
    (∑ x : Fin 2, (FloatOps.uitofp FTy.f32 (IntOp.cmpi .eq (IntOp.addi (IntOp.muli (BitVec.ofNat 32 G.val) 4#32) (i x))
      (BitVec.ofNat 32 f.val)) : Ideal .f32) * w x)
    = if f = pos G A then w 0 else if f = pos G B then w 1 else (0 : EReal) := by
  rw [Fin.sum_univ_two, hA, hB, word_pos, word_pos, num_eq, num_eq]
  simp only [ofNat_inj16]
  by_cases h1 : f = pos G A
  · have h2 : ¬ pos G B = f := fun h2 => hAB (pos_inj G B A (h2.trans h1))
    rw [if_pos h1.symm, if_neg h2, if_pos h1]
    exact (congrArg₂ (· + ·) (one_mul _) (zero_mul _)).trans (add_zero _)
  · rw [if_neg (fun h => h1 h.symm), if_neg h1]
    by_cases h2 : f = pos G B
    · rw [if_pos h2.symm, if_pos h2]
      exact (congrArg₂ (· + ·) (zero_mul _) (one_mul _)).trans (zero_add _)
    · rw [if_neg (fun h => h2 h.symm), if_neg h2]
      exact (congrArg₂ (· + ·) (zero_mul _) (zero_mul _)).trans (zero_add _)

end reference

section kernel

/-- The candidates: the selected group's logits, minus infinity elsewhere. -/
def cand (el : Fin 16 → EReal) (G : Fin 4) (k : Fin 16) : EReal := if k.val / 4 = G.val then el k else ⊥

/-- The candidates without the first choice. -/
def cand2 (el : Fin 16 → EReal) (G A : Fin 4) (k : Fin 16) : EReal := if k = pos G A then ⊥ else cand el G k

theorem cand_pos (el : Fin 16 → EReal) (G A : Fin 4) : cand el G (pos G A) = el (pos G A) := if_pos (pos_div G A)

/-- The first choice is the first greatest candidate. -/
theorem cand_first {gl : Fin 4 → EReal} {el : Fin 16 → EReal} {G A B : Fin 4} (hr : Route gl el G A B)
    (hb : ∀ k, el k ≠ ⊥) : FirstMax (cand el G) (pos G A) := by
  constructor
  · intro k
    rw [cand_pos]
    by_cases h : k.val / 4 = G.val
    · obtain ⟨j, rfl⟩ := pos_of_div G k h
      rw [cand_pos]; exact hr.first.1 j
    · rw [cand, if_neg h]; exact bot_le
  · intro k hk
    rw [cand_pos] at hk
    by_cases h : k.val / 4 = G.val
    · obtain ⟨j, rfl⟩ := pos_of_div G k h
      rw [cand_pos] at hk
      exact pos_le G A j (hr.first.2 j hk)
    · rw [cand, if_neg h] at hk
      exact absurd hk.symm (hb _)

/-- The second choice is the first greatest candidate once the first is taken out. -/
theorem cand2_first {gl : Fin 4 → EReal} {el : Fin 16 → EReal} {G A B : Fin 4} (hr : Route gl el G A B)
    (hb : ∀ k, el k ≠ ⊥) : FirstMax (cand2 el G A) (pos G B) := by
  have hne : ¬ pos G B = pos G A := fun h => hr.ne (pos_inj G B A h)
  have hB : cand2 el G A (pos G B) = el (pos G B) := by rw [cand2, if_neg hne, cand_pos]
  constructor
  · intro k
    rw [hB]
    by_cases hA : k = pos G A
    · rw [cand2, if_pos hA]; exact bot_le
    · rw [cand2, if_neg hA]
      by_cases h : k.val / 4 = G.val
      · obtain ⟨j, rfl⟩ := pos_of_div G k h
        rw [cand_pos]
        exact hr.second j fun hj => hA (by rw [hj])
      · rw [cand, if_neg h]; exact bot_le
  · intro k hk
    rw [hB] at hk
    by_cases hA : k = pos G A
    · rw [cand2, if_pos hA] at hk; exact absurd hk.symm (hb _)
    · rw [cand2, if_neg hA] at hk
      by_cases h : k.val / 4 = G.val
      · obtain ⟨j, rfl⟩ := pos_of_div G k h
        rw [cand_pos] at hk
        exact pos_le G B j (hr.least j (fun hj => hA (by rw [hj])) hk)
      · rw [cand, if_neg h] at hk
        exact absurd hk.symm (hb _)

end kernel

end Cert.Router

end
-- ==== Proof.KPay.lean ====
module

public import proofs.«01_k».proof.Proof.Gen.KernelIdeal.Frame
public import proofs.«01_k».proof.Proof.Router
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

/-- The word of expert `k` of the step `e`. -/
theorem lane_word (e : Fin 4) (k : Fin 4) :
    Scalar.addi (Scalar.muli (BitVec.ofNat 32 e.val) 4#32) (BitVec.ofNat 32 k.val) = BitVec.ofNat 32 (Router.pos e k).val := by
  revert e k; decide

/-- The masked sum over the lanes reads the lane of the expert. -/
theorem lane_sum (e : Fin 4) (k : Fin 4) (g : Fin 128 → EReal) (w : BitVec 32)
    (hw : w = BitVec.ofNat 32 (Router.pos e k).val) :
    (∑ x : Fin 128, Scalar.select (IntOp.cmpi CmpIPredicate.eq (BitVec.ofNat 32 x.val) w) (g x) 0)
      = g ⟨(Router.pos e k).val, by have := (Router.pos e k).isLt; omega⟩ := by
  subst hw
  have hp := (Router.pos e k).isLt
  rw [Finset.sum_eq_single ⟨(Router.pos e k).val, by omega⟩]
  · rw [Router.sel_eq, if_pos rfl]
  · intro x _ hx
    rw [Router.sel_eq, if_neg]
    intro h
    have h2 := congrArg BitVec.toNat h
    simp only [BitVec.toNat_ofNat] at h2
    have hx128 := x.isLt
    rw [Nat.mod_eq_of_lt (by omega), Nat.mod_eq_of_lt (by omega)] at h2
    exact hx (Fin.ext h2)
  · exact fun h => absurd (Finset.mem_univ _) h

/-- One hidden unit of one expert: silu of the first projection times the second. -/
def hid (x w1 w3 : Fin 1024 → EReal) : EReal :=
  (∑ d, x d * w1 d) * Ideal.div 1 (1 + Ideal.exp (-∑ d, x d * w1 d)) * ∑ d, x d * w3 d

section
variable (i : grid0.Coords) (v3 : Vec Ideal S1024x1024 .bf16) (v5 : Vec Ideal S1024x128 .f32)
  (v6 v9 : Vec Ideal S1x1x1024x256 .bf16) (r : Fin 1024) (f : Fin 256)

theorem pay27_at (e : Fin 4) (he : (i 1).val = e.val) : k0_pay27 i v3 v5 v6 v9 (ix2 r f)
    = hid (fun d => v3 (ix2 r d)) (fun d => v6 (ix4 0 0 d f)) (fun d => v9 (ix4 0 0 d f))
      * v5 (ix2 r ⟨(Router.pos e 0).val, by have := (Router.pos e 0).isLt; omega⟩) := by
  unfold k0_pay27
  pointwise
  rw [lane_sum e 0 (fun x => v5 (ix2 r x)) _ (by rw [← lane_word, he]; rfl)]
  simp only [hid, zero_sub]

theorem pay28_at (b : BitVec 32) (e : Fin 4) (he : b = BitVec.ofNat 32 e.val) :
    k0_pay28 b v3 (iota Kind.tc S1x128 32 [1] iota_S1x128_d1_w32) v5 v6 v9 (ix2 r f)
    = hid (fun d => v3 (ix2 r d)) (fun d => v6 (ix4 0 0 d f)) (fun d => v9 (ix4 0 0 d f))
      * v5 (ix2 r ⟨(Router.pos e 1).val, by have := (Router.pos e 1).isLt; omega⟩) := by
  unfold k0_pay28
  pointwise
  rw [lane_sum e 1 (fun x => v5 (ix2 r x)) _ (by rw [← lane_word, he]; rfl)]
  simp only [hid, zero_sub]

theorem pay31_at (b : BitVec 32) (e : Fin 4) (he : b = BitVec.ofNat 32 e.val) :
    k0_pay31 b v3 (iota Kind.tc S1x128 32 [1] iota_S1x128_d1_w32) v5 (k0_pay29 v3 v6) (k0_pay30 v9)
      (constant S1024x256 FTy.f32 0#32) (ix2 r f)
    = hid (fun d => v3 (ix2 r d)) (fun d => v6 (ix4 0 0 d f)) (fun d => v9 (ix4 0 0 d f))
      * v5 (ix2 r ⟨(Router.pos e 2).val, by have := (Router.pos e 2).isLt; omega⟩) := by
  unfold k0_pay31 k0_pay29 k0_pay30
  pointwise
  rw [lane_sum e 2 (fun x => v5 (ix2 r x)) _ (by rw [← lane_word, he]; rfl)]
  simp only [hid, zero_sub]
end

/-- A sum over four joined blocks of 256 is the sum over the blocks. -/
theorem chain_sum (a0 a1 a2 a3 : Fin 256 → EReal) (w q : Fin 4 → Fin 256 → EReal)
    (h0 : ∀ k, a0 k = q 0 k) (h1 : ∀ k, a1 k = q 1 k) (h2 : ∀ k, a2 k = q 2 k) (h3 : ∀ k, a3 k = q 3 k) :
    (∑ x : Fin 1024, (if h : x.val < 256 then a0 ⟨x.val, h⟩ else if h : x.val - 256 < 256 then a1 ⟨x.val - 256, h⟩
      else if h : x.val - 256 - 256 < 256 then a2 ⟨x.val - 256 - 256, h⟩
      else a3 ⟨x.val - 256 - 256 - 256, by omega⟩) * w ⟨x.val / 256, by omega⟩ ⟨x.val % 256, by omega⟩)
    = ∑ j : Fin 4, ∑ k : Fin 256, q j k * w j k := by
  have key : ∀ x : Fin 1024, (if h : x.val < 256 then a0 ⟨x.val, h⟩ else if h : x.val - 256 < 256 then a1 ⟨x.val - 256, h⟩
      else if h : x.val - 256 - 256 < 256 then a2 ⟨x.val - 256 - 256, h⟩
      else a3 ⟨x.val - 256 - 256 - 256, by omega⟩) = q ⟨x.val / 256, by omega⟩ ⟨x.val % 256, by omega⟩ := by
    intro x
    have hx := x.isLt
    split_ifs with g0 g1 g2
    · rw [h0]; exact congrArg₂ q (Fin.ext (by show 0 = x.val / 256; omega)) (Fin.ext (by show x.val = x.val % 256; omega))
    · rw [h1]; exact congrArg₂ q (Fin.ext (by show 1 = x.val / 256; omega)) (Fin.ext (by show x.val - 256 = x.val % 256; omega))
    · rw [h2]; exact congrArg₂ q (Fin.ext (by show 2 = x.val / 256; omega)) (Fin.ext (by show x.val - 256 - 256 = x.val % 256; omega))
    · rw [h3]; exact congrArg₂ q (Fin.ext (by show 3 = x.val / 256; omega)) (Fin.ext (by show x.val - 256 - 256 - 256 = x.val % 256; omega))
  rw [Finset.sum_congr rfl fun x _ => congrArg (· * w ⟨x.val / 256, by omega⟩ ⟨x.val % 256, by omega⟩) (key x)]
  rw [Fin.sum_univ_tiles 4 256 rfl]
  refine Finset.sum_congr rfl fun j _ => Finset.sum_congr rfl fun k _ => ?_
  have hk := k.isLt
  have e1 : ∀ p, (⟨(j.val * 256 + k.val) / 256, p⟩ : Fin 4) = j := fun p => Fin.ext (by show (j.val * 256 + k.val) / 256 = j.val; omega)
  have e2 : ∀ p, (⟨(j.val * 256 + k.val) % 256, p⟩ : Fin 256) = k := fun p => Fin.ext (by show (j.val * 256 + k.val) % 256 = k.val; omega)
  simp only [e1, e2]

/-- The accumulator after a step: what it held plus, for each of the step's four experts, its gated hidden layer
    times its second projection. -/
theorem pay1_at (p0 p1 p2 : FVec Ideal S1024x256 .bf16) (b : BitVec 32) (e : Fin 4) (he : b = BitVec.ofNat 32 e.val)
    (v3 : Vec Ideal S1024x1024 .bf16) (v5 : Vec Ideal S1024x128 .f32) (v6 v9 : Vec Ideal S1x1x1024x256 .bf16)
    (acc : Vec Ideal S1024x1024 .f32) (w2 : Vec Ideal S1x4x256x1024 .bf16) (r f : Fin 1024)
    (q : Fin 4 → Fin 256 → EReal) (h0 : ∀ k, p0 (ix2 r k) = q 0 k) (h1 : ∀ k, p1 (ix2 r k) = q 1 k)
    (h2 : ∀ k, p2 (ix2 r k) = q 2 k)
    (h3 : ∀ k, hid (fun d => v3 (ix2 r d)) (fun d => v6 (ix4 0 0 d k)) (fun d => v9 (ix4 0 0 d k))
      * v5 (ix2 r ⟨(Router.pos e 3).val, by have := (Router.pos e 3).isLt; omega⟩) = q 3 k) :
    k0_pay1 p0 p1 p2 (k0_pay32 v3 v6) (k0_pay33 v3 v9) (k0_pay34 b (iota Kind.tc S1x128 32 [1] iota_S1x128_d1_w32) v5)
      acc w2 (ix2 r f) = acc (ix2 r f) + ∑ j : Fin 4, ∑ k : Fin 256, q j k * w2 (ix4 0 j k f) := by
  unfold k0_pay1 k0_pay32 k0_pay33 k0_pay34
  pointwise
  rw [lane_sum e 3 (fun x => v5 (ix2 r x)) _ (by rw [← lane_word, he]; rfl)]
  refine congrArg (acc (ix2 r f) + ·) ?_
  refine (chain_sum (fun k => p0 (ix2 r k)) (fun k => p1 (ix2 r k)) (fun k => p2 (ix2 r k)) (fun k =>
    ((∑ x, v3 (ix2 r x) * v6 (ix4 0 0 x k)) * Ideal.div 1 (1 + Ideal.exp (0 - ∑ x, v3 (ix2 r x) * v6 (ix4 0 0 x k)))
      * ∑ x, v3 (ix2 r x) * v9 (ix4 0 0 x k)) * v5 (ix2 r ⟨(Router.pos e 3).val, by have := (Router.pos e 3).isLt; omega⟩))
    (fun j k => w2 (ix4 0 j k f)) q h0 h1 h2 ?_)
  intro k
  refine Eq.trans ?_ (h3 k)
  simp only [hid, zero_sub]

/-- The residual plus the gated sum. -/
theorem pay2_at (v131 : Vec Ideal S1024x1024 .f32) (v132 : Vec Ideal S1x1x1x1024 .f32) (v134 : Vec Ideal S1024x1024 .f32)
    (r f : Fin 1024) : k0_pay2 v131 v132 v134 (ix2 r f) = v131 (ix2 r f) + v132 (ix4 0 0 0 f) * v134 (ix2 r f) := by
  unfold k0_pay2
  pointwise

/-- The modulated norm of one token. -/
def norm (h g s t : Fin 1024 → EReal) (d : Fin 1024) : EReal :=
  h d * Ideal.rsqrt (Ideal.div (∑ x, h x * h x) (Ideal.ofBits FTy.f32 1149239296#32) + Ideal.ofBits FTy.f32 897988541#32)
    * g d * (1 + s d) + t d

section
variable (v131 : Vec Ideal S1024x1024 .f32) (v132 : Vec Ideal S1x1x1024 .f32) (v134 v136 : Vec Ideal S1x1x1x1024 .f32)
  (v163 : Vec Ideal S1x64x1024 .bf16) (v169 : Vec Ideal S1x32x1024 .bf16) (v173 : Vec Ideal S1x32x1 .f32)

theorem pay3_at (r f : Fin 1024) : k0_pay3 v131 v132 v134 v136 (ix2 r f)
    = norm (fun d => v131 (ix2 r d)) (fun d => v132 (ix3 0 0 d)) (fun d => v134 (ix4 0 0 0 d)) (fun d => v136 (ix4 0 0 0 d)) f := by
  unfold k0_pay3
  pointwise
  rfl

theorem pay4_at (r f : Fin 1024) : k0_pay4 v131 v132 v134 v136 (ix2 r f)
    = norm (fun d => v131 (ix2 r d)) (fun d => v132 (ix3 0 0 d)) (fun d => v134 (ix4 0 0 0 d)) (fun d => v136 (ix4 0 0 0 d)) f := by
  unfold k0_pay4
  pointwise
  exact pay3_at v131 v132 v134 v136 r f

theorem pay5_at (r f : Fin 1024) : k0_pay5 v131 v132 v134 v136 (ix2 r f)
    = norm (fun d => v131 (ix2 r d)) (fun d => v132 (ix3 0 0 d)) (fun d => v134 (ix4 0 0 0 d)) (fun d => v136 (ix4 0 0 0 d)) f := by
  unfold k0_pay5
  pointwise
  exact pay4_at v131 v132 v134 v136 r f

/-- The logits: for a finite token, the plain product with the weights plus the bias, provided the second half of the
    weights vanishes. -/
theorem logits_at (x : Fin 1024 → ℝ) (k : Fin 32) (f : Fin 1024)
    (hx : ∀ d, norm (fun d => v131 (ix2 f d)) (fun d => v132 (ix3 0 0 d)) (fun d => v134 (ix4 0 0 0 d)) (fun d => v136 (ix4 0 0 0 d)) d = (x d : EReal))
    (hz : ∀ d, v163 (ix3 0 ⟨32 + k.val, by omega⟩ d) = (0 : EReal)) :
    k0_pay9 (k0_pay6 v131 v132 v134 v136) (k0_pay7 v131 v132 v134 v136 v163) (k0_pay8 v131 v132 v134 v136 v163) v169 v173 (ix2 k f)
    = (∑ d, v163 (ix3 0 ⟨k.val, by omega⟩ d) * (x d : EReal)) + v173 (ix3 0 k 0) := by
  unfold k0_pay9 k0_pay8 k0_pay7 k0_pay6
  pointwise
  simp only [pay3_at, pay4_at, hx]
  have h1 : ∀ d, (x d : EReal) - (x d : EReal) = 0 := fun d => by rw [← EReal.coe_sub, sub_self, EReal.coe_zero]
  simp only [h1, hz, zero_mul, mul_zero, Finset.sum_const_zero, add_zero]
end

end Cert.KernelIdeal.Value

end
-- ==== Proof.KGate.lean ====
module

public import proofs.«01_k».proof.Proof.Gen.KernelIdeal.Frame
public import proofs.«01_k».proof.Proof.KPay
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

open Cert.Router Cert.Order

section
variable (v162 : FVec Ideal S1024x1024 .bf16) (v165 : FVec Ideal S64x1024 .f32) (v166 : FVec Ideal S32x1024 .f32)
  (v169 : Vec Ideal S1x32x1024 .bf16) (v173 : Vec Ideal S1x32x1 .f32) (f : Fin 1024)

/-- The word of the selected group. -/
theorem pay12_at (gl : Fin 4 → EReal) (hgl : ∀ x : Fin 4, k0_pay9 v162 v165 v166 v169 v173 (ix2 ⟨x.val, by omega⟩ f) = gl x)
    (G : Fin 4) (hG : FirstMax gl G) : k0_pay12 v162 v165 v166 v169 v173 (ix2 0 f) = BitVec.ofNat 32 G.val := by
  unfold k0_pay12 k0_pay11 k0_pay10
  pointwise
  simp only [hgl]
  exact fold_first (by omega) hG 4#32 (by decide) _ (by rw [ninf, fold_max hG])

/-- The softmax weight of the selected group. -/
theorem pay13_at (gl : Fin 4 → EReal) (hgl : ∀ x : Fin 4, k0_pay9 v162 v165 v166 v169 v173 (ix2 ⟨x.val, by omega⟩ f) = gl x)
    (G : Fin 4) (hG : FirstMax gl G) : k0_pay13 v162 v165 v166 v169 v173 (ix2 0 f) = share gl G := by
  unfold k0_pay13 k0_pay11 k0_pay10
  pointwise
  simp only [hgl]
  rw [ninf, fold_max hG, share]

/-- The experts' logits are rows 8 to 23 of the logits. -/
theorem pay14_at (k : Fin 16) : k0_pay14 v162 v165 v166 v169 v173 (ix2 k f)
    = k0_pay9 v162 v165 v166 v169 v173 (ix2 ⟨8 + k.val, by omega⟩ f) := by
  unfold k0_pay14
  pointwise
end

/-- The group of an expert, as the kernel divides. -/
theorem group_word (k : Fin 16) (G : Fin 4) :
    Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi 1#32 (Scalar.extui 0#1)))
            (IntOp.cmpi CmpIPredicate.ne (IntOp.remsi ArithUnit.vector (BitVec.ofNat 32 k.val) 4#32) 0#32))
          (IntOp.subi (IntOp.divsi ArithUnit.vector (BitVec.ofNat 32 k.val) 4#32) 1#32)
          (IntOp.divsi ArithUnit.vector (BitVec.ofNat 32 k.val) 4#32) = BitVec.ofNat 32 G.val ↔ k.val / 4 = G.val := by
  revert k G; decide +kernel

section
variable (v188 : IVec S1x1024 32) (v196 : FVec Ideal S16x1024 .f32) (f : Fin 1024)
  (gl : Fin 4 → EReal) (el : Fin 16 → EReal) (G A B : Fin 4)

/-- The masked logits are the candidates. -/
theorem pay17_at (h188 : v188 (ix2 0 f) = BitVec.ofNat 32 G.val) (h196 : ∀ k, v196 (ix2 k f) = el k) (k : Fin 16) :
    k0_pay17 v188 v196 (iota Kind.tc S16x1 32 [0] iota_S16x1_d0_w32) 4#32 k0_pay15 k0_pay16 1#32 0#1 (ix2 k f) = cand el G k := by
  unfold k0_pay17 k0_pay15 k0_pay16
  pointwise
  rw [sel_eq, h188, h196, ninf, cand]
  by_cases h : k.val / 4 = G.val
  · rw [if_pos h, if_pos ((group_word k G).2 h)]
  · rw [if_neg h, if_neg fun h' => h ((group_word k G).1 h')]

variable (h188 : v188 (ix2 0 f) = BitVec.ofNat 32 G.val) (h196 : ∀ k, v196 (ix2 k f) = el k)
  (hr : Route gl el G A B) (hb : ∀ k, el k ≠ ⊥)
include h188 h196 hr hb

/-- The word of the first choice. -/
theorem pay19_at :
    k0_pay19 v188 v196 (iota Kind.tc S16x1 32 [0] iota_S16x1_d0_w32) 4#32 k0_pay15 k0_pay16 1#32 0#1 (ix2 0 f)
      = BitVec.ofNat 32 (pos G A).val := by
  unfold k0_pay19 k0_pay18
  pointwise
  simp only [pay17_at v188 v196 f el G h188 h196]
  exact fold_first (by omega) (cand_first hr hb) 16#32 (by decide) _ (by rw [ninf, fold_max (cand_first hr hb)])

/-- The candidates without the first choice. -/
theorem pay20_at (k : Fin 16) :
    k0_pay20 v188 v196 (iota Kind.tc S16x1 32 [0] iota_S16x1_d0_w32) 4#32 k0_pay15 k0_pay16 1#32 0#1 (ix2 k f)
      = cand2 el G A k := by
  unfold k0_pay20
  pointwise
  rw [sel_eq, pay17_at v188 v196 f el G h188 h196, pay19_at v188 v196 f gl el G A B h188 h196 hr hb, ninf, cand2]
  simp only [ofNat_inj16]

/-- The word of the second choice. -/
theorem pay22_at :
    k0_pay22 v188 v196 (iota Kind.tc S16x1 32 [0] iota_S16x1_d0_w32) 4#32 k0_pay15 k0_pay16 1#32 0#1 (ix2 0 f)
      = BitVec.ofNat 32 (pos G B).val := by
  unfold k0_pay22 k0_pay21
  pointwise
  simp only [pay20_at v188 v196 f gl el G A B h188 h196 hr hb]
  exact fold_first (by omega) (cand2_first hr hb) 16#32 (by decide) _ (by rw [ninf, fold_max (cand2_first hr hb)])

/-- The quotient of the second weight to the first. -/
theorem pay23_at :
    k0_pay23 v188 v196 (iota Kind.tc S16x1 32 [0] iota_S16x1_d0_w32) 4#32 k0_pay15 k0_pay16 1#32 0#1 (ix2 0 f)
      = ratio el G A B := by
  have hne : ¬ pos G B = pos G A := fun h => hr.ne (pos_inj G B A h)
  unfold k0_pay23 k0_pay18 k0_pay21
  pointwise
  simp only [pay20_at v188 v196 f gl el G A B h188 h196 hr hb, pay17_at v188 v196 f el G h188 h196]
  rw [ninf, fold_max (cand_first hr hb), fold_max (cand2_first hr hb), cand2, if_neg hne, cand_pos, cand_pos, ratio]

/-- The first weight. -/
theorem pay24_at :
    k0_pay24 v188 v196 (iota Kind.tc S16x1 32 [0] iota_S16x1_d0_w32) 4#32 k0_pay15 k0_pay16 1#32 0#1 (ix2 0 f)
      = Ideal.div 1 (1 + ratio el G A B) := by
  unfold k0_pay24
  pointwise
  rw [pay23_at v188 v196 f gl el G A B h188 h196 hr hb]

end

/-- The kernel's gates: the token's gate of each expert, in the lane of the expert. -/
theorem gates_at (v162 : FVec Ideal S1024x1024 .bf16) (v165 : FVec Ideal S64x1024 .f32) (v166 : FVec Ideal S32x1024 .f32)
    (v169 : Vec Ideal S1x32x1024 .bf16) (v173 : Vec Ideal S1x32x1 .f32) (f : Fin 1024)
    (gl : Fin 4 → EReal) (hgl : ∀ x : Fin 4, k0_pay9 v162 v165 v166 v169 v173 (ix2 ⟨x.val, by omega⟩ f) = gl x)
    (el : Fin 16 → EReal) (hel : ∀ x : Fin 16, k0_pay9 v162 v165 v166 v169 v173 (ix2 ⟨8 + x.val, by omega⟩ f) = el x)
    (G A B : Fin 4) (hr : Route gl el G A B) (hb : ∀ k, el k ≠ ⊥) (e : Fin 16) :
    k0_pay25 (k0_pay13 v162 v165 v166 v169 v173) (iota Kind.tc S16x1 32 [0] iota_S16x1_d0_w32)
      (k0_pay19 (k0_pay12 v162 v165 v166 v169 v173) (k0_pay14 v162 v165 v166 v169 v173) (iota Kind.tc S16x1 32 [0] iota_S16x1_d0_w32) 4#32 k0_pay15 k0_pay16 1#32 0#1)
      (k0_pay22 (k0_pay12 v162 v165 v166 v169 v173) (k0_pay14 v162 v165 v166 v169 v173) (iota Kind.tc S16x1 32 [0] iota_S16x1_d0_w32) 4#32 k0_pay15 k0_pay16 1#32 0#1)
      (k0_pay23 (k0_pay12 v162 v165 v166 v169 v173) (k0_pay14 v162 v165 v166 v169 v173) (iota Kind.tc S16x1 32 [0] iota_S16x1_d0_w32) 4#32 k0_pay15 k0_pay16 1#32 0#1)
      (k0_pay24 (k0_pay12 v162 v165 v166 v169 v173) (k0_pay14 v162 v165 v166 v169 v173) (iota Kind.tc S16x1 32 [0] iota_S16x1_d0_w32) 4#32 k0_pay15 k0_pay16 1#32 0#1)
      (ix2 f ⟨e.val, by omega⟩) = gate gl el G A B e := by
  have h188 := pay12_at v162 v165 v166 v169 v173 f gl hgl G hr.group
  have h196 : ∀ k, k0_pay14 v162 v165 v166 v169 v173 (ix2 k f) = el k := fun k => (pay14_at _ _ _ _ _ f k).trans (hel k)
  have hne : ¬ pos G B = pos G A := fun h => hr.ne (pos_inj G B A h)
  unfold k0_pay25
  pointwise
  rw [sel_eq, sel_eq, pay13_at _ _ _ _ _ f gl hgl G hr.group,
    pay19_at _ _ f gl el G A B h188 h196 hr hb, pay22_at _ _ f gl el G A B h188 h196 hr hb,
    pay23_at _ _ f gl el G A B h188 h196 hr hb, pay24_at _ _ f gl el G A B h188 h196 hr hb, gate]
  simp only [ofNat_inj16]
  by_cases h1 : e = pos G A
  · rw [if_pos h1, if_pos h1, if_neg (fun h => hne (h.symm.trans h1)), add_zero]
  · rw [if_neg h1, if_neg h1]
    by_cases h2 : e = pos G B
    · rw [if_pos h2, if_pos h2, zero_add]
    · rw [if_neg h2, if_neg h2, add_zero, zero_mul]

end Cert.KernelIdeal.Value

end
-- ==== Proof.KState.lean ====
module

public import proofs.«01_k».proof.Proof.Gen.KernelIdeal.Frame
public import proofs.«01_k».proof.Proof.KGate
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The modulated norm the first step of a token block computes. -/
def freshX : Vec Ideal S1024x1024 .bf16 := k0_pay5 (iblk m c 0 t) (iblk m c 2 t) (View.ld (iblk m c 1 t) (Rect.unit ![0, 0, 0, 4096] ![1, 1, 1, 1024] inb_S1x1x1x6144_S1x1x1x1024_0_0_0_4096)) (View.ld (iblk m c 1 t) (Rect.unit ![0, 0, 0, 3072] ![1, 1, 1, 1024] inb_S1x1x1x6144_S1x1x1x1024_0_0_0_3072))

/-- The low part of it, which is what the rounding lost. -/
def lowX : FVec Ideal S1024x1024 .bf16 := k0_pay6 (iblk m c 0 t) (iblk m c 2 t) (View.ld (iblk m c 1 t) (Rect.unit ![0, 0, 0, 4096] ![1, 1, 1, 1024] inb_S1x1x1x6144_S1x1x1x1024_0_0_0_4096)) (View.ld (iblk m c 1 t) (Rect.unit ![0, 0, 0, 3072] ![1, 1, 1, 1024] inb_S1x1x1x6144_S1x1x1x1024_0_0_0_3072))
def hiDot : FVec Ideal S64x1024 .f32 := k0_pay7 (iblk m c 0 t) (iblk m c 2 t) (View.ld (iblk m c 1 t) (Rect.unit ![0, 0, 0, 4096] ![1, 1, 1, 1024] inb_S1x1x1x6144_S1x1x1x1024_0_0_0_4096)) (View.ld (iblk m c 1 t) (Rect.unit ![0, 0, 0, 3072] ![1, 1, 1, 1024] inb_S1x1x1x6144_S1x1x1x1024_0_0_0_3072)) (iblk m c 3 t)
def hiTop : FVec Ideal S32x1024 .f32 := k0_pay8 (iblk m c 0 t) (iblk m c 2 t) (View.ld (iblk m c 1 t) (Rect.unit ![0, 0, 0, 4096] ![1, 1, 1, 1024] inb_S1x1x1x6144_S1x1x1x1024_0_0_0_4096)) (View.ld (iblk m c 1 t) (Rect.unit ![0, 0, 0, 3072] ![1, 1, 1, 1024] inb_S1x1x1x6144_S1x1x1x1024_0_0_0_3072)) (iblk m c 3 t)
def wrTop : Vec Ideal S1x32x1024 .bf16 := (View.ld (iblk m c 3 t) (Rect.unit ![0, 0, 0] ![1, 32, 1024] inb_S1x64x1024_S1x32x1024_0_0_0))

/-- The gates the first step of a token block computes. -/
def freshG : Vec Ideal S1024x128 .f32 :=
  k0_pay25 (k0_pay13 (lowX m c t) (hiDot m c t) (hiTop m c t) (wrTop m c t) (iblk m c 4 t)) (iota Kind.tc S16x1 32 [0] iota_S16x1_d0_w32)
    (k0_pay19 (k0_pay12 (lowX m c t) (hiDot m c t) (hiTop m c t) (wrTop m c t) (iblk m c 4 t)) (k0_pay14 (lowX m c t) (hiDot m c t) (hiTop m c t) (wrTop m c t) (iblk m c 4 t)) (iota Kind.tc S16x1 32 [0] iota_S16x1_d0_w32) 4#32 k0_pay15 k0_pay16 1#32 0#1)
    (k0_pay22 (k0_pay12 (lowX m c t) (hiDot m c t) (hiTop m c t) (wrTop m c t) (iblk m c 4 t)) (k0_pay14 (lowX m c t) (hiDot m c t) (hiTop m c t) (wrTop m c t) (iblk m c 4 t)) (iota Kind.tc S16x1 32 [0] iota_S16x1_d0_w32) 4#32 k0_pay15 k0_pay16 1#32 0#1)
    (k0_pay23 (k0_pay12 (lowX m c t) (hiDot m c t) (hiTop m c t) (wrTop m c t) (iblk m c 4 t)) (k0_pay14 (lowX m c t) (hiDot m c t) (hiTop m c t) (wrTop m c t) (iblk m c 4 t)) (iota Kind.tc S16x1 32 [0] iota_S16x1_d0_w32) 4#32 k0_pay15 k0_pay16 1#32 0#1)
    (k0_pay24 (k0_pay12 (lowX m c t) (hiDot m c t) (hiTop m c t) (wrTop m c t) (iblk m c 4 t)) (k0_pay14 (lowX m c t) (hiDot m c t) (hiTop m c t) (wrTop m c t) (iblk m c 4 t)) (iota Kind.tc S16x1 32 [0] iota_S16x1_d0_w32) 4#32 k0_pay15 k0_pay16 1#32 0#1)

/-- The accumulator after one step from the token block, its gates and the accumulator before. -/
def stepAcc (x : Vec Ideal S1024x1024 .bf16) (g : Vec Ideal S1024x128 .f32) (acc : Vec Ideal S1024x1024 .f32) :
    Vec Ideal S1024x1024 .f32 :=
  k0_pay1 (k0_pay27 (grid0.coords t) x g (View.ld (iblk m c 5 t) (Rect.unit ![0, 0, 0, 0] ![1, 1, 1024, 256] inb_S1x4x1024x256_S1x1x1024x256_0_0_0_0)) (View.ld (iblk m c 6 t) (Rect.unit ![0, 0, 0, 0] ![1, 1, 1024, 256] inb_S1x4x1024x256_S1x1x1024x256_0_0_0_0)))
    (k0_pay28 (BitVec.ofNat 32 (grid0.coords t 1).val) x (iota Kind.tc S1x128 32 [1] iota_S1x128_d1_w32) g (View.ld (iblk m c 5 t) (Rect.unit ![0, 1, 0, 0] ![1, 1, 1024, 256] inb_S1x4x1024x256_S1x1x1024x256_0_1_0_0)) (View.ld (iblk m c 6 t) (Rect.unit ![0, 1, 0, 0] ![1, 1, 1024, 256] inb_S1x4x1024x256_S1x1x1024x256_0_1_0_0)))
    (k0_pay31 (BitVec.ofNat 32 (grid0.coords t 1).val) x (iota Kind.tc S1x128 32 [1] iota_S1x128_d1_w32) g (k0_pay29 x (View.ld (iblk m c 5 t) (Rect.unit ![0, 2, 0, 0] ![1, 1, 1024, 256] inb_S1x4x1024x256_S1x1x1024x256_0_2_0_0))) (k0_pay30 (View.ld (iblk m c 6 t) (Rect.unit ![0, 2, 0, 0] ![1, 1, 1024, 256] inb_S1x4x1024x256_S1x1x1024x256_0_2_0_0)))
      (constant S1024x256 FTy.f32 0#32))
    (k0_pay32 x (View.ld (iblk m c 5 t) (Rect.unit ![0, 3, 0, 0] ![1, 1, 1024, 256] inb_S1x4x1024x256_S1x1x1024x256_0_3_0_0))) (k0_pay33 x (View.ld (iblk m c 6 t) (Rect.unit ![0, 3, 0, 0] ![1, 1, 1024, 256] inb_S1x4x1024x256_S1x1x1024x256_0_3_0_0)))
    (k0_pay34 (BitVec.ofNat 32 (grid0.coords t 1).val) (iota Kind.tc S1x128 32 [1] iota_S1x128_d1_w32) g) acc (iblk m c 7 t)

theorem first_x (h0 : t.val % 4 = 0) : (outsAt0 m c t.val t.isLt).2.1 = freshX m c t := by
  rw [outsAt0_A m c t h0 (by omega)]; frame_out
  rfl

theorem first_g (h0 : t.val % 4 = 0) : (outsAt0 m c t.val t.isLt).2.2.1 = freshG m c t := by
  rw [outsAt0_A m c t h0 (by omega)]; frame_out
  rfl

theorem first_acc (h0 : t.val % 4 = 0) :
    (outsAt0 m c t.val t.isLt).2.2.2 = stepAcc m c t (freshX m c t) (freshG m c t) (k0_pay26 (F := Ideal)) := by
  rw [outsAt0_A m c t h0 (by omega)]; frame_out
  rfl

/-- The state before a step that is not the first of its token block. -/
theorem pred_lt : t.val - 1 < cfg0.N := lt_of_le_of_lt (Nat.sub_le _ _) t.isLt

theorem next_x (h0 : ¬ t.val % 4 = 0) : (outsAt0 m c t.val t.isLt).2.1 = (outsAt0 m c (t.val - 1) (pred_lt t)).2.1 := by
  by_cases h1 : t.val % 4 = 3
  · rw [outsAt0_C m c t h0 h1]; frame_out; rfl
  · rw [outsAt0_B m c t h0 h1]; frame_out; rfl

theorem next_g (h0 : ¬ t.val % 4 = 0) : (outsAt0 m c t.val t.isLt).2.2.1 = (outsAt0 m c (t.val - 1) (pred_lt t)).2.2.1 := by
  by_cases h1 : t.val % 4 = 3
  · rw [outsAt0_C m c t h0 h1]; frame_out; rfl
  · rw [outsAt0_B m c t h0 h1]; frame_out; rfl

theorem next_acc (h0 : ¬ t.val % 4 = 0) : (outsAt0 m c t.val t.isLt).2.2.2
    = stepAcc m c t (outsAt0 m c (t.val - 1) (pred_lt t)).2.1 (outsAt0 m c (t.val - 1) (pred_lt t)).2.2.1
      (outsAt0 m c (t.val - 1) (pred_lt t)).2.2.2 := by
  by_cases h1 : t.val % 4 = 3
  · rw [outsAt0_C m c t h0 h1]; frame_out
    simp only [(Memref.isWhole_whole _).read_unread]
    rfl
  · rw [outsAt0_B m c t h0 h1]; frame_out
    simp only [(Memref.isWhole_whole _).read_unread]
    rfl

theorem last_out (h1 : t.val % 4 = 3) : (outsAt0 m c t.val t.isLt).1
    = k0_pay2 (iblk m c 0 t) (View.ld (iblk m c 1 t) (Rect.unit ![0, 0, 0, 5120] ![1, 1, 1, 1024] inb_S1x1x1x6144_S1x1x1x1024_0_0_0_5120)) (outsAt0 m c t.val t.isLt).2.2.2 := by
  rw [next_acc m c t (by omega), outsAt0_C m c t (by omega) h1]; frame_out
  simp only [(Memref.isWhole_whole _).read_unread]
  rfl

end Cert.KernelIdeal.Value

end
-- ==== Proof.KScat.lean ====
module

public import proofs.«01_k».proof.Proof.KState
public import Idealize.ShloMosaic.Lib.Routing.OpsSet
public import Idealize.ShloMosaic.Lib.Routing.OpsPair
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

/-- Where a row of the 4-row table lands when rows are written from row `w` on. -/
theorem lands_w4 (w : BitVec 32) (k : S4x4x1024.Idx) (idx : IVec S1 32) (h : ∀ i, idx i = w) (ι : S4x32x1024.Idx) :
    scatter_S4x32x1024_S1_S4x4x1024_012_n_1_0.resultIdx? k idx = some ι ↔
      (k 0).val = (ι 0).val ∧ w.toInt + ((k 1).val : Int) = ((ι 1).val : Int) ∧ (k 2).val = (ι 2).val := by
  have s0 : scatter_S4x32x1024_S1_S4x4x1024_012_n_1_0.start k idx 0 = 0 := rfl
  have s2 : scatter_S4x32x1024_S1_S4x4x1024_012_n_1_0.start k idx 2 = 0 := rfl
  have s1 : scatter_S4x32x1024_S1_S4x4x1024_012_n_1_0.start k idx 1 = w.toInt := by
    rw [ScatterDims.start, dif_pos (by decide), h]
  have w0 : scatter_S4x32x1024_S1_S4x4x1024_012_n_1_0.window k 0 = (k 0).val := rfl
  have w1 : scatter_S4x32x1024_S1_S4x4x1024_012_n_1_0.window k 1 = (k 1).val := rfl
  have w2 : scatter_S4x32x1024_S1_S4x4x1024_012_n_1_0.window k 2 = (k 2).val := rfl
  rw [Routing.resultIdx?_eq_some]
  constructor
  · intro q
    have q0 := q 0
    have q1 := q 1
    have q2 := q 2
    rw [s0, w0] at q0
    rw [s1, w1] at q1
    rw [s2, w2] at q2
    exact ⟨by omega, q1, by omega⟩
  · rintro ⟨q0, q1, q2⟩ a
    fin_cases a
    · show scatter_S4x32x1024_S1_S4x4x1024_012_n_1_0.start k idx 0 + (scatter_S4x32x1024_S1_S4x4x1024_012_n_1_0.window k 0 : Int) = _
      rw [s0, w0, q0, zero_add]; rfl
    · show scatter_S4x32x1024_S1_S4x4x1024_012_n_1_0.start k idx 1 + (scatter_S4x32x1024_S1_S4x4x1024_012_n_1_0.window k 1 : Int) = _
      rw [s1, w1, q1]; rfl
    · show scatter_S4x32x1024_S1_S4x4x1024_012_n_1_0.start k idx 2 + (scatter_S4x32x1024_S1_S4x4x1024_012_n_1_0.window k 2 : Int) = _
      rw [s2, w2, q2, zero_add]; rfl

/-- Rows written from row `w` on, read at a row they cover. -/
theorem hit_w4 (w : BitVec 32) (idx : IVec S1 32) (h : ∀ i, idx i = w) (x0 : S4x32x1024.Idx → EReal)
    (u : S4x4x1024.Idx → EReal) (k : Fin 4) (i : Fin 32) (hi : w.toInt + (k.val : Int) = (i.val : Int)) (d : Fin 1024) :
    Host.scatter scatter_S4x32x1024_S1_S4x4x1024_012_n_1_0 (fun _ b => b) x0 idx u (ix3 0 i d) = u (ix3 0 k d) := by
  refine Routing.scatter_set_hit _ x0 idx u _ _ (fun k' hk => ?_) (ix3 0 k d) ((lands_w4 w _ idx h _).2 ⟨rfl, hi, rfl⟩)
  have q := (lands_w4 w _ idx h _).1 hk
  have e1 : k' 1 = k := Fin.ext (by
    have := q.2.1
    have e : ((ix3 (0 : Fin 4) i d : S4x32x1024.Idx) 1).val = i.val := rfl
    rw [e] at this
    omega)
  congr 1
  funext a
  fin_cases a
  · exact Fin.ext q.1
  · exact e1
  · exact Fin.ext q.2.2

/-- Rows written from row `w` on, read at a row they do not cover. -/
theorem miss_w4 (w : BitVec 32) (idx : IVec S1 32) (h : ∀ i, idx i = w) (x0 : S4x32x1024.Idx → EReal)
    (u : S4x4x1024.Idx → EReal) (i : Fin 32) (hi : ∀ k : Fin 4, w.toInt + (k.val : Int) ≠ (i.val : Int)) (d : Fin 1024) :
    Host.scatter scatter_S4x32x1024_S1_S4x4x1024_012_n_1_0 (fun _ b => b) x0 idx u (ix3 0 i d) = x0 (ix3 0 i d) :=
  Routing.scatter_set_miss _ x0 idx u _ fun k' hk => hi (k' 1) ((lands_w4 w _ idx h _).1 hk).2.1

/-- Where a row of the 16-row table lands when rows are written from row `w` on. -/
theorem lands_w16 (w : BitVec 32) (k : S4x16x1024.Idx) (idx : IVec S1 32) (h : ∀ i, idx i = w) (ι : S4x32x1024.Idx) :
    scatter_S4x32x1024_S1_S4x16x1024_012_n_1_0.resultIdx? k idx = some ι ↔
      (k 0).val = (ι 0).val ∧ w.toInt + ((k 1).val : Int) = ((ι 1).val : Int) ∧ (k 2).val = (ι 2).val := by
  have s0 : scatter_S4x32x1024_S1_S4x16x1024_012_n_1_0.start k idx 0 = 0 := rfl
  have s2 : scatter_S4x32x1024_S1_S4x16x1024_012_n_1_0.start k idx 2 = 0 := rfl
  have s1 : scatter_S4x32x1024_S1_S4x16x1024_012_n_1_0.start k idx 1 = w.toInt := by
    rw [ScatterDims.start, dif_pos (by decide), h]
  have w0 : scatter_S4x32x1024_S1_S4x16x1024_012_n_1_0.window k 0 = (k 0).val := rfl
  have w1 : scatter_S4x32x1024_S1_S4x16x1024_012_n_1_0.window k 1 = (k 1).val := rfl
  have w2 : scatter_S4x32x1024_S1_S4x16x1024_012_n_1_0.window k 2 = (k 2).val := rfl
  rw [Routing.resultIdx?_eq_some]
  constructor
  · intro q
    have q0 := q 0
    have q1 := q 1
    have q2 := q 2
    rw [s0, w0] at q0
    rw [s1, w1] at q1
    rw [s2, w2] at q2
    exact ⟨by omega, q1, by omega⟩
  · rintro ⟨q0, q1, q2⟩ a
    fin_cases a
    · show scatter_S4x32x1024_S1_S4x16x1024_012_n_1_0.start k idx 0 + (scatter_S4x32x1024_S1_S4x16x1024_012_n_1_0.window k 0 : Int) = _
      rw [s0, w0, q0, zero_add]; rfl
    · show scatter_S4x32x1024_S1_S4x16x1024_012_n_1_0.start k idx 1 + (scatter_S4x32x1024_S1_S4x16x1024_012_n_1_0.window k 1 : Int) = _
      rw [s1, w1, q1]; rfl
    · show scatter_S4x32x1024_S1_S4x16x1024_012_n_1_0.start k idx 2 + (scatter_S4x32x1024_S1_S4x16x1024_012_n_1_0.window k 2 : Int) = _
      rw [s2, w2, q2, zero_add]; rfl

/-- Rows written from row `w` on, read at a row they cover. -/
theorem hit_w16 (w : BitVec 32) (idx : IVec S1 32) (h : ∀ i, idx i = w) (x0 : S4x32x1024.Idx → EReal)
    (u : S4x16x1024.Idx → EReal) (k : Fin 16) (i : Fin 32) (hi : w.toInt + (k.val : Int) = (i.val : Int)) (d : Fin 1024) :
    Host.scatter scatter_S4x32x1024_S1_S4x16x1024_012_n_1_0 (fun _ b => b) x0 idx u (ix3 0 i d) = u (ix3 0 k d) := by
  refine Routing.scatter_set_hit _ x0 idx u _ _ (fun k' hk => ?_) (ix3 0 k d) ((lands_w16 w _ idx h _).2 ⟨rfl, hi, rfl⟩)
  have q := (lands_w16 w _ idx h _).1 hk
  have e1 : k' 1 = k := Fin.ext (by
    have := q.2.1
    have e : ((ix3 (0 : Fin 4) i d : S4x32x1024.Idx) 1).val = i.val := rfl
    rw [e] at this
    omega)
  congr 1
  funext a
  fin_cases a
  · exact Fin.ext q.1
  · exact e1
  · exact Fin.ext q.2.2

/-- Rows written from row `w` on, read at a row they do not cover. -/
theorem miss_w16 (w : BitVec 32) (idx : IVec S1 32) (h : ∀ i, idx i = w) (x0 : S4x32x1024.Idx → EReal)
    (u : S4x16x1024.Idx → EReal) (i : Fin 32) (hi : ∀ k : Fin 16, w.toInt + (k.val : Int) ≠ (i.val : Int)) (d : Fin 1024) :
    Host.scatter scatter_S4x32x1024_S1_S4x16x1024_012_n_1_0 (fun _ b => b) x0 idx u (ix3 0 i d) = x0 (ix3 0 i d) :=
  Routing.scatter_set_miss _ x0 idx u _ fun k' hk => hi (k' 1) ((lands_w16 w _ idx h _).1 hk).2.1

/-- Where an entry of the 4-entry bias lands when entries are written from entry `w` on. -/
theorem lands_b4 (w : BitVec 32) (k : S4x4.Idx) (idx : IVec S2 32) (h0 : idx (ix1 0) = w) (h1 : idx (ix1 1) = 0#32) (ι : S4x32x1.Idx) :
    scatter_S4x32x1_S2_S4x4_01_2_12_0.resultIdx? k idx = some ι ↔
      (k 0).val = (ι 0).val ∧ w.toInt + ((k 1).val : Int) = ((ι 1).val : Int) := by
  have s0 : scatter_S4x32x1_S2_S4x4_01_2_12_0.start k idx 0 = 0 := rfl
  have s1 : scatter_S4x32x1_S2_S4x4_01_2_12_0.start k idx 1 = w.toInt := by
    rw [ScatterDims.start, dif_pos (by decide), ← h0]
    congr 2
    funext a
    fin_cases a
    rfl
  have s2 : scatter_S4x32x1_S2_S4x4_01_2_12_0.start k idx 2 = 0 := by
    rw [ScatterDims.start, dif_pos (by decide)]
    have : (0 : Int) = (idx (ix1 1)).toInt := by rw [h1]; rfl
    rw [this]
    congr 2
    funext a
    fin_cases a
    rfl
  have w0 : scatter_S4x32x1_S2_S4x4_01_2_12_0.window k 0 = (k 0).val := rfl
  have w1 : scatter_S4x32x1_S2_S4x4_01_2_12_0.window k 1 = (k 1).val := rfl
  have w2 : scatter_S4x32x1_S2_S4x4_01_2_12_0.window k 2 = 0 := rfl
  rw [Routing.resultIdx?_eq_some]
  constructor
  · intro q
    have q0 := q 0
    have q1 := q 1
    rw [s0, w0] at q0
    rw [s1, w1] at q1
    exact ⟨by omega, q1⟩
  · rintro ⟨q0, q1⟩ a
    fin_cases a
    · show scatter_S4x32x1_S2_S4x4_01_2_12_0.start k idx 0 + (scatter_S4x32x1_S2_S4x4_01_2_12_0.window k 0 : Int) = _
      rw [s0, w0, q0, zero_add]; rfl
    · show scatter_S4x32x1_S2_S4x4_01_2_12_0.start k idx 1 + (scatter_S4x32x1_S2_S4x4_01_2_12_0.window k 1 : Int) = _
      rw [s1, w1, q1]; rfl
    · show scatter_S4x32x1_S2_S4x4_01_2_12_0.start k idx 2 + (scatter_S4x32x1_S2_S4x4_01_2_12_0.window k 2 : Int) = ((ι 2).val : Int)
      have : (ι 2).val < 1 := (ι 2).isLt
      rw [s2, w2]
      omega

/-- Bias entries written from entry `w` on, read at an entry they cover. -/
theorem hit_b4 (w : BitVec 32) (idx : IVec S2 32) (h0 : idx (ix1 0) = w) (h1 : idx (ix1 1) = 0#32) (x0 : S4x32x1.Idx → EReal)
    (u : S4x4.Idx → EReal) (k : Fin 4) (i : Fin 32) (hi : w.toInt + (k.val : Int) = (i.val : Int)) :
    Host.scatter scatter_S4x32x1_S2_S4x4_01_2_12_0 (fun _ b => b) x0 idx u (ix3 0 i 0) = u (ix2 0 k) := by
  refine Routing.scatter_set_hit _ x0 idx u _ _ (fun k' hk => ?_) (ix2 0 k) ((lands_b4 w _ idx h0 h1 _).2 ⟨rfl, hi⟩)
  have q := (lands_b4 w _ idx h0 h1 _).1 hk
  have e1 : k' 1 = k := Fin.ext (by
    have := q.2
    have e : ((ix3 (0 : Fin 4) i (0 : Fin 1) : S4x32x1.Idx) 1).val = i.val := rfl
    rw [e] at this
    omega)
  congr 1
  funext a
  fin_cases a
  · exact Fin.ext q.1
  · exact e1

/-- Bias entries written from entry `w` on, read at an entry they do not cover. -/
theorem miss_b4 (w : BitVec 32) (idx : IVec S2 32) (h0 : idx (ix1 0) = w) (h1 : idx (ix1 1) = 0#32) (x0 : S4x32x1.Idx → EReal)
    (u : S4x4.Idx → EReal) (i : Fin 32) (hi : ∀ k : Fin 4, w.toInt + (k.val : Int) ≠ (i.val : Int)) :
    Host.scatter scatter_S4x32x1_S2_S4x4_01_2_12_0 (fun _ b => b) x0 idx u (ix3 0 i 0) = x0 (ix3 0 i 0) :=
  Routing.scatter_set_miss _ x0 idx u _ fun k' hk => hi (k' 1) ((lands_b4 w _ idx h0 h1 _).1 hk).2

/-- Where an entry of the 16-entry bias lands when entries are written from entry `w` on. -/
theorem lands_b16 (w : BitVec 32) (k : S4x16.Idx) (idx : IVec S2 32) (h0 : idx (ix1 0) = w) (h1 : idx (ix1 1) = 0#32) (ι : S4x32x1.Idx) :
    scatter_S4x32x1_S2_S4x16_01_2_12_0.resultIdx? k idx = some ι ↔
      (k 0).val = (ι 0).val ∧ w.toInt + ((k 1).val : Int) = ((ι 1).val : Int) := by
  have s0 : scatter_S4x32x1_S2_S4x16_01_2_12_0.start k idx 0 = 0 := rfl
  have s1 : scatter_S4x32x1_S2_S4x16_01_2_12_0.start k idx 1 = w.toInt := by
    rw [ScatterDims.start, dif_pos (by decide), ← h0]
    congr 2
    funext a
    fin_cases a
    rfl
  have s2 : scatter_S4x32x1_S2_S4x16_01_2_12_0.start k idx 2 = 0 := by
    rw [ScatterDims.start, dif_pos (by decide)]
    have : (0 : Int) = (idx (ix1 1)).toInt := by rw [h1]; rfl
    rw [this]
    congr 2
    funext a
    fin_cases a
    rfl
  have w0 : scatter_S4x32x1_S2_S4x16_01_2_12_0.window k 0 = (k 0).val := rfl
  have w1 : scatter_S4x32x1_S2_S4x16_01_2_12_0.window k 1 = (k 1).val := rfl
  have w2 : scatter_S4x32x1_S2_S4x16_01_2_12_0.window k 2 = 0 := rfl
  rw [Routing.resultIdx?_eq_some]
  constructor
  · intro q
    have q0 := q 0
    have q1 := q 1
    rw [s0, w0] at q0
    rw [s1, w1] at q1
    exact ⟨by omega, q1⟩
  · rintro ⟨q0, q1⟩ a
    fin_cases a
    · show scatter_S4x32x1_S2_S4x16_01_2_12_0.start k idx 0 + (scatter_S4x32x1_S2_S4x16_01_2_12_0.window k 0 : Int) = _
      rw [s0, w0, q0, zero_add]; rfl
    · show scatter_S4x32x1_S2_S4x16_01_2_12_0.start k idx 1 + (scatter_S4x32x1_S2_S4x16_01_2_12_0.window k 1 : Int) = _
      rw [s1, w1, q1]; rfl
    · show scatter_S4x32x1_S2_S4x16_01_2_12_0.start k idx 2 + (scatter_S4x32x1_S2_S4x16_01_2_12_0.window k 2 : Int) = ((ι 2).val : Int)
      have : (ι 2).val < 1 := (ι 2).isLt
      rw [s2, w2]
      omega

/-- Bias entries written from entry `w` on, read at an entry they cover. -/
theorem hit_b16 (w : BitVec 32) (idx : IVec S2 32) (h0 : idx (ix1 0) = w) (h1 : idx (ix1 1) = 0#32) (x0 : S4x32x1.Idx → EReal)
    (u : S4x16.Idx → EReal) (k : Fin 16) (i : Fin 32) (hi : w.toInt + (k.val : Int) = (i.val : Int)) :
    Host.scatter scatter_S4x32x1_S2_S4x16_01_2_12_0 (fun _ b => b) x0 idx u (ix3 0 i 0) = u (ix2 0 k) := by
  refine Routing.scatter_set_hit _ x0 idx u _ _ (fun k' hk => ?_) (ix2 0 k) ((lands_b16 w _ idx h0 h1 _).2 ⟨rfl, hi⟩)
  have q := (lands_b16 w _ idx h0 h1 _).1 hk
  have e1 : k' 1 = k := Fin.ext (by
    have := q.2
    have e : ((ix3 (0 : Fin 4) i (0 : Fin 1) : S4x32x1.Idx) 1).val = i.val := rfl
    rw [e] at this
    omega)
  congr 1
  funext a
  fin_cases a
  · exact Fin.ext q.1
  · exact e1

/-- Bias entries written from entry `w` on, read at an entry they do not cover. -/
theorem miss_b16 (w : BitVec 32) (idx : IVec S2 32) (h0 : idx (ix1 0) = w) (h1 : idx (ix1 1) = 0#32) (x0 : S4x32x1.Idx → EReal)
    (u : S4x16.Idx → EReal) (i : Fin 32) (hi : ∀ k : Fin 16, w.toInt + (k.val : Int) ≠ (i.val : Int)) :
    Host.scatter scatter_S4x32x1_S2_S4x16_01_2_12_0 (fun _ b => b) x0 idx u (ix3 0 i 0) = x0 (ix3 0 i 0) :=
  Routing.scatter_set_miss _ x0 idx u _ fun k' hk => hi (k' 1) ((lands_b16 w _ idx h0 h1 _).1 hk).2

end Cert.KernelIdeal.Value

end
-- ==== Proof.KBlk.lean ====
module

public import proofs.«01_k».proof.Proof.KScat
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

/-! Which block of each operand a step reads. -/

theorem idx0 : ∀ t : Fin cfg0.N, win0_0.index t = ![t.val / 4, 0] := (by decide +kernel : ∀ t : Fin grid0.N, _)
theorem idx1 : ∀ t : Fin cfg0.N, win0_1.index t = ![0, if t.val / 4 < 8 then 0 else 1 + (t.val / 4 - 8) / 4, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, t.val % 4, 0, 0] := (by decide +kernel : ∀ t : Fin grid0.N, _)
theorem idx6 : ∀ t : Fin cfg0.N, win0_6.index t = ![0, t.val % 4, 0, 0] := (by decide +kernel : ∀ t : Fin grid0.N, _)
theorem idx7 : ∀ t : Fin cfg0.N, win0_7.index t = ![0, t.val % 4, 0, 0] := (by decide +kernel : ∀ t : Fin grid0.N, _)
theorem idx8 : ∀ t : Fin cfg0.N, win0_8.index t = ![t.val / 4, 0] := (by decide +kernel : ∀ t : Fin grid0.N, _)
theorem co1 : ∀ t : Fin cfg0.N, (grid0.coords t 1).val = t.val % 4 := (by decide +kernel : ∀ t : Fin grid0.N, _)

variable (m : (ℓ : Loc nD τ sig) → Buf (Elt Ideal) ℓ) (c : Dev nD) (t : Fin cfg0.N)

/-- The row of the modulation table a tile of tokens takes. -/
def modRow (i : Nat) : Nat := if i < 8 then 0 else 1 + (i - 8) / 4

theorem modRow_lt (i : Nat) (h : i < 16) : modRow i < 8 := by
  unfold modRow; split <;> omega

theorem tile_lt : t.val / 4 < 16 := by
  have : t.val < 64 := t.isLt
  omega

/-- A token of the tile. -/
theorem blk0 (r d : Fin 1024) : iblk m c 0 t (ix2 r d) =
    m (c, Proc.tc.devRef main_arg0) (ix2 ⟨1024 * (t.val / 4) + r.val, by have := tile_lt t; omega⟩ d) := by
  blk_simp [iblk, idx0 t]
  entry_read
  blk_ext [idx0 t]

/-- The modulation row of the tile. -/
theorem blk1 (d : Fin 6144) : iblk m c 1 t (ix4 0 0 0 d) =
    m (c, Proc.tc.devRef main_arg1) (ix3 0 ⟨modRow (t.val / 4), modRow_lt _ (tile_lt t)⟩ d) := by
  blk_simp [iblk, idx1 t]
  entry_read
  pointwise
  blk_ext [idx1 t, modRow]

/-- The scale of the norm. -/
theorem blk2 (d : Fin 1024) : iblk m c 2 t (ix3 0 0 d) = m (c, Proc.tc.devRef main_arg2) (ix2 0 d) := by
  blk_simp [iblk, idx2 t]
  entry_read
  pointwise
  blk_ext [idx2 t]

/-- The first matrices of the step's experts. -/
theorem blk5 (j : Fin 4) (x : Fin 1024) (f : Fin 256) : iblk m c 5 t (ix4 0 j x f) =
    m (c, Proc.tc.devRef main_arg7) (ix4 0 ⟨4 * (t.val % 4) + j.val, by omega⟩ x f) := by
  blk_simp [iblk, idx5 t]
  entry_read
  pointwise
  blk_ext [idx5 t]

/-- The second matrices of the step's experts. -/
theorem blk6 (j : Fin 4) (x : Fin 1024) (f : Fin 256) : iblk m c 6 t (ix4 0 j x f) =
    m (c, Proc.tc.devRef main_arg8) (ix4 0 ⟨4 * (t.val % 4) + j.val, by omega⟩ x f) := by
  blk_simp [iblk, idx6 t]
  entry_read
  pointwise
  blk_ext [idx6 t]

/-- The down-projections of the step's experts. -/
theorem blk7 (j : Fin 4) (x : Fin 256) (f : Fin 1024) : iblk m c 7 t (ix4 0 j x f) =
    m (c, Proc.tc.devRef main_arg9) (ix4 0 ⟨4 * (t.val % 4) + j.val, by omega⟩ x f) := by
  blk_simp [iblk, idx7 t]
  entry_read
  pointwise
  blk_ext [idx7 t]

/-! The router's table and bias, as the host writes them. -/

/-- The table of the router: the group rows from row 0, the expert rows from row 8, zeros elsewhere. -/
def table (g : S4x1024x4.Idx → EReal) (e : S4x1024x16.Idx → EReal) : S4x32x1024.Idx → EReal :=
  Host.scatter scatter_S4x32x1024_S1_S4x16x1024_012_n_1_0 (fun _ b => b)
    (Host.scatter scatter_S4x32x1024_S1_S4x4x1024_012_n_1_0 (fun _ b => b)
      (broadcastInDim S4x32x1024 ![] bcast_S_S4x32x1024 (constant (F := Ideal) S_ .f32 0x00000000#32))
      (broadcastInDim S1 ![] bcast_S_S1 (constantI S_ 32 0#32))
      (transpose S4x4x1024 [0, 2, 1] g transposes_S4x1024x4_S4x4x1024_0_2_1))
    (broadcastInDim S1 ![] bcast_S_S1 (constantI S_ 32 8#32))
    (transpose S4x16x1024 [0, 2, 1] e transposes_S4x1024x16_S4x16x1024_0_2_1)

/-- The table and what rounding it leaves over, one above the other. -/
def tables (x : S4x32x1024.Idx → EReal) : S4x64x1024.Idx → EReal :=
  concatenate S4x64x1024 1 [⟨S4x32x1024, x⟩, ⟨S4x32x1024, subf (F := Ideal) (φ := .f32) x x⟩]
    concatenates_S4x32x1024_S4x32x1024_S4x64x1024_d1

theorem late (σ : Valuation τ sig (Elt Ideal)) :
    StableHlo.after ((hostOps0 (F := Ideal)).drop 14) σ (Proc.tc.devRef main_v15) = tables (σ (Proc.tc.devRef main_v10)) := by
  simp only [hostOps0, List.drop_succ_cons, List.drop_zero]
  entry_read
  rfl

theorem early (σ : Valuation τ sig (Elt Ideal)) :
    StableHlo.after ((hostOps0 (F := Ideal)).take 14) σ (Proc.tc.devRef main_v10) =
      table (σ (Proc.tc.devRef main_arg3)) (σ (Proc.tc.devRef main_arg5)) := by
  simp only [hostOps0, List.take_succ_cons, List.take_zero]
  entry_read
  rfl

/-- What the host leaves as the router's operand. -/
theorem V_tables : V m c main_v15 =
    tables (table (m (c, Proc.tc.devRef main_arg3)) (m (c, Proc.tc.devRef main_arg5))) := by
  show StableHlo.after hostOps0 (fun b => m (c, b)) (Proc.tc.devRef main_v15) = _
  rw [← List.take_append_drop 14 (hostOps0 (F := Ideal)), StableHlo.after_append, late, early]

theorem table_g (g e) (k : Fin 4) (d : Fin 1024) : table g e (ix3 0 ⟨k.val, by omega⟩ d) = g (ix3 0 d k) := by
  unfold table
  rw [miss_w16 8#32 (broadcastInDim S1 ![] bcast_S_S1 (constantI S_ 32 8#32)) (fun _ => rfl) _ _ _ (fun k' => by
      show (8 : Int) + _ ≠ ((k.val : Nat) : Int)
      omega),
    hit_w4 0#32 (broadcastInDim S1 ![] bcast_S_S1 (constantI S_ 32 0#32)) (fun _ => rfl) _ _ k _ (by show (0 : Int) + _ = _; rw [zero_add])]
  pointwise

theorem table_e (g e) (k : Fin 16) (d : Fin 1024) : table g e (ix3 0 ⟨8 + k.val, by omega⟩ d) = e (ix3 0 d k) := by
  unfold table
  rw [hit_w16 8#32 (broadcastInDim S1 ![] bcast_S_S1 (constantI S_ 32 8#32)) (fun _ => rfl) _ _ k _ (by
      show (8 : Int) + _ = ((8 + k.val : Nat) : Int)
      omega)]
  pointwise

theorem table_z (g e) (k : Fin 32) (hk : ¬ k.val < 4) (hk' : ¬ (8 ≤ k.val ∧ k.val < 24)) (d : Fin 1024) :
    table g e (ix3 0 k d) = 0 := by
  unfold table
  rw [miss_w16 8#32 (broadcastInDim S1 ![] bcast_S_S1 (constantI S_ 32 8#32)) (fun _ => rfl) _ _ _ (fun k' => by
      show (8 : Int) + _ ≠ ((k.val : Nat) : Int)
      omega),
    miss_w4 0#32 (broadcastInDim S1 ![] bcast_S_S1 (constantI S_ 32 0#32)) (fun _ => rfl) _ _ _ (fun k' => by
      show (0 : Int) + _ ≠ ((k.val : Nat) : Int)
      omega)]
  pointwise

/-- With finite weights every row of the router's table is a row of finite numbers. -/
theorem table_fin (g e) (hg : ∀ d k, ∃ r : ℝ, g (ix3 0 d k) = (r : EReal)) (he : ∀ d k, ∃ r : ℝ, e (ix3 0 d k) = (r : EReal))
    (k : Fin 32) (d : Fin 1024) : ∃ r : ℝ, table g e (ix3 0 k d) = (r : EReal) := by
  by_cases h : k.val < 4
  · obtain ⟨r, hr⟩ := hg d ⟨k.val, h⟩
    exact ⟨r, (table_g g e ⟨k.val, h⟩ d).trans hr⟩
  · by_cases h' : 8 ≤ k.val ∧ k.val < 24
    · obtain ⟨r, hr⟩ := he d ⟨k.val - 8, by omega⟩
      refine ⟨r, Eq.trans ?_ hr⟩
      rw [← table_e g e]
      congr 1
      congr 1
      exact Fin.ext (by show k.val = 8 + (k.val - 8); omega)
    · exact ⟨0, (table_z g e k h h' d).trans rfl⟩

theorem tables_hi (x) (k : Fin 32) (d : Fin 1024) : tables x (ix3 0 ⟨k.val, by omega⟩ d) = x (ix3 0 k d) := by
  unfold tables
  pointwise

theorem tables_lo (x) (k : Fin 32) (d : Fin 1024) (hx : ∃ r : ℝ, x (ix3 0 k d) = (r : EReal)) :
    tables x (ix3 0 ⟨32 + k.val, by omega⟩ d) = 0 := by
  unfold tables
  pointwise
  obtain ⟨r, hr⟩ := hx
  rw [hr, ← EReal.coe_sub, sub_self, EReal.coe_zero]

/-- The block of the router's operand is the whole of it. -/
theorem blk3 (k : Fin 64) (d : Fin 1024) : iblk m c 3 t (ix3 0 k d) =
    tables (table (m (c, Proc.tc.devRef main_arg3)) (m (c, Proc.tc.devRef main_arg5))) (ix3 0 k d) := by
  blk_simp [iblk, idx3 t]
  rw [V_tables]
  blk_ext [idx3 t]

/-- The bias of the router: the group entries from 0, the expert entries from 8, zeros elsewhere. -/
def biases (g : S4x4.Idx → EReal) (e : S4x16.Idx → EReal) : S4x32x1.Idx → EReal :=
  Host.scatter scatter_S4x32x1_S2_S4x16_01_2_12_0 (fun _ b => b)
    (Host.scatter scatter_S4x32x1_S2_S4x4_01_2_12_0 (fun _ b => b)
      (broadcastInDim S4x32x1 ![] bcast_S_S4x32x1 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩]
        concatenates_S1_S1_S2_d0) g)
    (concatenate S2 0 [⟨S1, broadcastInDim S1 ![] bcast_S_S1 (constantI S_ 32 8#32)⟩, ⟨S1, broadcastInDim S1 ![] bcast_S_S1 (constantI S_ 32 0#32)⟩]
      concatenates_S1_S1_S2_d0) e

theorem biases_g (g e) (k : Fin 4) : biases g e (ix3 0 ⟨k.val, by omega⟩ 0) = g (ix2 0 k) := by
  unfold biases
  rw [miss_b16 8#32 _ (by pointwise) (by pointwise) _ _ _ (fun k' => by
      show (8 : Int) + _ ≠ ((k.val : Nat) : Int)
      omega),
    hit_b4 0#32 _ (by pointwise) (by pointwise) _ _ k _ (by show (0 : Int) + _ = _; rw [zero_add])]

theorem biases_e (g e) (k : Fin 16) : biases g e (ix3 0 ⟨8 + k.val, by omega⟩ 0) = e (ix2 0 k) := by
  unfold biases
  rw [hit_b16 8#32 _ (by pointwise) (by pointwise) _ _ k _ (by
      show (8 : Int) + _ = ((8 + k.val : Nat) : Int)
      omega)]

/-- The block of the router's bias is the whole of it. -/
theorem blk4 (k : Fin 32) : iblk m c 4 t (ix3 0 k 0) =
    biases (m (c, Proc.tc.devRef main_arg4)) (m (c, Proc.tc.devRef main_arg6)) (ix3 0 k 0) := by
  blk_simp [iblk, idx4 t]
  entry_read
  show biases (m (c, Proc.tc.devRef main_arg4)) (m (c, Proc.tc.devRef main_arg6)) _ = _
  blk_ext [idx4 t]

end Cert.KernelIdeal.Value

end
-- ==== Proof.Row.lean ====
/-
  One token of the mixture of experts as formulas over rows of numbers: the norm is a row of finite numbers whatever the
  token, and so are its logits.
-/
module

public import proofs.«01_k».proof.Proof.KPay

@[expose] public section

noncomputable section

namespace Cert.Row

open Idealize.ShloMosaic Cert.KernelIdeal.Value

/-- A token's result: the token plus its gated mixture of the experts. -/
def out (h gt x : Fin 1024 → EReal) (w1 w3 : Fin 16 → Fin 1024 → Fin 256 → EReal) (w2 : Fin 16 → Fin 256 → Fin 1024 → EReal)
    (g : Fin 16 → EReal) (f : Fin 1024) : EReal :=
  h f + gt f * ∑ e, ∑ k, hid x (fun d => w1 e d k) (fun d => w3 e d k) * g e * w2 e k f

/-- A logit: the product of the normed token with a column of weights, plus the bias. -/
def logit {n : ℕ} (x : Fin 1024 → EReal) (w : Fin 1024 → Fin n → EReal) (b : Fin n → EReal) (k : Fin n) : EReal :=
  (∑ d, w d k * x d) + b k

theorem sum_coe {n : ℕ} (f : Fin n → ℝ) : ∑ d, (f d : EReal) = ((∑ d, f d : ℝ) : EReal) := by
  induction (Finset.univ : Finset (Fin n)) using Finset.induction_on with
  | empty => simp
  | insert a s ha ih => rw [Finset.sum_insert ha, Finset.sum_insert ha, ih, EReal.coe_add]

/-- Logits of finite numbers are finite. -/
theorem logit_real {n : ℕ} (x : Fin 1024 → EReal) (w : Fin 1024 → Fin n → EReal) (b : Fin n → EReal)
    (hx : ∀ d, ∃ r : ℝ, x d = (r : EReal)) (hw : ∀ d k, ∃ r : ℝ, w d k = (r : EReal)) (hb : ∀ k, ∃ r : ℝ, b k = (r : EReal)) :
    ∃ l : Fin n → ℝ, ∀ k, logit x w b k = (l k : EReal) := by
  choose x' hx using hx
  choose w' hw using hw
  choose b' hb using hb
  refine ⟨fun k => (∑ d, w' d k * x' d) + b' k, fun k => ?_⟩
  unfold logit
  simp only [hx, hw, hb, ← EReal.coe_mul, sum_coe, ← EReal.coe_add]

/-- The mean square's divisor. -/
theorem width : Ideal.ofBits FTy.f32 1149239296#32 = ((1024 : ℝ) : EReal) := by
  simp [Ideal.ofBits, Ideal.ieee, -EReal.coe_mul]; norm_num

/-- The offset under the root is a positive number. -/
theorem offset : ∃ r : ℝ, 0 < r ∧ Ideal.ofBits FTy.f32 897988541#32 = (r : EReal) := by
  refine ⟨_, ?_, by simp [Ideal.ofBits, Ideal.ieee]; rfl⟩
  norm_num

/-- A square is not negative. -/
theorem square_nonneg (a : EReal) : 0 ≤ a * a := by
  induction a with
  | bot => simp
  | top => simp
  | coe a => rw [← EReal.coe_mul]; exact_mod_cast mul_self_nonneg a

/-- The scale of the norm: a finite number, and 0 when an entry of the token is infinite. -/
theorem scale (h : Fin 1024 → EReal) :
    let q := Ideal.rsqrt (Ideal.div (∑ x, h x * h x) (Ideal.ofBits FTy.f32 1149239296#32) + Ideal.ofBits FTy.f32 897988541#32)
    ((∃ h' : Fin 1024 → ℝ, ∀ d, h d = (h' d : EReal)) ∧ ∃ r : ℝ, q = (r : EReal)) ∨ q = 0 := by
  intro q
  obtain ⟨ε, hε, he⟩ := offset
  by_cases hf : ∀ d, ∃ r : ℝ, h d = (r : EReal)
  · choose h' hh using hf
    refine Or.inl ⟨⟨h', hh⟩, ?_⟩
    have hs : ∑ x, h x * h x = ((∑ x, h' x * h' x : ℝ) : EReal) := by
      simp only [hh, ← EReal.coe_mul, sum_coe]
    have hn : 0 ≤ ∑ x, h' x * h' x := Finset.sum_nonneg fun x _ => mul_self_nonneg _
    have hq : q = Ideal.rsqrt (((∑ x, h' x * h' x) * (1 / 1024) + ε : ℝ) : EReal) := by
      simp only [q]
      rw [hs, width, he, Ideal.div_coe (by norm_num), ← EReal.coe_mul, ← EReal.coe_add]
    have hp : 0 < (∑ x, h' x * h' x) * (1 / 1024) + ε := by positivity
    rw [hq, Ideal.rsqrt_coe, if_neg (not_lt.2 hp.le), if_neg hp.ne']
    exact ⟨_, rfl⟩
  · refine Or.inr ?_
    obtain ⟨d, hd⟩ := not_forall.1 hf
    have ht : h d * h d = ⊤ := by
      induction hh : h d with
      | bot => simp
      | top => simp
      | coe a => exact absurd ⟨a, hh⟩ hd
    have hs : ∑ x, h x * h x = ⊤ := by
      refine top_le_iff.1 (ht ▸ ?_)
      exact Finset.single_le_sum (f := fun x => h x * h x) (fun x _ => square_nonneg _) (Finset.mem_univ d)
    have hq : q = Ideal.rsqrt ⊤ := by
      simp only [q]
      rw [hs, width, he, Ideal.div_coe (by norm_num), EReal.top_mul_coe_of_pos (by norm_num), EReal.top_add_coe]
    rw [hq, Ideal.rsqrt_top]

/-- The modulated norm of a token is a row of finite numbers, whatever the token, when the modulation is finite. -/
theorem norm_real (h g s t : Fin 1024 → EReal) (hg : ∀ d, ∃ r : ℝ, g d = (r : EReal)) (hs : ∀ d, ∃ r : ℝ, s d = (r : EReal))
    (ht : ∀ d, ∃ r : ℝ, t d = (r : EReal)) : ∃ x : Fin 1024 → ℝ, ∀ d, norm h g s t d = (x d : EReal) := by
  choose g' hg using hg
  choose s' hs using hs
  choose t' ht using ht
  rcases scale h with ⟨⟨h', hh⟩, r, hr⟩ | h0
  · refine ⟨fun d => h' d * r * g' d * (1 + s' d) + t' d, fun d => ?_⟩
    unfold KernelIdeal.Value.norm
    rw [hr, hh, hg, hs, ht]
    simp only [EReal.coe_add, EReal.coe_mul, EReal.coe_one]
  · refine ⟨fun d => t' d, fun d => ?_⟩
    unfold KernelIdeal.Value.norm
    rw [h0, mul_zero, zero_mul, zero_mul, zero_add, ht]

end Cert.Row

end
-- ==== Proof.KValue.lean ====
/-
  The kernel's result at a token: what the steps of its tile leave in the scratches, and the block the last one writes.
-/
module

public import proofs.«01_k».proof.Proof.KBlk
public import proofs.«01_k».proof.Proof.KGate
public import proofs.«01_k».proof.Proof.Row
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD)

/-! The rows of numbers a token meets, by its tile and its place there. -/

def hRow (i : Fin 16) (r d : Fin 1024) : EReal := m (c, Proc.tc.devRef main_arg0) (ix2 ⟨1024 * i.val + r.val, by omega⟩ d)
def modAt (i : Fin 16) (d : Fin 6144) : EReal := m (c, Proc.tc.devRef main_arg1) (ix3 0 ⟨modRow i.val, modRow_lt _ i.isLt⟩ d)
def nRow (d : Fin 1024) : EReal := m (c, Proc.tc.devRef main_arg2) (ix2 0 d)
def xRow (i : Fin 16) (r : Fin 1024) : Fin 1024 → EReal :=
  norm (hRow m c i r) (nRow m c) (fun d => modAt m c i ⟨4096 + d.val, by omega⟩) (fun d => modAt m c i ⟨3072 + d.val, by omega⟩)
def glRow (i : Fin 16) (r : Fin 1024) : Fin 4 → EReal :=
  Row.logit (xRow m c i r) (fun d k => m (c, Proc.tc.devRef main_arg3) (ix3 0 d k)) (fun k => m (c, Proc.tc.devRef main_arg4) (ix2 0 k))
def elRow (i : Fin 16) (r : Fin 1024) : Fin 16 → EReal :=
  Row.logit (xRow m c i r) (fun d k => m (c, Proc.tc.devRef main_arg5) (ix3 0 d k)) (fun k => m (c, Proc.tc.devRef main_arg6) (ix2 0 k))
def w1At (e : Fin 16) (d : Fin 1024) (k : Fin 256) : EReal := m (c, Proc.tc.devRef main_arg7) (ix4 0 e d k)
def w3At (e : Fin 16) (d : Fin 1024) (k : Fin 256) : EReal := m (c, Proc.tc.devRef main_arg8) (ix4 0 e d k)
def w2At (e : Fin 16) (k : Fin 256) (f : Fin 1024) : EReal := m (c, Proc.tc.devRef main_arg9) (ix4 0 e k f)

/-- The tile of a step. -/
def tile (t : Fin cfg0.N) : Fin 16 := ⟨t.val / 4, tile_lt t⟩

/-- The group of experts of a step. -/
def grp (t : Fin cfg0.N) : Fin 4 := ⟨t.val % 4, Nat.mod_lt _ (by decide)⟩

variable (t : Fin cfg0.N)

/-- The place a load of a stretch of the modulation row reads. -/
theorem at_mod (o : ℕ) (ho : o + 1024 ≤ 6144) (h) (d : Fin 1024) : (Rect.unit (s := S1x1x1x6144) ![0, 0, 0, o] ![1, 1, 1, 1024] h).idx (ix4 0 0 0 d)
    = ix4 0 0 0 ⟨o + d.val, by omega⟩ := by
  funext a
  fin_cases a
  · rfl
  · rfl
  · rfl
  · exact Fin.ext (congrArg (o + ·) (Nat.one_mul d.val))

/-- The place a load of one expert's matrix reads. -/
theorem at_expert (j : Fin 4) (h) (d : Fin 1024) (k : Fin 256) :
    (Rect.unit (s := S1x4x1024x256) ![0, j.val, 0, 0] ![1, 1, 1024, 256] h).idx (ix4 0 0 d k) = ix4 0 j d k := by
  funext a
  fin_cases a
  · rfl
  · exact Fin.ext (Nat.add_zero j.val)
  · exact Fin.ext ((Nat.zero_add _).trans (Nat.one_mul d.val))
  · exact Fin.ext ((Nat.zero_add _).trans (Nat.one_mul k.val))

theorem ld_scale (d : Fin 1024) : View.ld (iblk m c 1 t) (Rect.unit ![0, 0, 0, 4096] ![1, 1, 1, 1024] inb_S1x1x1x6144_S1x1x1x1024_0_0_0_4096) (ix4 0 0 0 d)
    = modAt m c (tile t) ⟨4096 + d.val, by omega⟩ :=
  Eq.trans (congrArg (iblk m c 1 t) (at_mod 4096 (by decide) _ d)) (blk1 m c t _)

theorem ld_shift (d : Fin 1024) : View.ld (iblk m c 1 t) (Rect.unit ![0, 0, 0, 3072] ![1, 1, 1, 1024] inb_S1x1x1x6144_S1x1x1x1024_0_0_0_3072) (ix4 0 0 0 d)
    = modAt m c (tile t) ⟨3072 + d.val, by omega⟩ :=
  Eq.trans (congrArg (iblk m c 1 t) (at_mod 3072 (by decide) _ d)) (blk1 m c t _)

theorem ld_out (d : Fin 1024) : View.ld (iblk m c 1 t) (Rect.unit ![0, 0, 0, 5120] ![1, 1, 1, 1024] inb_S1x1x1x6144_S1x1x1x1024_0_0_0_5120) (ix4 0 0 0 d)
    = modAt m c (tile t) ⟨5120 + d.val, by omega⟩ :=
  Eq.trans (congrArg (iblk m c 1 t) (at_mod 5120 (by decide) _ d)) (blk1 m c t _)

theorem ld_w1_0 (d : Fin 1024) (k : Fin 256) : View.ld (iblk m c 5 t) (Rect.unit ![0, 0, 0, 0] ![1, 1, 1024, 256] inb_S1x4x1024x256_S1x1x1024x256_0_0_0_0) (ix4 0 0 d k)
    = w1At m c (Router.pos (grp t) 0) d k :=
  Eq.trans (congrArg (iblk m c 5 t) (at_expert 0 _ d k)) (blk5 m c t 0 d k)

theorem ld_w3_0 (d : Fin 1024) (k : Fin 256) : View.ld (iblk m c 6 t) (Rect.unit ![0, 0, 0, 0] ![1, 1, 1024, 256] inb_S1x4x1024x256_S1x1x1024x256_0_0_0_0) (ix4 0 0 d k)
    = w3At m c (Router.pos (grp t) 0) d k :=
  Eq.trans (congrArg (iblk m c 6 t) (at_expert 0 _ d k)) (blk6 m c t 0 d k)

theorem ld_w1_1 (d : Fin 1024) (k : Fin 256) : View.ld (iblk m c 5 t) (Rect.unit ![0, 1, 0, 0] ![1, 1, 1024, 256] inb_S1x4x1024x256_S1x1x1024x256_0_1_0_0) (ix4 0 0 d k)
    = w1At m c (Router.pos (grp t) 1) d k :=
  Eq.trans (congrArg (iblk m c 5 t) (at_expert 1 _ d k)) (blk5 m c t 1 d k)

theorem ld_w3_1 (d : Fin 1024) (k : Fin 256) : View.ld (iblk m c 6 t) (Rect.unit ![0, 1, 0, 0] ![1, 1, 1024, 256] inb_S1x4x1024x256_S1x1x1024x256_0_1_0_0) (ix4 0 0 d k)
    = w3At m c (Router.pos (grp t) 1) d k :=
  Eq.trans (congrArg (iblk m c 6 t) (at_expert 1 _ d k)) (blk6 m c t 1 d k)

theorem ld_w1_2 (d : Fin 1024) (k : Fin 256) : View.ld (iblk m c 5 t) (Rect.unit ![0, 2, 0, 0] ![1, 1, 1024, 256] inb_S1x4x1024x256_S1x1x1024x256_0_2_0_0) (ix4 0 0 d k)
    = w1At m c (Router.pos (grp t) 2) d k :=
  Eq.trans (congrArg (iblk m c 5 t) (at_expert 2 _ d k)) (blk5 m c t 2 d k)

theorem ld_w3_2 (d : Fin 1024) (k : Fin 256) : View.ld (iblk m c 6 t) (Rect.unit ![0, 2, 0, 0] ![1, 1, 1024, 256] inb_S1x4x1024x256_S1x1x1024x256_0_2_0_0) (ix4 0 0 d k)
    = w3At m c (Router.pos (grp t) 2) d k :=
  Eq.trans (congrArg (iblk m c 6 t) (at_expert 2 _ d k)) (blk6 m c t 2 d k)

theorem ld_w1_3 (d : Fin 1024) (k : Fin 256) : View.ld (iblk m c 5 t) (Rect.unit ![0, 3, 0, 0] ![1, 1, 1024, 256] inb_S1x4x1024x256_S1x1x1024x256_0_3_0_0) (ix4 0 0 d k)
    = w1At m c (Router.pos (grp t) 3) d k :=
  Eq.trans (congrArg (iblk m c 5 t) (at_expert 3 _ d k)) (blk5 m c t 3 d k)

theorem ld_w3_3 (d : Fin 1024) (k : Fin 256) : View.ld (iblk m c 6 t) (Rect.unit ![0, 3, 0, 0] ![1, 1, 1024, 256] inb_S1x4x1024x256_S1x1x1024x256_0_3_0_0) (ix4 0 0 d k)
    = w3At m c (Router.pos (grp t) 3) d k :=
  Eq.trans (congrArg (iblk m c 6 t) (at_expert 3 _ d k)) (blk6 m c t 3 d k)

/-- The normed token a tile's first step leaves. -/
theorem freshX_at (r d : Fin 1024) : freshX m c t (ix2 r d) = xRow m c (tile t) r d := by
  unfold freshX
  rw [pay5_at]
  simp only [ld_scale, ld_shift, blk0, blk2]
  rfl

/-- What the router reads of the norm is the same row. -/
theorem norm_fresh (r d : Fin 1024) :
    norm (fun d => iblk m c 0 t (ix2 r d)) (fun d => iblk m c 2 t (ix3 0 0 d))
      (fun d => View.ld (iblk m c 1 t) (Rect.unit ![0, 0, 0, 4096] ![1, 1, 1, 1024] inb_S1x1x1x6144_S1x1x1x1024_0_0_0_4096) (ix4 0 0 0 d))
      (fun d => View.ld (iblk m c 1 t) (Rect.unit ![0, 0, 0, 3072] ![1, 1, 1, 1024] inb_S1x1x1x6144_S1x1x1x1024_0_0_0_3072) (ix4 0 0 0 d)) d
    = xRow m c (tile t) r d := by
  simp only [ld_scale, ld_shift, blk0, blk2]
  rfl

/-- Finiteness of the two weight matrices of the router. -/
def WFin : Prop := (∀ d k, ∃ r : ℝ, m (c, Proc.tc.devRef main_arg3) (ix3 0 d k) = (r : EReal))
  ∧ ∀ d k, ∃ r : ℝ, m (c, Proc.tc.devRef main_arg5) (ix3 0 d k) = (r : EReal)

theorem logits_fresh (hw : WFin m c) (r : Fin 1024) (x : Fin 1024 → ℝ) (hx : ∀ d, xRow m c (tile t) r d = (x d : EReal)) (k : Fin 32) :
    k0_pay9 (lowX m c t) (hiDot m c t) (hiTop m c t) (wrTop m c t) (iblk m c 4 t) (ix2 k r)
      = (∑ d, table (m (c, Proc.tc.devRef main_arg3)) (m (c, Proc.tc.devRef main_arg5)) (ix3 0 k d) * xRow m c (tile t) r d)
        + biases (m (c, Proc.tc.devRef main_arg4)) (m (c, Proc.tc.devRef main_arg6)) (ix3 0 k 0) := by
  unfold lowX hiDot hiTop
  rw [logits_at _ _ _ _ _ _ _ x k r (fun d => (norm_fresh m c t r d).trans (hx d))
    (fun d => (blk3 m c t _ d).trans (tables_lo _ k d (table_fin _ _ hw.1 hw.2 k d)))]
  simp only [blk3, blk4, tables_hi, hx]

theorem logits_g (hw : WFin m c) (r : Fin 1024) (x : Fin 1024 → ℝ) (hx : ∀ d, xRow m c (tile t) r d = (x d : EReal)) (k : Fin 4) :
    k0_pay9 (lowX m c t) (hiDot m c t) (hiTop m c t) (wrTop m c t) (iblk m c 4 t) (ix2 ⟨k.val, by omega⟩ r) = glRow m c (tile t) r k := by
  rw [logits_fresh m c t hw r x hx, biases_g]
  simp only [table_g]
  rfl

theorem logits_e (hw : WFin m c) (r : Fin 1024) (x : Fin 1024 → ℝ) (hx : ∀ d, xRow m c (tile t) r d = (x d : EReal)) (k : Fin 16) :
    k0_pay9 (lowX m c t) (hiDot m c t) (hiTop m c t) (wrTop m c t) (iblk m c 4 t) (ix2 ⟨8 + k.val, by omega⟩ r) = elRow m c (tile t) r k := by
  rw [logits_fresh m c t hw r x hx, biases_e]
  simp only [table_e]
  rfl

/-- The gates a tile's first step leaves. -/
theorem freshG_at (hw : WFin m c) (r : Fin 1024) (x : Fin 1024 → ℝ) (hx : ∀ d, xRow m c (tile t) r d = (x d : EReal))
    (G A B : Fin 4) (hr : Router.Route (glRow m c (tile t) r) (elRow m c (tile t) r) G A B) (hb : ∀ k, elRow m c (tile t) r k ≠ ⊥) (e : Fin 16) :
    freshG m c t (ix2 r ⟨e.val, by omega⟩) = Router.gate (glRow m c (tile t) r) (elRow m c (tile t) r) G A B e :=
  gates_at _ _ _ _ _ r _ (logits_g m c t hw r x hx) _ (logits_e m c t hw r x hx) G A B hr hb e

/-- What the experts of one group add at a token. -/
def part (x : Fin 1024 → EReal) (g : Fin 16 → EReal) (e : Fin 4) (f : Fin 1024) : EReal :=
  ∑ j : Fin 4, ∑ k : Fin 256, hid x (fun d => w1At m c (Router.pos e j) d k) (fun d => w3At m c (Router.pos e j) d k) * g (Router.pos e j)
    * w2At m c (Router.pos e j) k f

/-- One step adds its group's part. -/
theorem stepAcc_at (x : Vec Ideal S1024x1024 .bf16) (g : Vec Ideal S1024x128 .f32) (acc : Vec Ideal S1024x1024 .f32) (r f : Fin 1024) :
    stepAcc m c t x g acc (ix2 r f)
      = acc (ix2 r f) + part m c (fun d => x (ix2 r d)) (fun e => g (ix2 r ⟨e.val, by omega⟩)) (grp t) f := by
  have he : BitVec.ofNat 32 (grid0.coords t 1).val = BitVec.ofNat 32 (grp t).val := congrArg _ (co1 t)
  unfold stepAcc
  rw [pay1_at _ _ _ _ (grp t) he x g _ _ acc _ r f
    (fun j k => hid (fun d => x (ix2 r d)) (fun d => w1At m c (Router.pos (grp t) j) d k) (fun d => w3At m c (Router.pos (grp t) j) d k)
      * g (ix2 r ⟨(Router.pos (grp t) j).val, by have := (Router.pos (grp t) j).isLt; omega⟩))
    (fun k => ?_) (fun k => ?_) (fun k => ?_) (fun k => ?_)]
  · refine congrArg (acc (ix2 r f) + ·) (Finset.sum_congr rfl fun j _ => Finset.sum_congr rfl fun k _ => ?_)
    rw [blk7]
    rfl
  · rw [pay27_at _ _ _ _ _ r k (grp t) (co1 t)]
    simp only [ld_w1_0, ld_w3_0]
  · rw [pay28_at _ _ _ _ r k _ (grp t) he]
    simp only [ld_w1_1, ld_w3_1]
  · rw [pay31_at _ _ _ _ r k _ (grp t) he]
    simp only [ld_w1_2, ld_w3_2]
  · simp only [ld_w1_3, ld_w3_3]

end Cert.KernelIdeal.Value

end
-- ==== Proof.KFinal.lean ====
/-
  The kernel's result array: a token's row is what the four steps of its tile accumulate.
-/
module

public import proofs.«01_k».proof.Proof.KValue
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD)

theorem tile_pred (t : Fin cfg0.N) (h0 : ¬ t.val % 4 = 0) : tile ⟨t.val - 1, pred_lt t⟩ = tile t :=
  Fin.ext (by show (t.val - 1) / 4 = t.val / 4; omega)

/-- The routing and the gates of every token. -/
structure Routed (x : Fin 16 → Fin 1024 → Fin 1024 → ℝ) (G A B : Fin 16 → Fin 1024 → Fin 4) : Prop where
  weights : WFin m c
  row : ∀ i r d, xRow m c i r d = (x i r d : EReal)
  route : ∀ i r, Router.Route (glRow m c i r) (elRow m c i r) (G i r) (A i r) (B i r)
  low : ∀ i r k, elRow m c i r k ≠ ⊥

def gateRow (G A B : Fin 16 → Fin 1024 → Fin 4) (i : Fin 16) (r : Fin 1024) (e : Fin 16) : EReal :=
  Router.gate (glRow m c i r) (elRow m c i r) (G i r) (A i r) (B i r) e

variable {m c}
variable {x : Fin 16 → Fin 1024 → Fin 1024 → ℝ} {G A B : Fin 16 → Fin 1024 → Fin 4} (H : Routed m c x G A B)
include H

/-- The normed token and the gates stay in the scratches for the steps of a tile. -/
theorem state_xg (n : ℕ) : ∀ hn : n < cfg0.N, (∀ r d, (outsAt0 m c n hn).2.1 (ix2 r d) = xRow m c (tile ⟨n, hn⟩) r d)
    ∧ ∀ r (e : Fin 16), (outsAt0 m c n hn).2.2.1 (ix2 r ⟨e.val, by omega⟩) = gateRow m c G A B (tile ⟨n, hn⟩) r e := by
  induction n using Nat.strong_induction_on with
  | _ n ih =>
    intro hn
    by_cases h0 : n % 4 = 0
    · refine ⟨fun r d => ?_, fun r e => ?_⟩
      · exact (congrFun (first_x m c ⟨n, hn⟩ h0) _).trans (freshX_at m c ⟨n, hn⟩ r d)
      · exact (congrFun (first_g m c ⟨n, hn⟩ h0) _).trans
          (freshG_at m c ⟨n, hn⟩ H.weights r _ (H.row _ r) _ _ _ (H.route _ r) (H.low _ r) e)
    · obtain ⟨hx, hg⟩ := ih (n - 1) (by omega) (pred_lt ⟨n, hn⟩)
      rw [tile_pred ⟨n, hn⟩ h0] at hx hg
      refine ⟨fun r d => ?_, fun r e => ?_⟩
      · exact (congrFun (next_x m c ⟨n, hn⟩ h0) _).trans (hx r d)
      · exact (congrFun (next_g m c ⟨n, hn⟩ h0) _).trans (hg r e)

/-- The part of the groups up to the step's. -/
theorem state_acc (n : ℕ) : ∀ (hn : n < cfg0.N) (r f : Fin 1024), (outsAt0 m c n hn).2.2.2 (ix2 r f)
    = ∑ e : Fin 4, if e.val ≤ n % 4 then part m c (xRow m c (tile ⟨n, hn⟩) r) (gateRow m c G A B (tile ⟨n, hn⟩) r) e f else 0 := by
  induction n using Nat.strong_induction_on with
  | _ n ih =>
    intro hn r f
    by_cases h0 : n % 4 = 0
    · rw [congrFun (first_acc m c ⟨n, hn⟩ h0) (ix2 r f), stepAcc_at]
      have hz : k0_pay26 (F := Ideal) (ix2 r f) = (0 : EReal) := by
        unfold k0_pay26
        pointwise
      have hgrp : grp ⟨n, hn⟩ = 0 := Fin.ext h0
      have hx : (fun d => freshX m c ⟨n, hn⟩ (ix2 r d)) = xRow m c (tile ⟨n, hn⟩) r := funext fun d => freshX_at m c _ r d
      have hg : (fun e : Fin 16 => freshG m c ⟨n, hn⟩ (ix2 r ⟨e.val, by omega⟩)) = gateRow m c G A B (tile ⟨n, hn⟩) r :=
        funext fun e => freshG_at m c ⟨n, hn⟩ H.weights r _ (H.row _ r) _ _ _ (H.route _ r) (H.low _ r) e
      rw [hz, hx, hg, hgrp, zero_add, h0, Fin.sum_univ_four]
      simp
    · have hx := (state_xg H (n - 1) (pred_lt ⟨n, hn⟩)).1
      have hg := (state_xg H (n - 1) (pred_lt ⟨n, hn⟩)).2
      have ha := ih (n - 1) (by omega) (pred_lt ⟨n, hn⟩) r f
      rw [tile_pred ⟨n, hn⟩ h0] at hx hg ha
      rw [congrFun (next_acc m c ⟨n, hn⟩ h0) (ix2 r f), stepAcc_at]
      have hx' : (fun d => (outsAt0 m c (n - 1) (pred_lt ⟨n, hn⟩)).2.1 (ix2 r d)) = xRow m c (tile ⟨n, hn⟩) r := funext fun d => hx r d
      have hg' : (fun e : Fin 16 => (outsAt0 m c (n - 1) (pred_lt ⟨n, hn⟩)).2.2.1 (ix2 r ⟨e.val, by omega⟩)) = gateRow m c G A B (tile ⟨n, hn⟩) r :=
        funext fun e => hg r e
      rw [show (outsAt0 m c ((⟨n, hn⟩ : Fin cfg0.N).val - 1) (pred_lt ⟨n, hn⟩)).2.2.2 (ix2 r f) = _ from ha, hx', hg',
        Fin.sum_univ_four, Fin.sum_univ_four]
      have h4 : n % 4 < 4 := Nat.mod_lt _ (by decide)
      have hm : (n - 1) % 4 = n % 4 - 1 := by omega
      rw [hm]
      have hgrp : grp ⟨n, hn⟩ = ⟨n % 4, h4⟩ := rfl
      rw [hgrp]
      generalize n % 4 = q at *
      interval_cases q
      · exact absurd rfl h0
      all_goals simp [add_assoc]

/-- The whole mixture of a token, its experts taken group by group. -/
theorem parts (x : Fin 1024 → EReal) (g : Fin 16 → EReal) (f : Fin 1024) :
    ∑ e : Fin 4, part m c x g e f
      = ∑ e : Fin 16, ∑ k, hid x (fun d => w1At m c e d k) (fun d => w3At m c e d k) * g e * w2At m c e k f := by
  rw [Fin.sum_univ_tiles 4 4 rfl]
  refine Finset.sum_congr rfl fun e _ => ?_
  unfold part
  refine Finset.sum_congr rfl fun j _ => ?_
  have : ∀ (h), (⟨e.val * 4 + j.val, h⟩ : Fin 16) = Router.pos e j := fun h => Fin.ext (by simp only [Router.pos]; omega)
  simp only [this]

/-- The kernel's result. -/
def kres (m : (ℓ : Loc nD τ sig) → Buf (Elt Ideal) ℓ) (c : Dev nD) (G A B : Fin 16 → Fin 1024 → Fin 4) (R : Fin 16384) (f : Fin 1024) : EReal :=
  let i : Fin 16 := ⟨R.val / 1024, by omega⟩
  let r : Fin 1024 := ⟨R.val % 1024, by omega⟩
  Row.out (hRow m c i r) (fun d => modAt m c i ⟨5120 + d.val, by omega⟩) (xRow m c i r) (w1At m c) (w3At m c) (w2At m c)
    (gateRow m c G A B i r) f

theorem kernel_at : (dats m 0 c).arrAt 8 cfg0.N = fun i => kres m c G A B (i 0) (i 1) := by
  refine (dats m 0 c).arrAt_eq_of_covers 8 _ (by decide +kernel) fun t hf y => ?_
  rw [after0_8]
  have h3 : t.val % 4 = 3 := (flush0_8 t).1 hf
  rw [last_out m c t h3]
  obtain ⟨r, f, rfl⟩ : ∃ (r f : Fin 1024), y = ix2 r f := ⟨y 0, y 1, by funext a; fin_cases a <;> rfl⟩
  have he : (win0_8.blk t).view.emb (ix2 r f) = (ix2 ⟨1024 * (t.val / 4) + r.val, by have := tile_lt t; omega⟩ f : S16384x1024.Idx) := by
    blk_ext [idx8 t]
  have key : k0_pay2 (iblk m c 0 t) (View.ld (iblk m c 1 t) (Rect.unit ![0, 0, 0, 5120] ![1, 1, 1, 1024] inb_S1x1x1x6144_S1x1x1x1024_0_0_0_5120))
      (outsAt0 m c t.val t.isLt).2.2.2 (ix2 r f)
      = kres m c G A B ⟨1024 * (t.val / 4) + r.val, by have := tile_lt t; omega⟩ f := by
    rw [pay2_at, state_acc H, blk0, ld_out, h3]
    have hi : (⟨(1024 * (t.val / 4) + r.val) / 1024, by have := tile_lt t; omega⟩ : Fin 16) = tile t :=
      Fin.ext (by show (1024 * (t.val / 4) + r.val) / 1024 = t.val / 4; omega)
    have hr : (⟨(1024 * (t.val / 4) + r.val) % 1024, by omega⟩ : Fin 1024) = r :=
      Fin.ext (by show (1024 * (t.val / 4) + r.val) % 1024 = r.val; omega)
    unfold kres
    simp only [hi, hr]
    unfold Row.out
    rw [← parts H]
    have hle : ∀ e : Fin 4, e.val ≤ 3 := fun e => by omega
    simp only [hle, if_true]
    rfl
  have k2 : kres m c G A B ⟨1024 * (t.val / 4) + r.val, by have := tile_lt t; omega⟩ f
      = (fun i : S16384x1024.Idx => kres m c G A B (i 0) (i 1)) ((win0_8.blk t).view.emb (ix2 r f)) := by
    rw [he]
    rfl
  exact key.trans k2

end Cert.KernelIdeal.Value

end
-- ==== Proof.RefStages.lean ====
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The modulation of every token, row by row. -/
def refRows (arg1 : FVec Ideal S4x8x6144 .f32) : FVec Ideal S16384x6144 .f32 :=
  have v0 := extractStridedSlice S1x1x6144 ![0, 0, 0] arg1 slices_S4x8x6144_S1x1x6144_0_0_0
  have v1 := shapeCast S6144 v0 shapeCasts_S1x1x6144_S6144
  have v2 := (broadcastInDim S8192x6144 ![1] bcast_S6144_S8192x6144_1) v1
  have v3 := extractStridedSlice S1x1x6144 ![0, 1, 0] arg1 slices_S4x8x6144_S1x1x6144_0_1_0
  have v4 := shapeCast S6144 v3 shapeCasts_S1x1x6144_S6144
  have v5 := (broadcastInDim S4096x6144 ![1] bcast_S6144_S4096x6144_1) v4
  have v6 := extractStridedSlice S1x1x6144 ![0, 2, 0] arg1 slices_S4x8x6144_S1x1x6144_0_2_0
  have v7 := shapeCast S6144 v6 shapeCasts_S1x1x6144_S6144
  have v8 := (broadcastInDim S4096x6144 ![1] bcast_S6144_S4096x6144_1) v7
  fn_main_v9 (F := Ideal) v2 v5 v8

/-- The modulated norm of every token. -/
def refXm (arg0 : FVec Ideal S16384x1024 .f32) (v9 : FVec Ideal S16384x6144 .f32) (arg2 : FVec Ideal S4x1024 .f32) : FVec Ideal S16384x1024 .f32 :=
  have v18 := mulf arg0 arg0
  have cst := (constant S_ .f32 0x00000000#32)
  have v19 := Host.reduceAdd v18 cst reducesTo_S16384x1024_S16384_d1 h_S_
  have v20 := (broadcastInDim S16384x1 ![0] bcast_S16384_S16384x1_0) v19
  have cst_0 := (constant S_ .f32 0x44800000#32)
  have v21 := (broadcastInDim S16384x1 ![] bcast_S_S16384x1) cst_0
  have v22 := Host.divf v20 v21
  have cst_1 := (constant S_ .f32 0x358637BD#32)
  have v23 := (broadcastInDim S16384x1 ![] bcast_S_S16384x1) cst_1
  have v24 := addf v22 v23
  have v25 := Host.rsqrt v24
  have v26 := (broadcastInDim S16384x1024 ![0, 1] bcast_S16384x1_S16384x1024_0_1) v25
  have v27 := mulf arg0 v26
  have v16 := extractStridedSlice S1x1024 ![0, 0] arg2 slices_S4x1024_S1x1024_0_0
  have v17 := shapeCast S1024 v16 shapeCasts_S1x1024_S1024
  have v28 := (broadcastInDim S1x1024 ![1] bcast_S1024_S1x1024_1) v17
  have v29 := (broadcastInDim S16384x1024 ![0, 1] bcast_S1x1024_S16384x1024_0_1) v28
  have v30 := mulf v27 v29
  have cst_2 := (constant S_ .f32 0x3F800000#32)
  have v31 := (broadcastInDim S16384x1024 ![] bcast_S_S16384x1024) cst_2
  have v14 := extractStridedSlice S16384x1024 ![0, 4096] v9 slices_S16384x6144_S16384x1024_0_4096
  have v32 := addf v31 v14
  have v33 := mulf v30 v32
  have v13 := extractStridedSlice S16384x1024 ![0, 3072] v9 slices_S16384x6144_S16384x1024_0_3072
  addf v33 v13

/-- The group logits. -/
def refGl (v34 : FVec Ideal S16384x1024 .f32) (arg3 : FVec Ideal S4x1024x4 .f32) (arg4 : FVec Ideal S4x4 .f32) : FVec Ideal S16384x4 .f32 :=
  have v35 := extractStridedSlice S1x1024x4 ![0, 0, 0] arg3 slices_S4x1024x4_S1x1024x4_0_0_0
  have v36 := shapeCast S1024x4 v35 shapeCasts_S1x1024x4_S1024x4
  have v49 := Host.dotGeneral dot_S16384x1024_S1024x4_S16384x4_1_0_0_1_n_n none v34 v36
  have v37 := extractStridedSlice S1x4 ![0, 0] arg4 slices_S4x4_S1x4_0_0
  have v38 := shapeCast S4 v37 shapeCasts_S1x4_S4
  have v50 := (broadcastInDim S1x4 ![1] bcast_S4_S1x4_1) v38
  have v51 := (broadcastInDim S16384x4 ![0, 1] bcast_S1x4_S16384x4_0_1) v50
  addf v49 v51

/-- The expert logits. -/
def refEl (v34 : FVec Ideal S16384x1024 .f32) (arg5 : FVec Ideal S4x1024x16 .f32) (arg6 : FVec Ideal S4x16 .f32) : FVec Ideal S16384x16 .f32 :=
  have v39 := extractStridedSlice S1x1024x16 ![0, 0, 0] arg5 slices_S4x1024x16_S1x1024x16_0_0_0
  have v40 := shapeCast S1024x16 v39 shapeCasts_S1x1024x16_S1024x16
  have v66 := Host.dotGeneral dot_S16384x1024_S1024x16_S16384x16_1_0_0_1_n_n none v34 v40
  have v41 := extractStridedSlice S1x16 ![0, 0] arg6 slices_S4x16_S1x16_0_0
  have v42 := shapeCast S16 v41 shapeCasts_S1x16_S16
  have v67 := (broadcastInDim S1x16 ![1] bcast_S16_S1x16_1) v42
  have v68 := (broadcastInDim S16384x16 ![0, 1] bcast_S1x16_S16384x16_0_1) v67
  addf v66 v68

/-- The softmax of the group logits. -/
def refGprob (v52 : FVec Ideal S16384x4 .f32) : FVec Ideal S16384x4 .f32 :=
  have cst_4 := (constant S_ .f32 0xFF800000#32)
  have v54 := (broadcastInDim S16384 ![] bcast_S_S16384) cst_4
  have cst_3 := (constant S_ .f32 0xFF800000#32)
  have v53 := Host.reduce FloatOps.maximumf v52 cst_3 reducesTo_S16384x4_S16384_d1 h_S_
  have v55 := maximumf v54 v53
  have v56 := (broadcastInDim S16384x1 ![0] bcast_S16384_S16384x1_0) v55
  have v57 := (broadcastInDim S16384x4 ![0, 1] bcast_S16384x1_S16384x4_0_1) v56
  have v58 := subf v52 v57
  have v59 := Host.exp v58
  have cst_5 := (constant S_ .f32 0x00000000#32)
  have v60 := Host.reduceAdd v59 cst_5 reducesTo_S16384x4_S16384_d1 h_S_
  have v61 := (broadcastInDim S16384x1 ![0] bcast_S16384_S16384x1_0) v60
  have v62 := (broadcastInDim S16384x4 ![0, 1] bcast_S16384x1_S16384x4_0_1) v61
  Host.divf v59 v62

/-- The selected group. -/
def refGsel (v52 : FVec Ideal S16384x4 .f32) : IVec S16384 32 :=
  have indices := (Host.topK S16384x1 1 (FloatOps.cmpfTotal .gt) v52 sliceFits_S16384x4_S16384x1).2
  shapeCast S16384 indices shapeCasts_S16384x1_S16384

/-- The logits of the four experts in the selected group. -/
def refEin (v64 : IVec S16384 32) (v69 : FVec Ideal S16384x16 .f32) : FVec Ideal S16384x4 .f32 :=
  have v70 := shapeCast S16384x4x4 v69 shapeCasts_S16384x16_S16384x4x4
  have call0_v0 := (broadcastInDim S16384x1 ![0] bcast_S16384_S16384x1_0) v64
  have call0_v2 := (broadcastInDim S16384x4 ![0, 1] bcast_S16384x1_S16384x4_0_1) call0_v0
  have call0_v1 := (iotaInDim S1x4 32 1)
  have call0_v3 := (broadcastInDim S16384x4 ![0, 1] bcast_S1x4_S16384x4_0_1) call0_v1
  have call0_v4 := (cmpi .eq) call0_v2 call0_v3
  have v65 := (uitofp .f32) call0_v4
  have v71 := (broadcastInDim S16384x4x1 ![0, 1] bcast_S16384x4_S16384x4x1_0_1) v65
  have v72 := (broadcastInDim S16384x4x4 ![0, 1, 2] bcast_S16384x4x1_S16384x4x4_0_1_2) v71
  have v73 := mulf v70 v72
  have cst_6 := (constant S_ .f32 0x00000000#32)
  Host.reduceAdd v73 cst_6 reducesTo_S16384x4x4_S16384x4_d1 h_S_

/-- The two greatest of the four. -/
def refTopV (v74 : FVec Ideal S16384x4 .f32) : FVec Ideal S16384x2 .f32 :=
  (Host.topK S16384x2 1 (FloatOps.cmpfTotal .gt) v74 sliceFits_S16384x4_S16384x2).1

/-- Their positions. -/
def refTopI (v74 : FVec Ideal S16384x4 .f32) : IVec S16384x2 32 :=
  (Host.topK S16384x2 1 (FloatOps.cmpfTotal .gt) v74 sliceFits_S16384x4_S16384x2).2

/-- The weights of the two experts. -/
def refWTop (values_7 : FVec Ideal S16384x2 .f32) (v63 : FVec Ideal S16384x4 .f32) : FVec Ideal S16384x2 .f32 :=
  have cst_10 := (constant S_ .f32 0xFF800000#32)
  have v76 := (broadcastInDim S16384 ![] bcast_S_S16384) cst_10
  have cst_9 := (constant S_ .f32 0xFF800000#32)
  have v75 := Host.reduce FloatOps.maximumf values_7 cst_9 reducesTo_S16384x2_S16384_d1 h_S_
  have v77 := maximumf v76 v75
  have v78 := (broadcastInDim S16384x1 ![0] bcast_S16384_S16384x1_0) v77
  have v79 := (broadcastInDim S16384x2 ![0, 1] bcast_S16384x1_S16384x2_0_1) v78
  have v80 := subf values_7 v79
  have v81 := Host.exp v80
  have cst_11 := (constant S_ .f32 0x00000000#32)
  have v82 := Host.reduceAdd v81 cst_11 reducesTo_S16384x2_S16384_d1 h_S_
  have v83 := (broadcastInDim S16384x1 ![0] bcast_S16384_S16384x1_0) v82
  have v84 := (broadcastInDim S16384x2 ![0, 1] bcast_S16384x1_S16384x2_0_1) v83
  have v85 := Host.divf v81 v84
  have cst_12 := (constant S_ .f32 0xFF800000#32)
  have v86 := Host.reduce FloatOps.maximumf v63 cst_12 reducesTo_S16384x4_S16384_d1 h_S_
  have v87 := (broadcastInDim S16384x1 ![0] bcast_S16384_S16384x1_0) v86
  have v88 := (broadcastInDim S16384x2 ![0, 1] bcast_S16384x1_S16384x2_0_1) v87
  mulf v85 v88

/-- The gates of all experts. -/
def refGates (v64 : IVec S16384 32) (indices_8 : IVec S16384x2 32) (v89 : FVec Ideal S16384x2 .f32) : FVec Ideal S16384x16 .f32 :=
  have v90 := (broadcastInDim S16384x1 ![0] bcast_S16384_S16384x1_0) v64
  have c := (constantI S_ 32 4#32)
  have v91 := (broadcastInDim S16384x1 ![] bcast_S_S16384x1) c
  have v92 := muli v90 v91
  have v93 := (broadcastInDim S16384x2 ![0, 1] bcast_S16384x1_S16384x2_0_1) v92
  have v94 := addi v93 indices_8
  have call1_v0 := (broadcastInDim S16384x2x1 ![0, 1] bcast_S16384x2_S16384x2x1_0_1) v94
  have call1_v2 := (broadcastInDim S16384x2x16 ![0, 1, 2] bcast_S16384x2x1_S16384x2x16_0_1_2) call1_v0
  have call1_v1 := (iotaInDim S1x1x16 32 2)
  have call1_v3 := (broadcastInDim S16384x2x16 ![0, 1, 2] bcast_S1x1x16_S16384x2x16_0_1_2) call1_v1
  have call1_v4 := (cmpi .eq) call1_v2 call1_v3
  have v95 := (uitofp .f32) call1_v4
  have v96 := (broadcastInDim S16384x2x1 ![0, 1] bcast_S16384x2_S16384x2x1_0_1) v89
  have v97 := (broadcastInDim S16384x2x16 ![0, 1, 2] bcast_S16384x2x1_S16384x2x16_0_1_2) v96
  have v98 := mulf v95 v97
  have cst_13 := (constant S_ .f32 0x00000000#32)
  Host.reduceAdd v98 cst_13 reducesTo_S16384x2x16_S16384x16_d1 h_S_

/-- The hidden layer of every expert before its gate. -/
def refHdn (v34 : FVec Ideal S16384x1024 .f32) (arg7 : FVec Ideal S4x16x1024x256 .f32) (arg8 : FVec Ideal S4x16x1024x256 .f32) : FVec Ideal S16384x16x256 .f32 :=
  have v43 := extractStridedSlice S1x16x1024x256 ![0, 0, 0, 0] arg7 slices_S4x16x1024x256_S1x16x1024x256_0_0_0_0
  have v44 := shapeCast S16x1024x256 v43 shapeCasts_S1x16x1024x256_S16x1024x256
  have v100 := Host.dotGeneral dot_S16384x1024_S16x1024x256_S16384x16x256_1_1_0_02_n_n none v34 v44
  have call2_cst_0 := (constant S_ .f32 0x3F800000#32)
  have call2_v4 := (broadcastInDim S16384x16x256 ![] bcast_S_S16384x16x256) call2_cst_0
  have call2_cst := (constant S_ .f32 0x3F800000#32)
  have call2_v2 := (broadcastInDim S16384x16x256 ![] bcast_S_S16384x16x256) call2_cst
  have call2_v0 := Host.negf v100
  have call2_v1 := Host.exp call2_v0
  have call2_v3 := addf call2_v2 call2_v1
  have call2_v5 := Host.divf call2_v4 call2_v3
  have v101 := mulf v100 call2_v5
  have v45 := extractStridedSlice S1x16x1024x256 ![0, 0, 0, 0] arg8 slices_S4x16x1024x256_S1x16x1024x256_0_0_0_0
  have v46 := shapeCast S16x1024x256 v45 shapeCasts_S1x16x1024x256_S16x1024x256
  have v102 := Host.dotGeneral dot_S16384x1024_S16x1024x256_S16384x16x256_1_1_0_02_n_n none v34 v46
  mulf v101 v102

/-- The gated sum over the experts on the residual. -/
def refOut (arg0 : FVec Ideal S16384x1024 .f32) (v9 : FVec Ideal S16384x6144 .f32) (v99 : FVec Ideal S16384x16 .f32) (v103 : FVec Ideal S16384x16x256 .f32) (arg9 : FVec Ideal S4x16x256x1024 .f32) : FVec Ideal S16384x1024 .f32 :=
  have v15 := extractStridedSlice S16384x1024 ![0, 5120] v9 slices_S16384x6144_S16384x1024_0_5120
  have v104 := (broadcastInDim S16384x16x1 ![0, 1] bcast_S16384x16_S16384x16x1_0_1) v99
  have v105 := (broadcastInDim S16384x16x256 ![0, 1, 2] bcast_S16384x16x1_S16384x16x256_0_1_2) v104
  have v106 := mulf v103 v105
  have v47 := extractStridedSlice S1x16x256x1024 ![0, 0, 0, 0] arg9 slices_S4x16x256x1024_S1x16x256x1024_0_0_0_0
  have v48 := shapeCast S16x256x1024 v47 shapeCasts_S1x16x256x1024_S16x256x1024
  have v107 := Host.dotGeneral dot_S16384x16x256_S16x256x1024_S16384x1024_12_01_0_2_n_n none v106 v48
  have v108 := mulf v15 v107
  addf arg0 v108

set_option maxHeartbeats 4000000 in
/-- The reference's result is its stages in order. -/
theorem res_stages (m : (ℓ : Loc nD τ sig) → Buf (Elt Ideal) ℓ) (c : Dev nD) (xm : FVec Ideal S16384x1024 .f32)
    (gl : FVec Ideal S16384x4 .f32) (rows : FVec Ideal S16384x6144 .f32) (ein : FVec Ideal S16384x4 .f32)
    (hrows : rows = refRows (m ((c.tc : Thread nD τ).loc main_arg1)))
    (hxm : xm = refXm (m ((c.tc : Thread nD τ).loc main_arg0)) rows (m ((c.tc : Thread nD τ).loc main_arg2)))
    (hgl : gl = refGl xm (m ((c.tc : Thread nD τ).loc main_arg3)) (m ((c.tc : Thread nD τ).loc main_arg4)))
    (hein : ein = refEin (refGsel gl) (refEl xm (m ((c.tc : Thread nD τ).loc main_arg5)) (m ((c.tc : Thread nD τ).loc main_arg6)))) :
    res_main_v109 m c = refOut (m ((c.tc : Thread nD τ).loc main_arg0)) rows
      (refGates (refGsel gl) (refTopI ein) (refWTop (refTopV ein) (refGprob gl)))
      (refHdn xm (m ((c.tc : Thread nD τ).loc main_arg7)) (m ((c.tc : Thread nD τ).loc main_arg8)))
      (m ((c.tc : Thread nD τ).loc main_arg9)) := by
  subst hein hgl hxm hrows
  rfl

end Cert.ReferenceIdeal.Value

end
-- ==== Proof.RefAt.lean ====
/-
  The reference read at one token: its norm, its logits, the group and the experts it selects, their gates and the sum.
-/
module

public import proofs.«01_k».proof.Proof.RefStages
public import proofs.«01_k».proof.Proof.Order
public import proofs.«01_k».proof.Proof.Router
public import proofs.«01_k».proof.Proof.Row
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Router Cert.Order

theorem rows_at (a : FVec Ideal S4x8x6144 .f32) (r : Fin 16384) (d : Fin 6144) (k : Fin 8)
    (hk : k.val = if r.val < 8192 then 0 else if r.val < 12288 then 1 else 2) : refRows a (ix2 r d) = a (ix3 0 k d) := by
  unfold refRows fn_main_v9
  pointwise
  split_ifs with h1 h2
  · rw [if_pos h1] at hk
    exact congrArg a (congrArg (fun z => ix3 0 z d) (Fin.ext hk.symm))
  · rw [if_neg h1, if_pos (by omega)] at hk
    exact congrArg a (congrArg (fun z => ix3 0 z d) (Fin.ext hk.symm))
  · rw [if_neg h1, if_neg (by omega)] at hk
    exact congrArg a (congrArg (fun z => ix3 0 z d) (Fin.ext hk.symm))

theorem xm_at (a : FVec Ideal S16384x1024 .f32) (b : FVec Ideal S16384x6144 .f32) (g : FVec Ideal S4x1024 .f32) (r : Fin 16384) (d : Fin 1024) :
    refXm a b g (ix2 r d) = KernelIdeal.Value.norm (fun d => a (ix2 r d)) (fun d => g (ix2 0 d)) (fun d => b (ix2 r ⟨4096 + d.val, by omega⟩))
      (fun d => b (ix2 r ⟨3072 + d.val, by omega⟩)) d := by
  unfold refXm
  pointwise
  rfl

theorem gl_at (a : FVec Ideal S16384x1024 .f32) (b : FVec Ideal S4x1024x4 .f32) (g : FVec Ideal S4x4 .f32) (r : Fin 16384) (k : Fin 4) :
    refGl a b g (ix2 r k) = Row.logit (fun d => a (ix2 r d)) (fun d k => b (ix3 0 d k)) (fun k => g (ix2 0 k)) k := by
  unfold refGl
  pointwise
  exact congrArg (· + g (ix2 0 k)) (Finset.sum_congr rfl fun d _ => mul_comm _ _)

theorem el_at (a : FVec Ideal S16384x1024 .f32) (b : FVec Ideal S4x1024x16 .f32) (g : FVec Ideal S4x16 .f32) (r : Fin 16384) (k : Fin 16) :
    refEl a b g (ix2 r k) = Row.logit (fun d => a (ix2 r d)) (fun d k => b (ix3 0 d k)) (fun k => g (ix2 0 k)) k := by
  unfold refEl
  pointwise
  exact congrArg (· + g (ix2 0 k)) (Finset.sum_congr rfl fun d _ => mul_comm _ _)

/-- The place of the `z`-th of four numbers in descending order. -/
def place (v : Fin 4 → EReal) (z : Fin 4) : Fin 4 :=
  sortedFrom (fun k k' => FloatOps.cmpfTotal (F := Ideal) (φ := .f32) CmpDirection.gt (v k) (v k') == 1#1) z

theorem along_row (r : Fin 16384) (f k : Fin 4) : (ix2 r f : S16384x4.Idx).along 1 k = ix2 r k := by
  funext a
  fin_cases a <;> rfl

theorem gsel_at (a : FVec Ideal S16384x4 .f32) (r : Fin 16384) : refGsel a (ix1 r) = BitVec.ofNat 32 (place (fun k => a (ix2 r k)) 0).val := by
  unfold refGsel Host.topK Host.sort2
  pointwise
  simp only [along_row]
  rfl

theorem topV_at (a : FVec Ideal S16384x4 .f32) (r : Fin 16384) (f : Fin 2) :
    refTopV a (ix2 r f) = a (ix2 r (place (fun k => a (ix2 r k)) ⟨f.val, by omega⟩)) := by
  unfold refTopV Host.topK Host.sort2
  pointwise
  simp only [along_row]
  rfl

theorem topI_at (a : FVec Ideal S16384x4 .f32) (r : Fin 16384) (f : Fin 2) :
    refTopI a (ix2 r f) = BitVec.ofNat 32 (place (fun k => a (ix2 r k)) ⟨f.val, by omega⟩).val := by
  unfold refTopI Host.topK Host.sort2
  pointwise
  simp only [along_row]
  rfl

theorem ein_at (s : IVec S16384 32) (a : FVec Ideal S16384x16 .f32) (r : Fin 16384) (f G : Fin 4) (hs : s (ix1 r) = BitVec.ofNat 32 G.val) :
    refEin s a (ix2 r f) = a (ix2 r (pos G f)) := by
  unfold refEin
  pointwise
  rw [hs]
  exact ein (fun k => a (ix2 r k)) G f _

theorem gates_at (s : IVec S16384 32) (i : IVec S16384x2 32) (b : FVec Ideal S16384x2 .f32) (r : Fin 16384) (e : Fin 16) (G A B : Fin 4)
    (hs : s (ix1 r) = BitVec.ofNat 32 G.val) (hA : i (ix2 r 0) = BitVec.ofNat 32 A.val) (hB : i (ix2 r 1) = BitVec.ofNat 32 B.val) (hAB : B ≠ A) :
    refGates s i b (ix2 r e) = if e = pos G A then b (ix2 r 0) else if e = pos G B then b (ix2 r 1) else (0 : EReal) := by
  unfold refGates
  pointwise
  rw [hs]
  exact gates_ref G A B hAB (fun x => b (ix2 r x)) (fun x => i (ix2 r x)) hA hB e

theorem wtop_at (a : FVec Ideal S16384x2 .f32) (b : FVec Ideal S16384x4 .f32) (r : Fin 16384) (v : Fin 2 → ℝ) (h : v 1 ≤ v 0)
    (hv : ∀ f, a (ix2 r f) = (v f : EReal)) :
    refWTop a b (ix2 r 0) = Ideal.div 1 (1 + Ideal.exp ((v 1 : EReal) - (v 0 : EReal)))
        * Finset.univ.fold max (Ideal.ofBits FTy.f32 4286578688#32) (fun y : Fin 4 => b (ix2 r y))
    ∧ refWTop a b (ix2 r 1) = Ideal.exp ((v 1 : EReal) - (v 0 : EReal)) * Ideal.div 1 (1 + Ideal.exp ((v 1 : EReal) - (v 0 : EReal)))
        * Finset.univ.fold max (Ideal.ofBits FTy.f32 4286578688#32) (fun y : Fin 4 => b (ix2 r y)) := by
  have q := two v h
  constructor
  · unfold refWTop
    pointwise
    simp only [hv]
    exact congrArg (· * _) q.1
  · unfold refWTop
    pointwise
    simp only [hv]
    exact congrArg (· * _) q.2

theorem gprob_at (a : FVec Ideal S16384x4 .f32) (r : Fin 16384) (g : Fin 4 → ℝ) (hg : ∀ k, a (ix2 r k) = (g k : EReal)) (G : Fin 4)
    (h : FirstMax (fun x => (g x : EReal)) G) :
    Finset.univ.fold max (Ideal.ofBits FTy.f32 4286578688#32) (fun y : Fin 4 => refGprob a (ix2 r y)) = share (fun x => (g x : EReal)) G := by
  refine Eq.trans (congrArg (Finset.univ.fold max (Ideal.ofBits FTy.f32 4286578688#32)) (funext fun y => ?_)) (gprob g G h)
  unfold refGprob
  pointwise
  simp only [hg]

theorem hdn_at (a : FVec Ideal S16384x1024 .f32) (b d : FVec Ideal S4x16x1024x256 .f32) (r : Fin 16384) (e : Fin 16) (f : Fin 256) :
    refHdn a b d (ix3 r e f) = KernelIdeal.Value.hid (fun x => a (ix2 r x)) (fun x => b (ix4 0 e x f)) (fun x => d (ix4 0 e x f)) := by
  unfold refHdn
  pointwise
  rfl

theorem out_at (a : FVec Ideal S16384x1024 .f32) (b : FVec Ideal S16384x6144 .f32) (g : FVec Ideal S16384x16 .f32) (h : FVec Ideal S16384x16x256 .f32)
    (w : FVec Ideal S4x16x256x1024 .f32) (r : Fin 16384) (f : Fin 1024) :
    refOut a b g h w (ix2 r f) = a (ix2 r f) + b (ix2 r ⟨5120 + f.val, by omega⟩) *
      ∑ x : Fin 16, ∑ k : Fin 256, h (ix3 r x k) * g (ix2 r x) * w (ix4 0 x k f) := by
  unfold refOut
  pointwise

/-- What the reference selects at a token: the group, the first expert of it and the second. -/
def selG (gl : Fin 4 → EReal) : Fin 4 := place gl 0
def selA (gl : Fin 4 → EReal) (el : Fin 16 → EReal) : Fin 4 := place (fun j => el (pos (selG gl) j)) 0
def selB (gl : Fin 4 → EReal) (el : Fin 16 → EReal) : Fin 4 := place (fun j => el (pos (selG gl) j)) 1

/-- The selection is the routing by first greatest entries. -/
theorem route (gl : Fin 4 → EReal) (el : Fin 16 → EReal) : Route gl el (selG gl) (selA gl el) (selB gl el) := by
  have q := sorted_second (fun j => el (pos (selG gl) j)) _ (fun a b => gt_iff _ _) 0 1 rfl rfl
  exact ⟨sorted_first gl _ (fun a b => gt_iff _ _) 0 rfl, sorted_first (fun j => el (pos (selG gl) j)) _ (fun a b => gt_iff _ _) 0 rfl, q.1, q.2.1, q.2.2⟩

/-- The reference's gates at a token. -/
theorem gate_row (gl : FVec Ideal S16384x4 .f32) (el : FVec Ideal S16384x16 .f32) (r : Fin 16384) (g : Fin 4 → ℝ) (l : Fin 16 → ℝ)
    (g' : Fin 4 → EReal) (l' : Fin 16 → EReal) (hg' : ∀ k, gl (ix2 r k) = g' k) (hl' : ∀ k, el (ix2 r k) = l' k)
    (hg : ∀ k, g' k = (g k : EReal)) (hl : ∀ k, l' k = (l k : EReal)) (e : Fin 16) :
    refGates (refGsel gl) (refTopI (refEin (refGsel gl) el)) (refWTop (refTopV (refEin (refGsel gl) el)) (refGprob gl)) (ix2 r e)
      = gate g' l' (selG g') (selA g' l') (selB g' l') e := by
  have hr := route g' l'
  have hglr : (fun k => gl (ix2 r k)) = g' := funext hg'
  have hs : refGsel gl (ix1 r) = BitVec.ofNat 32 (selG g').val := by rw [gsel_at, hglr]; rfl
  have hein : ∀ f, refEin (refGsel gl) el (ix2 r f) = l' (pos (selG g') f) := fun f => (ein_at _ el r f _ hs).trans (hl' _)
  have heinr : (fun f => refEin (refGsel gl) el (ix2 r f)) = fun f => l' (pos (selG g') f) := funext hein
  have hA : refTopI (refEin (refGsel gl) el) (ix2 r 0) = BitVec.ofNat 32 (selA g' l').val := by rw [topI_at, heinr]; rfl
  have hB : refTopI (refEin (refGsel gl) el) (ix2 r 1) = BitVec.ofNat 32 (selB g' l').val := by rw [topI_at, heinr]; rfl
  have hvA : refTopV (refEin (refGsel gl) el) (ix2 r 0) = l' (pos (selG g') (selA g' l')) := by rw [topV_at, heinr, hein]; rfl
  have hvB : refTopV (refEin (refGsel gl) el) (ix2 r 1) = l' (pos (selG g') (selB g' l')) := by rw [topV_at, heinr, hein]; rfl
  have hle : l (pos (selG g') (selB g' l')) ≤ l (pos (selG g') (selA g' l')) := by
    have := hr.first.1 (selB g' l')
    simp only [hl] at this
    exact_mod_cast this
  have hw := wtop_at (refTopV (refEin (refGsel gl) el)) (refGprob gl) r
    ![l (pos (selG g') (selA g' l')), l (pos (selG g') (selB g' l'))] hle (fun f => by
      fin_cases f
      · exact hvA.trans (hl _)
      · exact hvB.trans (hl _))
  have hgr : (fun x => (g x : EReal)) = g' := funext fun k => (hg k).symm
  have hp := gprob_at gl r g (fun k => (hg' k).trans (hg k)) (selG g') (by rw [hgr]; exact hr.group)
  rw [hp, hgr] at hw
  rw [gates_at _ _ _ r e _ _ _ hs hA hB hr.ne, gate, ratio, hl, hl]
  exact if_congr Iff.rfl hw.1 (if_congr Iff.rfl hw.2 rfl)

end Cert.ReferenceIdeal.Value

end
-- ==== Proof.Finite.lean ====
/-
  The precondition read: the modulation, the scale of the norm and the router's weights and biases are finite.
-/
module

public import proofs.«01_k».proof.Defs
public import proofs.«01_k».proof.Proof.Gen.Pre_finite
public import Idealize.ShloMosaic.Lib.ReduceAll
public import Idealize.ShloMosaic.Lib.Pointwise

@[expose] public section

noncomputable section

namespace Cert.Finite

open Idealize.ShloMosaic Cert.Pre_finite

/-- A number whose absolute value is below infinity is finite. -/
theorem real_of (a : Ideal .f32) (h : FloatOps.cmpf CmpFPredicate.olt (FloatOps.hostAbsf a) (Ideal.ofBits .f32 0x7F800000#32) = 1#1) :
    ∃ r : ℝ, (a : EReal) = (r : EReal) := by
  induction a using EReal.rec with
  | bot => exact absurd (show Ideal.cmp .olt (max (⊥ : EReal) (-⊥)) (Ideal.ofBits .f32 0x7F800000#32) = 1#1 from h) (by
      simp [Ideal.ofBits, Ideal.ieee, Ideal.cmp])
  | top => exact absurd (show Ideal.cmp .olt (max (⊤ : EReal) (-⊤)) (Ideal.ofBits .f32 0x7F800000#32) = 1#1 from h) (by
      simp [Ideal.ofBits, Ideal.ieee, Ideal.cmp])
  | coe r => exact ⟨r, rfl⟩

theorem finite_all (a0 : FVec Ideal S16384x1024 .f32) (a1 : FVec Ideal S4x8x6144 .f32) (a2 : FVec Ideal S4x1024 .f32) (a3 : FVec Ideal S4x1024x4 .f32)
    (a4 : FVec Ideal S4x4 .f32) (a5 : FVec Ideal S4x1024x16 .f32) (a6 : FVec Ideal S4x16 .f32) (a7 a8 : FVec Ideal S4x16x1024x256 .f32)
    (a9 : FVec Ideal S4x16x256x1024 .f32) (h : fn (F := Ideal) a0 a1 a2 a3 a4 a5 a6 a7 a8 a9 = fun _ => 1#1) :
    (∀ i, ∃ r : ℝ, (a1 i : EReal) = (r : EReal)) ∧ (∀ i, ∃ r : ℝ, (a2 i : EReal) = (r : EReal)) ∧ (∀ i, ∃ r : ℝ, (a3 i : EReal) = (r : EReal))
    ∧ (∀ i, ∃ r : ℝ, (a4 i : EReal) = (r : EReal)) ∧ (∀ i, ∃ r : ℝ, (a5 i : EReal) = (r : EReal)) ∧ ∀ i, ∃ r : ℝ, (a6 i : EReal) = (r : EReal) := by
  have andi_one (a b : BitVec 1) : IntOp.andi a b = 1#1 ↔ a = 1#1 ∧ b = 1#1 := by revert a b; decide
  have q := congrFun h (fun a => a.elim0)
  haveI : Subsingleton S_.Idx := ⟨fun a b => funext fun i => i.elim0⟩
  simp only [fn, fn_part1, andi, andi_one] at q
  obtain ⟨⟨⟨⟨⟨q1, q2⟩, q3⟩, q4⟩, q5⟩, q6⟩ := q
  exact ⟨fun i => real_of _ (Host.reduce_andi_all _ _ _ _ _ q1 i), fun i => real_of _ (Host.reduce_andi_all _ _ _ _ _ q2 i),
    fun i => real_of _ (Host.reduce_andi_all _ _ _ _ _ q3 i), fun i => real_of _ (Host.reduce_andi_all _ _ _ _ _ q4 i),
    fun i => real_of _ (Host.reduce_andi_all _ _ _ _ _ q5 i), fun i => real_of _ (Host.reduce_andi_all _ _ _ _ _ q6 i)⟩

end Cert.Finite

end
-- ==== Proof.Equal.lean ====
/-
  The two results are one array: at every token the kernel's formula is the reference's.
-/
module

public import proofs.«01_k».proof.Proof.KFinal
public import proofs.«01_k».proof.Proof.RefAt
public import proofs.«01_k».proof.Proof.Finite

@[expose] public section

set_option maxRecDepth 16384

noncomputable section

namespace Cert.Equal

open Idealize.ShloMosaic Idealize.ShloMosaic.TcCoe Idealize.SL.Sem
open Cert.KernelIdeal (nD τ sig)
open Cert.KernelIdeal.Value Cert.ReferenceIdeal.Value

variable (m : (ℓ : Loc nD τ sig) → Buf (Elt Ideal) ℓ) (c : Dev nD)

/-- The group and the experts a token selects. -/
def G (i : Fin 16) (r : Fin 1024) : Fin 4 := selG (glRow m c i r)
def A (i : Fin 16) (r : Fin 1024) : Fin 4 := selA (glRow m c i r) (elRow m c i r)
def B (i : Fin 16) (r : Fin 1024) : Fin 4 := selB (glRow m c i r) (elRow m c i r)

variable {m c}

/-- Under the precondition every token's normed row and its logits are finite. -/
theorem rows_real (h : Cert.Pre_KernelIdeal_finite m) (i : Fin 16) (r : Fin 1024) :
    (∃ x : Fin 1024 → ℝ, ∀ d, xRow m c i r d = (x d : EReal)) ∧ (∃ g : Fin 4 → ℝ, ∀ k, glRow m c i r k = (g k : EReal))
    ∧ ∃ l : Fin 16 → ℝ, ∀ k, elRow m c i r k = (l k : EReal) := by
  obtain ⟨h1, h2, h3, h4, h5, h6⟩ := Finite.finite_all _ _ _ _ _ _ _ _ _ _ (h c)
  have hx : ∃ x : Fin 1024 → ℝ, ∀ d, xRow m c i r d = (x d : EReal) :=
    Row.norm_real _ _ _ _ (fun d => h2 _) (fun d => h1 _) (fun d => h1 _)
  have hx' : ∀ d, ∃ r' : ℝ, xRow m c i r d = (r' : EReal) := fun d => ⟨_, hx.choose_spec d⟩
  exact ⟨hx, Row.logit_real _ _ _ hx' (fun d k => h3 _) (fun k => h4 _), Row.logit_real _ _ _ hx' (fun d k => h5 _) (fun k => h6 _)⟩

theorem routed (h : Cert.Pre_KernelIdeal_finite m) :
    Routed m c (fun i r => (rows_real (c := c) h i r).1.choose) (G m c) (A m c) (B m c) where
  weights := ⟨fun d k => (Finite.finite_all _ _ _ _ _ _ _ _ _ _ (h c)).2.2.1 _, fun d k => (Finite.finite_all _ _ _ _ _ _ _ _ _ _ (h c)).2.2.2.2.1 _⟩
  row := fun i r => (rows_real h i r).1.choose_spec
  route := fun i r => route _ _
  low := fun i r k => by
    obtain ⟨l, hl⟩ := (rows_real (c := c) h i r).2.2
    rw [hl]
    exact EReal.coe_ne_bot _

/-- The kernel's result is the reference's, both from the kernel's arguments. -/
theorem result (h : Cert.Pre_KernelIdeal_finite m)
    (a0 : FVec Ideal ReferenceIdeal.S16384x1024 .f32) (a1 : FVec Ideal ReferenceIdeal.S4x8x6144 .f32) (a2 : FVec Ideal ReferenceIdeal.S4x1024 .f32)
    (a3 : FVec Ideal ReferenceIdeal.S4x1024x4 .f32) (a4 : FVec Ideal ReferenceIdeal.S4x4 .f32) (a5 : FVec Ideal ReferenceIdeal.S4x1024x16 .f32)
    (a6 : FVec Ideal ReferenceIdeal.S4x16 .f32) (a7 a8 : FVec Ideal ReferenceIdeal.S4x16x1024x256 .f32) (a9 : FVec Ideal ReferenceIdeal.S4x16x256x1024 .f32)
    (e0 : a0 = m (c, Proc.tc.devRef KernelIdeal.main_arg0)) (e1 : a1 = m (c, Proc.tc.devRef KernelIdeal.main_arg1))
    (e2 : a2 = m (c, Proc.tc.devRef KernelIdeal.main_arg2)) (e3 : a3 = m (c, Proc.tc.devRef KernelIdeal.main_arg3))
    (e4 : a4 = m (c, Proc.tc.devRef KernelIdeal.main_arg4)) (e5 : a5 = m (c, Proc.tc.devRef KernelIdeal.main_arg5))
    (e6 : a6 = m (c, Proc.tc.devRef KernelIdeal.main_arg6)) (e7 : a7 = m (c, Proc.tc.devRef KernelIdeal.main_arg7))
    (e8 : a8 = m (c, Proc.tc.devRef KernelIdeal.main_arg8)) (e9 : a9 = m (c, Proc.tc.devRef KernelIdeal.main_arg9))
    (R : Fin 16384) (f : Fin 1024) :
    refOut a0 (refRows a1)
      (refGates (refGsel (refGl (refXm a0 (refRows a1) a2) a3 a4))
        (refTopI (refEin (refGsel (refGl (refXm a0 (refRows a1) a2) a3 a4)) (refEl (refXm a0 (refRows a1) a2) a5 a6)))
        (refWTop (refTopV (refEin (refGsel (refGl (refXm a0 (refRows a1) a2) a3 a4)) (refEl (refXm a0 (refRows a1) a2) a5 a6)))
          (refGprob (refGl (refXm a0 (refRows a1) a2) a3 a4))))
      (refHdn (refXm a0 (refRows a1) a2) a7 a8) a9 (ix2 R f)
    = kres m c (G m c) (A m c) (B m c) R f := by
  obtain ⟨i, hi⟩ : ∃ i : Fin 16, i.val = R.val / 1024 := ⟨⟨R.val / 1024, by omega⟩, rfl⟩
  obtain ⟨r, hr⟩ : ∃ r : Fin 1024, r.val = R.val % 1024 := ⟨⟨R.val % 1024, by omega⟩, rfl⟩
  have hR : ∀ d, a0 (ix2 R d) = hRow m c i r d := fun d => by
    rw [e0, hRow]
    exact congrArg _ (congrArg (fun z => ix2 z d) (Fin.ext (by show R.val = 1024 * i.val + r.val; omega)))
  have hmod : ∀ d, refRows a1 (ix2 R d) = modAt m c i d := fun d => by
    rw [rows_at a1 R d ⟨modRow i.val, modRow_lt _ i.isLt⟩ ?_, e1, modAt]
    show modRow i.val = _
    rw [modRow, hi]
    split_ifs <;> omega
  have hx : ∀ d, refXm a0 (refRows a1) a2 (ix2 R d) = xRow m c i r d := fun d => by
    rw [xm_at]
    simp only [hR, hmod, e2]
    rfl
  have hxr : (fun d => refXm a0 (refRows a1) a2 (ix2 R d)) = xRow m c i r := funext hx
  have hgl : ∀ k, refGl (refXm a0 (refRows a1) a2) a3 a4 (ix2 R k) = glRow m c i r k := fun k => by
    rw [gl_at, hxr, e3, e4]
    rfl
  have hel : ∀ k, refEl (refXm a0 (refRows a1) a2) a5 a6 (ix2 R k) = elRow m c i r k := fun k => by
    rw [el_at, hxr, e5, e6]
    rfl
  obtain ⟨g, hg⟩ := (rows_real (c := c) h i r).2.1
  obtain ⟨l, hl⟩ := (rows_real (c := c) h i r).2.2
  have hk : kres m c (G m c) (A m c) (B m c) R f
      = Row.out (hRow m c i r) (fun d => modAt m c i ⟨5120 + d.val, by omega⟩) (xRow m c i r) (w1At m c) (w3At m c) (w2At m c)
        (gateRow m c (G m c) (A m c) (B m c) i r) f := by
    have h1 : (⟨R.val / 1024, by omega⟩ : Fin 16) = i := Fin.ext hi.symm
    have h2 : (⟨R.val % 1024, by omega⟩ : Fin 1024) = r := Fin.ext hr.symm
    unfold kres
    simp only [h1, h2]
  rw [hk, out_at, hR, hmod, Row.out]
  refine congrArg (fun z => hRow m c i r f + modAt m c i ⟨5120 + f.val, by omega⟩ * z) ?_
  refine Finset.sum_congr rfl fun e _ => Finset.sum_congr rfl fun k _ => ?_
  rw [hdn_at, gate_row _ _ R g l (glRow m c i r) (elRow m c i r) hgl hel hg hl e, hxr, e7, e8, e9]
  rfl

end Cert.Equal

end
-- ==== Proof.Merge.lean ====
/-
  One token of the merge call as formulas over rows of numbers: a head of the gated normed branch, and the token plus the
  gated sum of its four branches.
-/
module

public import proofs.«01_k».proof.Proof.Row

@[expose] public section

noncomputable section

namespace Cert.Merge

open Idealize.ShloMosaic Cert.KernelIdeal.Value

/-- The logistic function. -/
def sg (x : EReal) : EReal := Ideal.div 1 (1 + Ideal.exp (-x))

/-- One column of a head of the first branch: the head's entry over its root mean square, times the scale and the gate's
    silu. -/
def head (o : Fin 64 → EReal) (k : Fin 64) (g z : EReal) : EReal :=
  o k * Ideal.rsqrt (Ideal.div (∑ x, o x * o x) (Ideal.ofBits FTy.f32 1115684864#32) + Ideal.ofBits FTy.f32 897988541#32)
    * g * (z * sg z)

/-- The first branch of a token: its four heads one after the other. -/
def heads (o : Fin 4 → Fin 64 → EReal) (g : Fin 64 → EReal) (z : Fin 256 → EReal) (k : Fin 256) : EReal :=
  head (o ⟨k.val / 64, by omega⟩) ⟨k.val % 64, by omega⟩ (g ⟨k.val % 64, by omega⟩) (z k)

/-- A column of the merged branches: each branch's projection times its gate. -/
def merged (x : Fin 1024 → EReal) (mg : Fin 4 → Fin 1024 → Fin 1024 → EReal) (br : Fin 4 → Fin 256 → EReal)
    (wb : Fin 4 → Fin 256 → Fin 1024 → EReal) (e : Fin 1024) : EReal :=
  ∑ n, sg (∑ d, x d * mg n d e) * ∑ k, br n k * wb n k e

/-- A token's result: the token plus the gated projection of its merged branches. -/
def out (h gt a : Fin 1024 → EReal) (wo : Fin 1024 → Fin 1024 → EReal) (f : Fin 1024) : EReal :=
  h f + gt f * ∑ e, a e * wo e f

/-- The half of the tokens an entry is in, and its row there. -/
def split {α : Type} (a l : Fin 8192 → α) (r : Fin 16384) : α :=
  if h : r.val < 8192 then a ⟨r.val, h⟩ else l ⟨r.val - 8192, by omega⟩

/-- The place a column of the fourth branch is stored at: its heads lie in the order 0, 2, 1, 3. -/
def stored (k : Fin 256) : Fin 256 := ⟨64 * (2 * (k.val / 64 % 2) + k.val / 128) + k.val % 64, by omega⟩

theorem stored_stored (k : Fin 256) : stored (stored k) = k := by
  revert k
  decide +kernel

/-- A sum over the stored columns is the sum over the columns. -/
theorem sum_stored (p q : Fin 256 → EReal) : ∑ k, p k * q (stored k) = ∑ k, p (stored k) * q k := by
  rw [← Equiv.sum_comp (⟨stored, stored, stored_stored, stored_stored⟩ : Fin 256 ≃ Fin 256) (fun k => p (stored k) * q k)]
  refine Finset.sum_congr rfl fun k _ => ?_
  show p k * q (stored k) = p (stored (stored k)) * q (stored k)
  rw [stored_stored]

/-- Multiplying by 1/64 is dividing by 64. -/
theorem mean (a : EReal) : a * Ideal.ofBits FTy.f32 1015021568#32 = Ideal.div a (Ideal.ofBits FTy.f32 1115684864#32) := by
  have h1 : Ideal.ofBits FTy.f32 1115684864#32 = ((64 : ℝ) : EReal) := by
    simp [Ideal.ofBits, Ideal.ieee, -EReal.coe_mul]; norm_num
  have h2 : Ideal.ofBits FTy.f32 1015021568#32 = ((1 / 64 : ℝ) : EReal) := by
    simp [Ideal.ofBits, Ideal.ieee, -EReal.coe_mul]; norm_num
  rw [h1, h2, Ideal.div_coe (by norm_num)]

/-- A sum over 256 columns is the sum over the two halves. -/
theorem halves (p : Fin 256 → EReal) :
    (∑ k : Fin 128, p ⟨k.val, by omega⟩) + ∑ k : Fin 128, p ⟨128 + k.val, by omega⟩ = ∑ k, p k := by
  rw [Fin.sum_univ_tiles 2 128 rfl, Fin.sum_univ_two]
  refine congrArg₂ (· + ·) (Finset.sum_congr rfl fun k _ => congrArg p (Fin.ext ?_)) (Finset.sum_congr rfl fun k _ => congrArg p (Fin.ext ?_))
  · show k.val = 0 * 128 + k.val
    omega
  · show 128 + k.val = 1 * 128 + k.val
    omega

end Cert.Merge

end
-- ==== Proof.MergeBlk.lean ====
/-
  The merge call: what the host hands it, entry by entry, and which block of each operand a step reads.
-/
module

public import proofs.«01_k».proof.Proof.Gen.Kernel2Ideal.Frame
public import proofs.«01_k».proof.Proof.Merge
public import Idealize.ShloMosaic.Lib.Pipeline.ValueKit
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable (m : (ℓ : Loc nD τ sig) → Buf (Elt Ideal) ℓ) (c : Dev nD) (t : Fin cfg0.N)

theorem tile_lt : t.val < 32 := t.isLt

/-! The words the host computes. -/

/-- Floor division of a column number by 64, in words. -/
theorem floor_word : ∀ i : Fin 128, Scalar.select
      (IntOp.andi
        (IntOp.cmpi CmpIPredicate.ne
          (if BitVec.ofNat 32 i.val = 0 then (0 : BitVec 32) else if (BitVec.ofNat 32 i.val).msb = true then -1 else 1)
          (if 64#32 = 0 then (0 : BitVec 32) else if (64#32).msb = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) = BitVec.ofNat 32 (i.val / 64) := by
  decide +kernel

/-- The list of places the host holds. -/
theorem stored_word : ∀ k : Fin 256, lit0 (S256.rowMajor (ix1 k)) = BitVec.ofNat 32 (Merge.stored k).val := by
  decide +kernel

/-- A place is not negative and below 256. -/
theorem place_word : ∀ k : Fin 256, Scalar.select (IntOp.cmpi CmpIPredicate.slt (BitVec.ofNat 32 k.val) 0#32)
    (IntOp.addi (BitVec.ofNat 32 k.val) 256#32) (BitVec.ofNat 32 k.val) = BitVec.ofNat 32 k.val
    ∧ IntOp.andi (IntOp.cmpi CmpIPredicate.sge (BitVec.ofNat 32 k.val) 0#32) (IntOp.cmpi CmpIPredicate.sle (BitVec.ofNat 32 k.val) 255#32) = 1#1
    ∧ (BitVec.ofNat 32 k.val).toInt.toNat = k.val := by
  decide +kernel

theorem select_one {α : Type} (a b : α) : Scalar.select (1#1) a b = a := rfl

/-- The conjunction of bits that are all one. -/
theorem fold_ones {ι : Type} (s : Finset ι) : s.fold IntOp.andi (1#1) (fun _ => 1#1) = 1#1 := by
  classical
  induction s using Finset.induction_on with
  | empty => rfl
  | insert a s h ih => rw [Finset.fold_insert h, ih]; rfl

/-- The rows taken by number, read at an entry. -/
theorem gather_rows {α : Type} (x : S4x256x1024.Idx → α) (idx : IVec S256x1 32) (n : Fin 4) (k : Fin 256) (d : Fin 1024) (p : Fin 256)
    (hp : (idx (ix2 k 0)).toInt.toNat = p.val) :
    Host.gather gather_S4x256x1024_S256x1_S4x256x1024_02_1_n_n_1_1_411024 x idx (ix3 n k d) = x (ix3 n p d) := by
  unfold Host.gather
  congr 1
  funext a
  refine Fin.ext ?_
  show gather_S4x256x1024_S256x1_S4x256x1024_02_1_n_n_1_1_411024.start (ix3 n k d) idx a
    + gather_S4x256x1024_S256x1_S4x256x1024_02_1_n_n_1_1_411024.batchCoord (ix3 n k d) a
    + gather_S4x256x1024_S256x1_S4x256x1024_02_1_n_n_1_1_411024.offCoord (ix3 n k d) a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · unfold GatherDims.start
    rw [dif_neg (by decide)]
    unfold GatherDims.offCoord
    rw [dif_pos (by decide)]
    show 0 + 0 + n.val = n.val
    omega
  · rw [GatherDims.offCoord_eq_zero _ _ _ (fun h => ((GatherDims.mem_sKept _ _).mp h).1 (List.mem_singleton.mpr rfl))]
    simp only [Nat.add_zero]
    have hsi : ∀ q, gather_S4x256x1024_S256x1_S4x256x1024_02_1_n_n_1_1_411024.siIdx (ix3 n k d) q = ix2 k 0 := by
      intro q
      funext b
      refine Fin.ext ?_
      match b with
      | ⟨0, _⟩ => rfl
      | ⟨1, _⟩ => exact Nat.lt_one_iff.1 q.isLt
    unfold GatherDims.start
    rw [dif_pos (show (1 : Fin 3) ∈ gather_S4x256x1024_S256x1_S4x256x1024_02_1_n_n_1_1_411024.startIndexMap from List.mem_singleton.mpr rfl), hsi, hp]
    show min p.val 255 = p.val
    omega
  · unfold GatherDims.start
    rw [dif_neg (by decide)]
    unfold GatherDims.offCoord
    rw [dif_pos (by decide)]
    show 0 + 0 + d.val = d.val
    omega

/-- The matrix that adds the columns of a head: one where the two columns lie in one head, zero elsewhere. -/
theorem V_b64 (i j : Fin 128) : V m c main_v9 (ix2 i j) = if i.val / 64 = j.val / 64 then (1 : EReal) else 0 := by
  simp only [V, List.flatten_cons, List.flatten_nil, List.append_nil, List.cons_append, List.nil_append]
  entry_read
  simp only [StableHlo.TRef.toBuf, StableHlo.TRef.ofBuf, cast_eq]
  pointwise
  refine Eq.trans (congrArg₂ (fun a b => Scalar.select (IntOp.cmpi CmpIPredicate.eq a b) (1 : EReal) 0) (floor_word i) (floor_word j)) ?_
  have h : ∀ a b : Fin 2, IntOp.cmpi CmpIPredicate.eq (BitVec.ofNat 32 a.val) (BitVec.ofNat 32 b.val) = if a.val = b.val then 1#1 else 0#1 := by decide
  have h' : IntOp.cmpi CmpIPredicate.eq (BitVec.ofNat 32 (i.val / 64)) (BitVec.ofNat 32 (j.val / 64)) = if i.val / 64 = j.val / 64 then 1#1 else 0#1 :=
    h ⟨i.val / 64, by omega⟩ ⟨j.val / 64, by omega⟩
  simp only [h']
  split_ifs <;> rfl

/-- The branches' weights: the first three as given, the fourth with its rows at their stored places. -/
theorem V_wb (n : Fin 4) (k : Fin 256) (d : Fin 1024) : V m c main_v18 (ix4 0 n k d)
    = m (c, Proc.tc.devRef main_arg13) (ix4 0 n (if n.val < 3 then k else Merge.stored k) d) := by
  simp only [V, List.flatten_cons, List.flatten_nil, List.append_nil, List.cons_append, List.nil_append]
  entry_read
  simp only [StableHlo.TRef.toBuf, StableHlo.TRef.ofBuf, cast_eq]
  pointwise
  split_ifs with h
  · rfl
  · simp only [stored_word, (place_word _).1, (place_word _).2.1, fold_ones]
    have hn : n = 3 := Fin.ext (by show n.val = 3; omega)
    subst hn
    refine (select_one _ _).trans ((gather_rows _ _ 0 k d (Merge.stored k) ?_).trans rfl)
    pointwise
    rw [stored_word, (place_word _).1, (place_word _).2.2]

/-- The head's scale, four times over. -/
theorem V_gn (k : Fin 256) : V m c main_v23 (ix3 0 0 k) = m (c, Proc.tc.devRef main_arg6) (ix2 0 ⟨k.val % 64, by omega⟩) := by
  simp only [V, List.flatten_cons, List.flatten_nil, List.append_nil, List.cons_append, List.nil_append]
  entry_read
  pointwise

/-- The columns of the gates. -/
theorem V_mg (d : Fin 1024) (e : Fin 4096) : V m c main_v11 (ix3 0 d e) = m (c, Proc.tc.devRef main_arg12) (ix3 0 d ⟨2832 + e.val, by omega⟩) := by
  simp only [V, List.flatten_cons, List.flatten_nil, List.append_nil, List.cons_append, List.nil_append]
  entry_read
  pointwise

theorem V_wo (d e : Fin 1024) : V m c main_v19 (ix3 0 d e) = m (c, Proc.tc.devRef main_arg14) (ix3 0 d e) := by
  simp only [V, List.flatten_cons, List.flatten_nil, List.append_nil, List.cons_append, List.nil_append]
  entry_read
  pointwise

theorem V_mod (k : Fin 8) (d : Fin 6144) : V m c main_v24 (ix4 0 k 0 d) = m (c, Proc.tc.devRef main_arg1) (ix3 0 k d) := by
  simp only [V, List.flatten_cons, List.flatten_nil, List.append_nil, List.cons_append, List.nil_append]
  entry_read
  pointwise

theorem V_n1 (d : Fin 1024) : V m c main_v25 (ix3 0 0 d) = m (c, Proc.tc.devRef main_arg2) (ix2 0 d) := by
  simp only [V, List.flatten_cons, List.flatten_nil, List.append_nil, List.cons_append, List.nil_append]
  entry_read
  pointwise

/-! Which block of each operand a step reads. -/

theorem idx0 : ∀ t : Fin cfg0.N, win0_0.index t = ![t.val, 0] := (by decide +kernel : ∀ t : Fin grid0.N, _)
theorem idx1 : ∀ t : Fin cfg0.N, win0_1.index t = ![0, if t.val < 16 then 0 else 1 + (t.val - 16) / 8, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, min t.val 15, 0] := (by decide +kernel : ∀ t : Fin grid0.N, _)
theorem idx4 : ∀ t : Fin cfg0.N, win0_4.index t = ![0, t.val - 16, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![min t.val 15, 0] := (by decide +kernel : ∀ t : Fin grid0.N, _)
theorem idx8 : ∀ t : Fin cfg0.N, win0_8.index t = ![t.val - 16, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![min t.val 15, 0] := (by decide +kernel : ∀ t : Fin grid0.N, _)
theorem idx11 : ∀ t : Fin cfg0.N, win0_11.index t = ![t.val - 16, 0] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![0, 0, 0, 0] := (by decide +kernel : ∀ t : Fin grid0.N, _)
theorem idx14 : ∀ t : Fin cfg0.N, win0_14.index t = ![0, 0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![t.val, 0] := (by decide +kernel : ∀ t : Fin grid0.N, _)

/-- The row of the modulation table a tile of tokens takes. -/
def modRow (i : Nat) : Nat := if i < 16 then 0 else 1 + (i - 16) / 8

theorem modRow_lt (i : Nat) (h : i < 32) : modRow i < 8 := by
  unfold modRow; split <;> omega

/-- A token of the tile. -/
theorem blk0 (r : Fin 512) (d : Fin 1024) : iblk m c 0 t (ix2 r d) =
    m (c, Proc.tc.devRef main_arg0) (ix2 ⟨512 * t.val + r.val, by have := tile_lt t; omega⟩ d) := by
  blk_simp [iblk, idx0 t]
  rw [V_main_arg0]
  blk_ext [idx0 t]

/-- The modulation row of the tile. -/
theorem blk1 (d : Fin 6144) : iblk m c 1 t (ix4 0 0 0 d) =
    m (c, Proc.tc.devRef main_arg1) (ix3 0 ⟨modRow t.val, modRow_lt _ (tile_lt t)⟩ d) := by
  blk_simp [iblk, idx1 t]
  refine Eq.trans ?_ (V_mod m c _ d)
  blk_ext [idx1 t, modRow]

/-- The scale of the norm. -/
theorem blk2 (d : Fin 1024) : iblk m c 2 t (ix3 0 0 d) = m (c, Proc.tc.devRef main_arg2) (ix2 0 d) := by
  blk_simp [iblk, idx2 t]
  refine Eq.trans ?_ (V_n1 m c d)
  blk_ext [idx2 t]

/-- The heads of the first branch, for the tiles of the first half and for the others. -/
theorem blk3 (j : Fin 4) (r : Fin 512) (k : Fin 64) : iblk m c 3 t (ix3 j r k) =
    m (c, Proc.tc.devRef main_arg3) (ix3 j ⟨512 * min t.val 15 + r.val, by omega⟩ k) := by
  blk_simp [iblk, idx3 t]
  rw [V_main_arg3]
  blk_ext [idx3 t]

theorem blk4 (j : Fin 4) (r : Fin 512) (k : Fin 64) : iblk m c 4 t (ix3 j r k) =
    m (c, Proc.tc.devRef main_arg4) (ix3 j ⟨512 * (t.val - 16) + r.val, by have := tile_lt t; omega⟩ k) := by
  blk_simp [iblk, idx4 t]
  rw [V_main_arg4]
  blk_ext [idx4 t]

/-- The gate of the first branch. -/
theorem blk5 (r : Fin 512) (k : Fin 256) : iblk m c 5 t (ix2 r k) =
    m (c, Proc.tc.devRef main_arg5) (ix2 ⟨512 * t.val + r.val, by have := tile_lt t; omega⟩ k) := by
  blk_simp [iblk, idx5 t]
  rw [V_main_arg5]
  blk_ext [idx5 t]

/-- The scale of the heads. -/
theorem blk6 (k : Fin 256) : iblk m c 6 t (ix3 0 0 k) = m (c, Proc.tc.devRef main_arg6) (ix2 0 ⟨k.val % 64, by omega⟩) := by
  blk_simp [iblk, idx6 t]
  refine Eq.trans ?_ (V_gn m c k)
  blk_ext [idx6 t]

/-- The second branch. -/
theorem blk7 (r : Fin 512) (k : Fin 256) : iblk m c 7 t (ix2 r k) =
    m (c, Proc.tc.devRef main_arg7) (ix2 ⟨512 * min t.val 15 + r.val, by omega⟩ k) := by
  blk_simp [iblk, idx7 t]
  rw [V_main_arg7]
  blk_ext [idx7 t]

theorem blk8 (r : Fin 512) (k : Fin 256) : iblk m c 8 t (ix2 r k) =
    m (c, Proc.tc.devRef main_arg8) (ix2 ⟨512 * (t.val - 16) + r.val, by have := tile_lt t; omega⟩ k) := by
  blk_simp [iblk, idx8 t]
  rw [V_main_arg8]
  blk_ext [idx8 t]

/-- The third branch. -/
theorem blk9 (r : Fin 512) (k : Fin 256) : iblk m c 9 t (ix2 r k) =
    m (c, Proc.tc.devRef main_arg9) (ix2 ⟨512 * t.val + r.val, by have := tile_lt t; omega⟩ k) := by
  blk_simp [iblk, idx9 t]
  rw [V_main_arg9]
  blk_ext [idx9 t]

/-- The fourth branch. -/
theorem blk10 (r : Fin 512) (k : Fin 256) : iblk m c 10 t (ix2 r k) =
    m (c, Proc.tc.devRef main_arg10) (ix2 ⟨512 * min t.val 15 + r.val, by omega⟩ k) := by
  blk_simp [iblk, idx10 t]
  rw [V_main_arg10]
  blk_ext [idx10 t]

theorem blk11 (r : Fin 512) (k : Fin 256) : iblk m c 11 t (ix2 r k) =
    m (c, Proc.tc.devRef main_arg11) (ix2 ⟨512 * (t.val - 16) + r.val, by have := tile_lt t; omega⟩ k) := by
  blk_simp [iblk, idx11 t]
  rw [V_main_arg11]
  blk_ext [idx11 t]

/-- The gates' weights. -/
theorem blk12 (d : Fin 1024) (e : Fin 4096) : iblk m c 12 t (ix3 0 d e) =
    m (c, Proc.tc.devRef main_arg12) (ix3 0 d ⟨2832 + e.val, by omega⟩) := by
  blk_simp [iblk, idx12 t]
  refine Eq.trans ?_ (V_mg m c d e)
  blk_ext [idx12 t]

/-- The branches' weights. -/
theorem blk13 (n : Fin 4) (k : Fin 256) (d : Fin 1024) : iblk m c 13 t (ix4 0 n k d) =
    m (c, Proc.tc.devRef main_arg13) (ix4 0 n (if n.val < 3 then k else Merge.stored k) d) := by
  blk_simp [iblk, idx13 t]
  refine Eq.trans ?_ (V_wb m c n k d)
  blk_ext [idx13 t]

/-- The output's weights. -/
theorem blk14 (d e : Fin 1024) : iblk m c 14 t (ix3 0 d e) = m (c, Proc.tc.devRef main_arg14) (ix3 0 d e) := by
  blk_simp [iblk, idx14 t]
  refine Eq.trans ?_ (V_wo m c d e)
  blk_ext [idx14 t]

/-- The matrix that adds the columns of a head. -/
theorem blk15 (i j : Fin 128) : iblk m c 15 t (ix2 i j) = if i.val / 64 = j.val / 64 then (1 : EReal) else 0 := by
  blk_simp [iblk, idx15 t]
  refine Eq.trans ?_ (V_b64 m c i j)
  blk_ext [idx15 t]

end Cert.Kernel2Ideal.Value
end
-- ==== Proof.MergePay.lean ====
/-
  The merge call's body read at one token of the step's tile.
-/
module

public import proofs.«01_k».proof.Proof.Gen.Kernel2Ideal.Frame
public import proofs.«01_k».proof.Proof.Merge
public import Idealize.ShloMosaic.Lib.Pipeline.ValueKit
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.Merge

/-- The normed token. -/
theorem pay2_at (h : Vec Ideal S512x1024 .f32) (g : Vec Ideal S1x1x1024 .f32) (s t : Vec Ideal S1x1x1x1024 .f32)
    (r : Fin 512) (f : Fin 1024) : k0_pay2 h g s t (ix2 r f)
    = KernelIdeal.Value.norm (fun d => h (ix2 r d)) (fun d => g (ix3 0 0 d)) (fun d => s (ix4 0 0 0 d)) (fun d => t (ix4 0 0 0 d)) f := by
  unfold k0_pay2
  pointwise
  rfl

theorem select_at {α : Type} {s : Shape} (v : BitVec 1) (a b : s.Idx → α) (y : s.Idx) :
    (Scalar.select v a b) y = Scalar.select v (a y) (b y) := by
  unfold Scalar.select
  split_ifs <;> rfl

/-- A head's column out of two heads side by side. -/
theorem pair_head (p q : Fin 64 → EReal) (b : S128x128.Idx → EReal) (y : Fin 128) (g z : EReal)
    (hb : ∀ x y : Fin 128, b (ix2 x y) = if x.val / 64 = y.val / 64 then 1 else 0) :
    (if h : y.val < 64 then p ⟨y.val, h⟩ else q ⟨y.val - 64, by omega⟩)
        * Ideal.rsqrt ((∑ x : Fin 64, p x * p x * b (ix2 ⟨x.val, by omega⟩ y) + ∑ x : Fin 64, q x * q x * b (ix2 ⟨64 + x.val, by omega⟩ y))
          * Ideal.ofBits FTy.f32 1015021568#32 + Ideal.ofBits FTy.f32 897988541#32) * g
        * (z * Ideal.div 1 (1 + Ideal.exp (0 - z)))
      = head (if y.val < 64 then p else q) ⟨y.val % 64, by omega⟩ g z := by
  rw [mean, head, sg, zero_sub]
  simp only [hb]
  by_cases h : y.val < 64
  · have e1 : ∀ x : Fin 64, x.val / 64 = y.val / 64 := fun x => by omega
    have e2 : ∀ x : Fin 64, ¬ (64 + x.val) / 64 = y.val / 64 := fun x => by omega
    have e3 : ∀ k, (⟨y.val % 64, k⟩ : Fin 64) = ⟨y.val, h⟩ := fun k => Fin.ext (by show y.val % 64 = y.val; omega)
    simp only [e1, e2, e3, h, if_true, if_false, dif_pos, mul_one, mul_zero, Finset.sum_const_zero, add_zero]
  · have e1 : ∀ x : Fin 64, ¬ x.val / 64 = y.val / 64 := fun x => by omega
    have e2 : ∀ x : Fin 64, (64 + x.val) / 64 = y.val / 64 := fun x => by omega
    have e3 : ∀ k, (⟨y.val % 64, k⟩ : Fin 64) = ⟨y.val - 64, by omega⟩ := fun k => Fin.ext (by show y.val % 64 = y.val - 64; omega)
    simp only [e1, e2, e3, h, if_true, if_false, dif_neg, not_false_eq_true, mul_one, mul_zero, Finset.sum_const_zero, zero_add]

section
variable (v : BitVec 1) (b : FVec Ideal S128x128 .bf16) (a0 l0 a1 l1 : Vec Ideal S1x512x64 .f32)
  (g : Vec Ideal S1x1x128 .f32) (z : Vec Ideal S512x128 .f32) (r : Fin 512) (y : Fin 128)
  (hb : ∀ x y : Fin 128, b (ix2 x y) = if x.val / 64 = y.val / 64 then 1 else 0)
include hb

/-- The columns of heads 0 and 1. -/
theorem pay5_at : k0_pay5 v b a0 l0 a1 l1 g z (ix2 r y)
    = head (if y.val < 64 then fun k => Scalar.select v (a0 (ix3 0 r k)) (l0 (ix3 0 r k)) else fun k => Scalar.select v (a1 (ix3 0 r k)) (l1 (ix3 0 r k)))
      ⟨y.val % 64, by omega⟩ (g (ix3 0 0 y)) (z (ix2 r y)) := by
  unfold k0_pay5
  pointwise
  exact pair_head (fun k => Scalar.select v (a0 (ix3 0 r k)) (l0 (ix3 0 r k))) (fun k => Scalar.select v (a1 (ix3 0 r k)) (l1 (ix3 0 r k))) b y _ _ hb

/-- The columns of heads 2 and 3. -/
theorem pay7_at : k0_pay7 v b (k0_pay6 a0) l0 a1 l1 g z (ix2 r y)
    = head (if y.val < 64 then fun k => Scalar.select v (a0 (ix3 0 r k)) (l0 (ix3 0 r k)) else fun k => Scalar.select v (a1 (ix3 0 r k)) (l1 (ix3 0 r k)))
      ⟨y.val % 64, by omega⟩ (g (ix3 0 0 y)) (z (ix2 r y)) := by
  unfold k0_pay7 k0_pay6
  pointwise
  exact pair_head (fun k => Scalar.select v (a0 (ix3 0 r k)) (l0 (ix3 0 r k))) (fun k => Scalar.select v (a1 (ix3 0 r k)) (l1 (ix3 0 r k))) b y _ _ hb
end

section
variable (x : FVec Ideal S512x1024 .bf16) (p q : FVec Ideal S512x128 .bf16) (oc ob od : Vec Ideal S512x256 .bf16)
  (w0 w1 w2 w3 : Vec Ideal S1x1024x1024 .bf16) (u0 u0' : Vec Ideal S1x1x128x1024 .bf16) (u1 u2 u3 : Vec Ideal S1x1x256x1024 .bf16)
  (h : Vec Ideal S512x1024 .f32) (gt : Vec Ideal S1x1x1x1024 .f32) (wo : Vec Ideal S1x1024x1024 .bf16) (r : Fin 512) (f : Fin 1024)

/-- The first branch's projection, gated. -/
theorem pay10_at : k0_pay10 x p q w0 u0 u0' (ix2 r f)
    = sg (∑ d, x (ix2 r d) * w0 (ix3 0 d f)) * ((∑ k, p (ix2 r k) * u0 (ix4 0 0 k f)) + ∑ k, q (ix2 r k) * u0' (ix4 0 0 k f)) := by
  unfold k0_pay10
  pointwise
  rw [sg, zero_sub]

/-- The first three branches' projections, gated and added. -/
theorem pay13_at (s : FVec Ideal S512x1024 .f32) : k0_pay13 x oc s (k0_pay11 x w1) (k0_pay12 ob u1) (Scalar.ofBits .f32 0x00000000#32) w2 u2 (ix2 r f)
    = s (ix2 r f) + sg (∑ d, x (ix2 r d) * w1 (ix3 0 d f)) * (∑ k, ob (ix2 r k) * u1 (ix4 0 0 k f))
      + sg (∑ d, x (ix2 r d) * w2 (ix3 0 d f)) * (∑ k, oc (ix2 r k) * u2 (ix4 0 0 k f)) := by
  unfold k0_pay13 k0_pay11 k0_pay12
  pointwise
  simp only [sg, zero_sub]

/-- The token plus the projection of its four merged branches. -/
theorem pay1_at (s : FVec Ideal S512x1024 .f32) : k0_pay1 h (k0_pay3 gt) s (k0_pay14 od u3) (k0_pay15 x w3) wo (ix2 r f)
    = out (fun d => h (ix2 r d)) (fun d => gt (ix4 0 0 0 d)) (fun e => s (ix2 r e) + sg (∑ d, x (ix2 r d) * w3 (ix3 0 d e)) * (∑ k, od (ix2 r k) * u3 (ix4 0 0 k e)))
      (fun e f => wo (ix3 0 e f)) f := by
  unfold k0_pay1 k0_pay3 k0_pay14 k0_pay15
  pointwise
  simp only [out, sg, zero_sub]
end

/-- A choice between the operand of the first tiles and of the others. -/
theorem pay8_at (v : BitVec 1) (a l : Vec Ideal S512x256 .bf16) (r : Fin 512) (k : Fin 256) :
    k0_pay8 v a l (ix2 r k) = Scalar.select v (a (ix2 r k)) (l (ix2 r k)) := select_at v a l _

theorem pay9_at (v : BitVec 1) (a l : Vec Ideal S512x256 .bf16) (r : Fin 512) (k : Fin 256) :
    k0_pay9 v a l (ix2 r k) = Scalar.select v (a (ix2 r k)) (l (ix2 r k)) := select_at v a l _

end Cert.Kernel2Ideal.Value
end
-- ==== Proof.MergeValue.lean ====
/-
  The merge call's result array: what a step leaves in its block, read at one token.
-/
module

public import proofs.«01_k».proof.Proof.MergeBlk
public import proofs.«01_k».proof.Proof.MergePay

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.Merge

/-! An entry of a part of an array is the array's entry that many places further on. -/

theorem at2 {a b p q o0 o1 : ℕ} (h) (i : Fin p) (j : Fin q) (i' : Fin a) (j' : Fin b) (hi : i'.val = o0 + i.val) (hj : j'.val = o1 + j.val) :
    (Rect.unit (s := ⟨2, ![a, b]⟩) ![o0, o1] ![p, q] h).idx (ix2 i j) = ix2 i' j' := by
  funext x
  fin_cases x
  · exact Fin.ext ((congrArg (o0 + ·) (Nat.one_mul i.val)).trans hi.symm)
  · exact Fin.ext ((congrArg (o1 + ·) (Nat.one_mul j.val)).trans hj.symm)

theorem at3 {a b c p q u o0 o1 o2 : ℕ} (h) (i : Fin p) (j : Fin q) (k : Fin u) (i' : Fin a) (j' : Fin b) (k' : Fin c)
    (hi : i'.val = o0 + i.val) (hj : j'.val = o1 + j.val) (hk : k'.val = o2 + k.val) :
    (Rect.unit (s := ⟨3, ![a, b, c]⟩) ![o0, o1, o2] ![p, q, u] h).idx (ix3 i j k) = ix3 i' j' k' := by
  funext x
  fin_cases x
  · exact Fin.ext ((congrArg (o0 + ·) (Nat.one_mul i.val)).trans hi.symm)
  · exact Fin.ext ((congrArg (o1 + ·) (Nat.one_mul j.val)).trans hj.symm)
  · exact Fin.ext ((congrArg (o2 + ·) (Nat.one_mul k.val)).trans hk.symm)

theorem at4 {a b c d p q u v o0 o1 o2 o3 : ℕ} (h) (i : Fin p) (j : Fin q) (k : Fin u) (l : Fin v) (i' : Fin a) (j' : Fin b) (k' : Fin c) (l' : Fin d)
    (hi : i'.val = o0 + i.val) (hj : j'.val = o1 + j.val) (hk : k'.val = o2 + k.val) (hl : l'.val = o3 + l.val) :
    (Rect.unit (s := ⟨4, ![a, b, c, d]⟩) ![o0, o1, o2, o3] ![p, q, u, v] h).idx (ix4 i j k l) = ix4 i' j' k' l' := by
  funext x
  fin_cases x
  · exact Fin.ext ((congrArg (o0 + ·) (Nat.one_mul i.val)).trans hi.symm)
  · exact Fin.ext ((congrArg (o1 + ·) (Nat.one_mul j.val)).trans hj.symm)
  · exact Fin.ext ((congrArg (o2 + ·) (Nat.one_mul k.val)).trans hk.symm)
  · exact Fin.ext ((congrArg (o3 + ·) (Nat.one_mul l.val)).trans hl.symm)

/-- The scalar that tells the tiles of the first half from the others. -/
theorem flag_word : ∀ t : Fin cfg0.N, Scalar.cmpi .slt (BitVec.ofNat 32 (grid0.coords t 0).val) 16#32 = if t.val < 16 then 1#1 else 0#1 :=
  (by decide +kernel : ∀ t : Fin grid0.N, _)

section
variable (m : (ℓ : Loc nD τ sig) → Buf (Elt Ideal) ℓ) (c : Dev nD)

/-! The rows of numbers a token's result is taken of. -/

def hRow (R : Fin 16384) (d : Fin 1024) : EReal := m (c, Proc.tc.devRef main_arg0) (ix2 R d)
def modAt (R : Fin 16384) (d : Fin 6144) : EReal :=
  m (c, Proc.tc.devRef main_arg1) (ix3 0 ⟨modRow (R.val / 512), modRow_lt _ (by omega)⟩ d)
def xRow (R : Fin 16384) : Fin 1024 → EReal :=
  KernelIdeal.Value.norm (hRow m c R) (fun d => m (c, Proc.tc.devRef main_arg2) (ix2 0 d)) (fun d => modAt m c R ⟨1024 + d.val, by omega⟩)
    (fun d => modAt m c R ⟨d.val, by omega⟩)
def oaAt (R : Fin 16384) (j : Fin 4) (k : Fin 64) : EReal :=
  split (fun r => m (c, Proc.tc.devRef main_arg3) (ix3 j r k)) (fun r => m (c, Proc.tc.devRef main_arg4) (ix3 j r k)) R
def obAt (R : Fin 16384) (k : Fin 256) : EReal :=
  split (fun r => m (c, Proc.tc.devRef main_arg7) (ix2 r k)) (fun r => m (c, Proc.tc.devRef main_arg8) (ix2 r k)) R
def odAt (R : Fin 16384) (k : Fin 256) : EReal :=
  split (fun r => m (c, Proc.tc.devRef main_arg10) (ix2 r k)) (fun r => m (c, Proc.tc.devRef main_arg11) (ix2 r k)) R
def firstAt (R : Fin 16384) : Fin 256 → EReal :=
  heads (oaAt m c R) (fun k => m (c, Proc.tc.devRef main_arg6) (ix2 0 k)) (fun k => m (c, Proc.tc.devRef main_arg5) (ix2 R k))
def brAt (R : Fin 16384) (n : Fin 4) (k : Fin 256) : EReal :=
  ![firstAt m c R k, obAt m c R k, m (c, Proc.tc.devRef main_arg9) (ix2 R k), odAt m c R (stored k)] n
def mgAt (n : Fin 4) (d e : Fin 1024) : EReal := m (c, Proc.tc.devRef main_arg12) (ix3 0 d ⟨2832 + (1024 * n.val + e.val), by omega⟩)
def wbAt (n : Fin 4) (k : Fin 256) (e : Fin 1024) : EReal := m (c, Proc.tc.devRef main_arg13) (ix4 0 n k e)
def woAt (e f : Fin 1024) : EReal := m (c, Proc.tc.devRef main_arg14) (ix3 0 e f)

/-- The merge call's result. -/
def kres (R : Fin 16384) (f : Fin 1024) : EReal :=
  out (hRow m c R) (fun d => modAt m c R ⟨2048 + d.val, by omega⟩) (merged (xRow m c R) (mgAt m c) (brAt m c R) (wbAt m c)) (woAt m c) f

variable (t : Fin cfg0.N)

/-- A token of the step's tile. -/
def tok (r : Fin 512) : Fin 16384 := ⟨512 * t.val + r.val, by have := tile_lt t; omega⟩

theorem tok_div (r : Fin 512) : (tok t r).val / 512 = t.val := by
  show (512 * t.val + r.val) / 512 = t.val
  omega

/-- A choice by the scalar is the entry of the token's half. -/
theorem choose {a l : Fin 8192 → EReal} (r : Fin 512) (x y : EReal) (hx : x = a ⟨512 * min t.val 15 + r.val, by omega⟩)
    (hy : y = l ⟨512 * (t.val - 16) + r.val, by have := tile_lt t; omega⟩) :
    Scalar.select (Scalar.cmpi .slt (BitVec.ofNat 32 (grid0.coords t 0).val) 16#32) x y = split a l (tok t r) := by
  rw [flag_word, hx, hy]
  have hr := r.isLt
  unfold split tok
  by_cases h : t.val < 16
  · rw [if_pos h, dif_pos (by show 512 * t.val + r.val < 8192; omega)]
    exact congrArg a (Fin.ext (by show 512 * min t.val 15 + r.val = 512 * t.val + r.val; omega))
  · rw [if_neg h, dif_neg (by show ¬ 512 * t.val + r.val < 8192; omega)]
    exact congrArg l (Fin.ext (by show 512 * (t.val - 16) + r.val = 512 * t.val + r.val - 8192; omega))

/-! The step's loads, read at one entry. -/

theorem ld_h (r : Fin 512) (d : Fin 1024) : View.ld (iblk m c 0 t) r0_0 (ix2 r d) = hRow m c (tok t r) d :=
  (congrArg (iblk m c 0 t) (at2 _ r d r d (Nat.zero_add _).symm (Nat.zero_add _).symm)).trans (blk0 m c t r d)

theorem ld_mod (r : Fin 512) (o : ℕ) (h : ∀ d : Fin 1024, o + d.val < 6144) (hb) (d : Fin 1024) :
    View.ld (iblk m c 1 t) (Rect.unit (s := S1x1x1x6144) ![0, 0, 0, o] S1x1x1x1024.size hb) (ix4 0 0 0 d) = modAt m c (tok t r) ⟨o + d.val, h d⟩ := by
  refine (congrArg (iblk m c 1 t) (at4 hb 0 0 0 d 0 0 0 ⟨o + d.val, h d⟩ rfl rfl rfl rfl)).trans ((blk1 m c t _).trans ?_)
  unfold modAt
  simp only [tok_div]

/-- The normed tokens of the tile. -/
theorem x_at (r : Fin 512) (d : Fin 1024) : k0_pay2 (View.ld (iblk m c 0 t) r0_0) (View.ld (iblk m c 2 t) r0_1) (View.ld (iblk m c 1 t) r0_2) (View.ld (iblk m c 1 t) r0_3) (ix2 r d)
    = xRow m c (tok t r) d := by
  rw [pay2_at, xRow]
  have h0 : (fun d => View.ld (iblk m c 0 t) r0_0 (ix2 r d)) = hRow m c (tok t r) := funext (ld_h m c t r)
  have h2 : (fun d => View.ld (iblk m c 2 t) r0_1 (ix3 0 0 d)) = fun d => m (c, Proc.tc.devRef main_arg2) (ix2 0 d) := funext fun d =>
    (congrArg (iblk m c 2 t) (at3 _ 0 0 d 0 0 d rfl rfl (Nat.zero_add _).symm)).trans (blk2 m c t d)
  have h3 : (fun d => View.ld (iblk m c 1 t) r0_3 (ix4 0 0 0 d)) = fun d => modAt m c (tok t r) ⟨d.val, by omega⟩ := funext fun d =>
    (ld_mod m c t r 0 (fun d => by omega) _ d).trans (congrArg (modAt m c (tok t r)) (Fin.ext (Nat.zero_add _)))
  have h4 : (fun d => View.ld (iblk m c 1 t) r0_2 (ix4 0 0 0 d)) = fun d => modAt m c (tok t r) ⟨1024 + d.val, by omega⟩ := funext fun d =>
    ld_mod m c t r 1024 (fun d => by omega) _ d
  rw [h0, h2, h3, h4]

/-- The matrix that adds the columns of a head. -/
theorem ones_at (x y : Fin 128) : k0_pay4 (View.ld (iblk m c 15 t) r0_5) (ix2 x y) = if x.val / 64 = y.val / 64 then (1 : EReal) else 0 := by
  have h : ∀ b : Vec Ideal S128x128 .bf16, k0_pay4 b (ix2 x y) = b (ix2 x y) := fun b => by
    unfold k0_pay4
    pointwise
  refine (h _).trans ?_
  exact (congrArg (iblk m c 15 t) (at2 _ x y x y (Nat.zero_add _).symm (Nat.zero_add _).symm)).trans (blk15 m c t x y)

/-- A head of the first branch. -/
theorem head_at (r : Fin 512) (j : Fin 4) (o : ℕ) (hj : j.val = o) (hb) :
    (fun k => Scalar.select (Scalar.cmpi .slt (BitVec.ofNat 32 (grid0.coords t 0).val) 16#32)
      (View.ld (iblk m c 3 t) (Rect.unit (s := S4x512x64) ![o, 0, 0] S1x512x64.size hb) (ix3 0 r k))
      (View.ld (iblk m c 4 t) (Rect.unit (s := S4x512x64) ![o, 0, 0] S1x512x64.size hb) (ix3 0 r k))) = oaAt m c (tok t r) j := funext fun k =>
  choose t r _ _
    ((congrArg (iblk m c 3 t) (at3 hb 0 r k j r k hj (Nat.zero_add _).symm (Nat.zero_add _).symm)).trans (blk3 m c t j r k))
    ((congrArg (iblk m c 4 t) (at3 hb 0 r k j r k hj (Nat.zero_add _).symm (Nat.zero_add _).symm)).trans (blk4 m c t j r k))

/-- Two heads side by side are a half of the first branch. -/
theorem half (R : Fin 16384) (o : ℕ) (ho : o = 0 ∨ o = 128) (y : Fin 128) (p q : Fin 4) (hp : p.val = o / 64) (hq : q.val = o / 64 + 1) (g z : EReal)
    (hg : g = m (c, Proc.tc.devRef main_arg6) (ix2 0 ⟨(o + y.val) % 64, by omega⟩)) (hz : z = m (c, Proc.tc.devRef main_arg5) (ix2 R ⟨o + y.val, by omega⟩)) :
    head (if y.val < 64 then oaAt m c R p else oaAt m c R q) ⟨y.val % 64, by omega⟩ g z = firstAt m c R ⟨o + y.val, by omega⟩ := by
  have hy := y.isLt
  have e : (⟨y.val % 64, by omega⟩ : Fin 64) = ⟨(o + y.val) % 64, by omega⟩ := Fin.ext (by show y.val % 64 = (o + y.val) % 64; omega)
  have e2 : (if y.val < 64 then oaAt m c R p else oaAt m c R q) = oaAt m c R ⟨(o + y.val) / 64, by omega⟩ := by
    split_ifs with h
    · exact congrArg (oaAt m c R) (Fin.ext (by show p.val = (o + y.val) / 64; omega))
    · exact congrArg (oaAt m c R) (Fin.ext (by show q.val = (o + y.val) / 64; omega))
  rw [e, e2, hg, hz]
  rfl

/-- The scale of the heads and the gate's columns. -/
theorem ld_g (o : ℕ) (y : Fin 128) (h : o + y.val < 256) (hb) :
    View.ld (iblk m c 6 t) (Rect.unit (s := S1x1x256) ![0, 0, o] S1x1x128.size hb) (ix3 0 0 y) = m (c, Proc.tc.devRef main_arg6) (ix2 0 ⟨(o + y.val) % 64, by omega⟩) :=
  (congrArg (iblk m c 6 t) (at3 hb 0 0 y 0 0 ⟨o + y.val, h⟩ rfl rfl rfl)).trans (blk6 m c t _)

theorem ld_z (r : Fin 512) (o : ℕ) (y : Fin 128) (h : o + y.val < 256) (hb) :
    View.ld (iblk m c 5 t) (Rect.unit (s := S512x256) ![0, o] S512x128.size hb) (ix2 r y) = m (c, Proc.tc.devRef main_arg5) (ix2 (tok t r) ⟨o + y.val, h⟩) :=
  (congrArg (iblk m c 5 t) (at2 hb r y r ⟨o + y.val, h⟩ (Nat.zero_add _).symm rfl)).trans (blk5 m c t r _)

/-- The other branches. -/
theorem ob_at (r : Fin 512) (k : Fin 256) : k0_pay8 (Scalar.cmpi .slt (BitVec.ofNat 32 (grid0.coords t 0).val) 16#32)
    (View.ld (iblk m c 7 t) r0_14) (View.ld (iblk m c 8 t) r0_14) (ix2 r k) = obAt m c (tok t r) k :=
  (pay8_at _ _ _ r k).trans (choose t r _ _
    ((congrArg (iblk m c 7 t) (at2 _ r k r k (Nat.zero_add _).symm (Nat.zero_add _).symm)).trans (blk7 m c t r k))
    ((congrArg (iblk m c 8 t) (at2 _ r k r k (Nat.zero_add _).symm (Nat.zero_add _).symm)).trans (blk8 m c t r k)))

theorem od_at (r : Fin 512) (k : Fin 256) : k0_pay9 (Scalar.cmpi .slt (BitVec.ofNat 32 (grid0.coords t 0).val) 16#32)
    (View.ld (iblk m c 10 t) r0_14) (View.ld (iblk m c 11 t) r0_14) (ix2 r k) = odAt m c (tok t r) k :=
  (pay9_at _ _ _ r k).trans (choose t r _ _
    ((congrArg (iblk m c 10 t) (at2 _ r k r k (Nat.zero_add _).symm (Nat.zero_add _).symm)).trans (blk10 m c t r k))
    ((congrArg (iblk m c 11 t) (at2 _ r k r k (Nat.zero_add _).symm (Nat.zero_add _).symm)).trans (blk11 m c t r k)))

theorem ld_oc (r : Fin 512) (k : Fin 256) : View.ld (iblk m c 9 t) r0_14 (ix2 r k) = m (c, Proc.tc.devRef main_arg9) (ix2 (tok t r) k) :=
  (congrArg (iblk m c 9 t) (at2 _ r k r k (Nat.zero_add _).symm (Nat.zero_add _).symm)).trans (blk9 m c t r k)

/-- A branch's gate columns. -/
theorem ld_mg (n : Fin 4) (o : ℕ) (ho : o = 1024 * n.val) (hb) (d e : Fin 1024) :
    View.ld (iblk m c 12 t) (Rect.unit (s := S1x1024x4096) ![0, 0, o] S1x1024x1024.size hb) (ix3 0 d e) = mgAt m c n d e := by
  subst ho
  exact (congrArg (iblk m c 12 t) (at3 hb 0 d e 0 d ⟨1024 * n.val + e.val, by omega⟩ rfl (Nat.zero_add _).symm rfl)).trans (blk12 m c t d _)

/-- A branch's weights, whole and by halves. -/
theorem ld_wb (n : Fin 4) (o p q : ℕ) (ho : n.val = o) (k : Fin q) (h : p + k.val < 256) (hb) (e : Fin 1024) :
    View.ld (iblk m c 13 t) (Rect.unit (s := S1x4x256x1024) ![0, o, p, 0] ![1, 1, q, 1024] hb) (ix4 0 0 k e)
      = wbAt m c n (if n.val < 3 then ⟨p + k.val, h⟩ else stored ⟨p + k.val, h⟩) e :=
  (congrArg (iblk m c 13 t) (at4 hb 0 0 k e 0 n ⟨p + k.val, h⟩ e rfl ho rfl (Nat.zero_add _).symm)).trans (blk13 m c t n _ e)

theorem ld_wo (e f : Fin 1024) : View.ld (iblk m c 14 t) r0_24 (ix3 0 e f) = woAt m c e f :=
  (congrArg (iblk m c 14 t) (at3 _ 0 e f 0 e f rfl (Nat.zero_add _).symm (Nat.zero_add _).symm)).trans (blk14 m c t e f)

/-- What a step leaves in its block is its tokens' results. -/
theorem out_at (r : Fin 512) (f : Fin 1024) : (dats m 0 c).after 16 t (ix2 r f) = kres m c (tok t r) f := by
  have hx : ∀ d, k0_pay2 (View.ld (iblk m c 0 t) r0_0) (View.ld (iblk m c 2 t) r0_1) (View.ld (iblk m c 1 t) r0_2) (View.ld (iblk m c 1 t) r0_3) (ix2 r d)
    = xRow m c (tok t r) d := x_at m c t r
  rw [after0_16]
  unfold out0_16 k0_pay17 k0_pay16
  have he : r0_0.emb (ix2 r f) = ix2 r f := at2 _ r f r f (Nat.zero_add _).symm (Nat.zero_add _).symm
  refine Eq.trans (congrArg _ he.symm) ((View.canon_cons_emb _ _ _ _).trans ?_)
  rw [pay1_at]
  have hh : (fun d => View.ld (iblk m c 0 t) r0_0 (ix2 r d)) = hRow m c (tok t r) := funext (ld_h m c t r)
  have hg : (fun d => View.ld (iblk m c 1 t) r0_4 (ix4 0 0 0 d)) = fun d => modAt m c (tok t r) ⟨2048 + d.val, by omega⟩ := funext fun d =>
    ld_mod m c t r 2048 (fun d => by omega) _ d
  have hw : (fun e f => View.ld (iblk m c 14 t) r0_24 (ix3 0 e f)) = woAt m c := funext fun e => funext fun f => ld_wo m c t e f
  rw [hh, hg, hw]
  unfold kres
  refine congrArg (fun a => out _ _ a _ f) (funext fun e => ?_)
  rw [pay13_at, pay10_at]
  simp only [hx]
  unfold merged
  rw [Fin.sum_univ_four]
  have g0 : ∀ d, View.ld (iblk m c 12 t) r0_15 (ix3 0 d e) = mgAt m c 0 d e := fun d => ld_mg m c t 0 0 rfl _ d e
  have g1 : ∀ d, View.ld (iblk m c 12 t) r0_18 (ix3 0 d e) = mgAt m c 1 d e := fun d => ld_mg m c t 1 1024 rfl _ d e
  have g2 : ∀ d, View.ld (iblk m c 12 t) r0_20 (ix3 0 d e) = mgAt m c 2 d e := fun d => ld_mg m c t 2 2048 rfl _ d e
  have g3 : ∀ d, View.ld (iblk m c 12 t) r0_22 (ix3 0 d e) = mgAt m c 3 d e := fun d => ld_mg m c t 3 3072 rfl _ d e
  have u0 : ∀ k : Fin 128, View.ld (iblk m c 13 t) r0_16 (ix4 0 0 k e) = wbAt m c 0 ⟨k.val, by omega⟩ e := fun k =>
    (ld_wb m c t 0 0 0 128 rfl k (by omega) _ e).trans (congrArg (fun k => wbAt m c 0 k e) (Fin.ext (Nat.zero_add k.val)))
  have u0' : ∀ k : Fin 128, View.ld (iblk m c 13 t) r0_17 (ix4 0 0 k e) = wbAt m c 0 ⟨128 + k.val, by omega⟩ e := fun k =>
    ld_wb m c t 0 0 128 128 rfl k (by omega) _ e
  have u1 : ∀ k : Fin 256, View.ld (iblk m c 13 t) r0_19 (ix4 0 0 k e) = wbAt m c 1 k e := fun k =>
    (ld_wb m c t 1 1 0 256 rfl k (by omega) _ e).trans (congrArg (fun k => wbAt m c 1 k e) (Fin.ext (Nat.zero_add k.val)))
  have u2 : ∀ k : Fin 256, View.ld (iblk m c 13 t) r0_21 (ix4 0 0 k e) = wbAt m c 2 k e := fun k =>
    (ld_wb m c t 2 2 0 256 rfl k (by omega) _ e).trans (congrArg (fun k => wbAt m c 2 k e) (Fin.ext (Nat.zero_add k.val)))
  have u3 : ∀ k : Fin 256, View.ld (iblk m c 13 t) r0_23 (ix4 0 0 k e) = wbAt m c 3 (stored k) e := fun k =>
    (ld_wb m c t 3 3 0 256 rfl k (by omega) _ e).trans (congrArg (fun k => wbAt m c 3 (stored k) e) (Fin.ext (Nat.zero_add k.val)))
  simp only [g0, g1, g2, g3, u0, u0', u1, u2, u3, ld_oc m c t r]
  have p0 : ∀ y : Fin 128, _ = firstAt m c (tok t r) ⟨y.val, by omega⟩ := fun y =>
    (pay5_at (Scalar.cmpi .slt (BitVec.ofNat 32 (grid0.coords t 0).val) 16#32) (k0_pay4 (View.ld (iblk m c 15 t) r0_5))
      (View.ld (iblk m c 3 t) r0_6) (View.ld (iblk m c 4 t) r0_6) (View.ld (iblk m c 3 t) r0_7) (View.ld (iblk m c 4 t) r0_7)
      (View.ld (iblk m c 6 t) r0_8) (View.ld (iblk m c 5 t) r0_9) r y (ones_at m c t)).trans (by
      rw [head_at m c t r 0 0 rfl, head_at m c t r 1 1 rfl]
      exact (half m c (tok t r) 0 (Or.inl rfl) y 0 1 rfl rfl _ _ (ld_g m c t 0 y (by omega) _) (ld_z m c t r 0 y (by omega) _)).trans
        (congrArg (firstAt m c (tok t r)) (Fin.ext (Nat.zero_add y.val))))
  have p1 : ∀ y : Fin 128, _ = firstAt m c (tok t r) ⟨128 + y.val, by omega⟩ := fun y =>
    (pay7_at (Scalar.cmpi .slt (BitVec.ofNat 32 (grid0.coords t 0).val) 16#32) (k0_pay4 (View.ld (iblk m c 15 t) r0_5))
      (View.ld (iblk m c 3 t) r0_10) (View.ld (iblk m c 4 t) r0_10) (View.ld (iblk m c 3 t) r0_11) (View.ld (iblk m c 4 t) r0_11)
      (View.ld (iblk m c 6 t) r0_12) (View.ld (iblk m c 5 t) r0_13) r y (ones_at m c t)).trans (by
      rw [head_at m c t r 2 2 rfl, head_at m c t r 3 3 rfl]
      exact half m c (tok t r) 128 (Or.inr rfl) y 2 3 rfl rfl _ _ (ld_g m c t 128 y (by omega) _) (ld_z m c t r 128 y (by omega) _))
  have gate : ∀ n, sg (∑ d, _ * mgAt m c n d e) = sg (∑ d, xRow m c (tok t r) d * mgAt m c n d e) := fun n =>
    congrArg sg (Finset.sum_congr rfl fun d _ => congrArg (· * mgAt m c n d e) (hx d))
  exact congrArg₂ (· + ·) (congrArg₂ (· + ·) (congrArg₂ (· + ·)
    (congrArg₂ (· * ·) (gate 0) ((congrArg₂ (· + ·) (Finset.sum_congr rfl fun k _ => congrArg (· * _) (p0 k))
      (Finset.sum_congr rfl fun k _ => congrArg (· * _) (p1 k))).trans (halves fun k => firstAt m c (tok t r) k * wbAt m c 0 k e)))
    (congrArg₂ (· * ·) (gate 1) (Finset.sum_congr rfl fun k _ => congrArg (· * _) (ob_at m c t r k))))
    (congrArg₂ (· * ·) (gate 2) rfl))
    (congrArg₂ (· * ·) (gate 3) ((Finset.sum_congr rfl fun k _ => congrArg (· * _) (od_at m c t r k)).trans
      (sum_stored (odAt m c (tok t r)) fun k => wbAt m c 3 k e)))
end

/-- The merge call's result array. -/
theorem kernel_at (m : (ℓ : Loc nD τ sig) → Buf (Elt Ideal) ℓ) (c : Dev nD) :
    (dats m 0 c).arrAt 16 cfg0.N = fun i => kres m c (i 0) (i 1) := by
  refine (dats m 0 c).arrAt_eq_of_covers 16 _ (by decide +kernel) fun t hf y => ?_
  obtain ⟨r, f, rfl⟩ : ∃ (r : Fin 512) (f : Fin 1024), y = ix2 r f := ⟨y 0, y 1, by funext a; fin_cases a <;> rfl⟩
  have he : (win0_16.blk t).view.emb (ix2 r f) = (ix2 (tok t r) f : S16384x1024.Idx) := by
    blk_ext [idx16 t, tok]
  have k2 : kres m c (tok t r) f = (fun i : S16384x1024.Idx => kres m c (i 0) (i 1)) ((win0_16.blk t).view.emb (ix2 r f)) := by
    rw [he]
    rfl
  exact (out_at m c t r f).trans k2

end Cert.Kernel2Ideal.Value
end
-- ==== Proof.MergeRef.lean ====
/-
  The merge call's reference as its stages in order, and each stage read at one token.
-/
module

public import proofs.«01_k».proof.Proof.Gen.Reference2Ideal.Run
public import proofs.«01_k».proof.Proof.Merge
public import Idealize.ShloMosaic.Lib.Pointwise

@[expose] public section

set_option maxRecDepth 16384

noncomputable section

namespace Cert.Reference2Ideal.Value

open Cert.Reference2Ideal Cert.Reference2Ideal.Gen Idealize.ShloMosaic Idealize.ShloMosaic.TcCoe Idealize.SL.Sem
open Cert.Merge

/-- The modulation of every token, row by row. -/
def refRows (arg1 : FVec Ideal S4x8x6144 .f32) : FVec Ideal S16384x6144 .f32 :=
  have v0 := extractStridedSlice S1x1x6144 ![0, 0, 0] arg1 slices_S4x8x6144_S1x1x6144_0_0_0
  have v1 := shapeCast S6144 v0 shapeCasts_S1x1x6144_S6144
  have v2 := (broadcastInDim S8192x6144 ![1] bcast_S6144_S8192x6144_1) v1
  have v3 := extractStridedSlice S1x1x6144 ![0, 1, 0] arg1 slices_S4x8x6144_S1x1x6144_0_1_0
  have v4 := shapeCast S6144 v3 shapeCasts_S1x1x6144_S6144
  have v5 := (broadcastInDim S4096x6144 ![1] bcast_S6144_S4096x6144_1) v4
  have v6 := extractStridedSlice S1x1x6144 ![0, 2, 0] arg1 slices_S4x8x6144_S1x1x6144_0_2_0
  have v7 := shapeCast S6144 v6 shapeCasts_S1x1x6144_S6144
  have v8 := (broadcastInDim S4096x6144 ![1] bcast_S6144_S4096x6144_1) v7
  fn_main_v9 (F := Ideal) v2 v5 v8

/-- The modulated norm of every token. -/
def refXm (arg0 : FVec Ideal S16384x1024 .f32) (v9 : FVec Ideal S16384x6144 .f32) (arg2 : FVec Ideal S4x1024 .f32) : FVec Ideal S16384x1024 .f32 :=
  have v18 := mulf arg0 arg0
  have cst := (constant S_ .f32 0x00000000#32)
  have v19 := Host.reduceAdd v18 cst reducesTo_S16384x1024_S16384_d1 h_S_
  have v20 := (broadcastInDim S16384x1 ![0] bcast_S16384_S16384x1_0) v19
  have cst_0 := (constant S_ .f32 0x44800000#32)
  have v21 := (broadcastInDim S16384x1 ![] bcast_S_S16384x1) cst_0
  have v22 := Host.divf v20 v21
  have cst_1 := (constant S_ .f32 0x358637BD#32)
  have v23 := (broadcastInDim S16384x1 ![] bcast_S_S16384x1) cst_1
  have v24 := addf v22 v23
  have v25 := Host.rsqrt v24
  have v26 := (broadcastInDim S16384x1024 ![0, 1] bcast_S16384x1_S16384x1024_0_1) v25
  have v27 := mulf arg0 v26
  have v16 := extractStridedSlice S1x1024 ![0, 0] arg2 slices_S4x1024_S1x1024_0_0
  have v17 := shapeCast S1024 v16 shapeCasts_S1x1024_S1024
  have v28 := (broadcastInDim S1x1024 ![1] bcast_S1024_S1x1024_1) v17
  have v29 := (broadcastInDim S16384x1024 ![0, 1] bcast_S1x1024_S16384x1024_0_1) v28
  have v30 := mulf v27 v29
  have cst_2 := (constant S_ .f32 0x3F800000#32)
  have v31 := (broadcastInDim S16384x1024 ![] bcast_S_S16384x1024) cst_2
  have v11 := extractStridedSlice S16384x1024 ![0, 1024] v9 slices_S16384x6144_S16384x1024_0_1024
  have v32 := addf v31 v11
  have v33 := mulf v30 v32
  have v10 := extractStridedSlice S16384x1024 ![0, 0] v9 slices_S16384x6144_S16384x1024_0_0
  addf v33 v10

/-- The gates of the four branches. -/
def refMg (v34 : FVec Ideal S16384x1024 .f32) (arg12 : FVec Ideal S4x1024x6928 .f32) : FVec Ideal S16384x4x1024 .f32 :=
  have v35 := extractStridedSlice S1x1024x4096 ![0, 0, 2832] arg12 slices_S4x1024x6928_S1x1024x4096_0_0_2832
  have v36 := shapeCast S1024x4096 v35 shapeCasts_S1x1024x4096_S1024x4096
  have v37 := Host.dotGeneral dot_S16384x1024_S1024x4096_S16384x4096_1_0_0_1_n_n none v34 v36
  have v76 := shapeCast S16384x4x1024 v37 shapeCasts_S16384x4096_S16384x4x1024
  have v77 := Host.negf v76
  have v78 := Host.exp v77
  have cst_6 := (constant S_ .f32 0x3F800000#32)
  have v79 := (broadcastInDim S16384x4x1024 ![] bcast_S_S16384x4x1024) cst_6
  have v80 := addf v79 v78
  have cst_7 := (constant S_ .f32 0x3F800000#32)
  have v81 := (broadcastInDim S16384x4x1024 ![] bcast_S_S16384x4x1024) cst_7
  Host.divf v81 v80

/-- The normed and gated heads of the first branch. -/
def refOa (arg3 arg4 : FVec Ideal S4x8192x64 .f32) (arg5 : FVec Ideal S16384x256 .f32) (arg6 : FVec Ideal S4x64 .f32) : FVec Ideal S16384x256 .f32 :=
  have v38 := fn_main_v38 (F := Ideal) arg3 arg4
  have v39 := transpose S16384x4x64 [1, 0, 2] v38 transposes_S4x16384x64_S16384x4x64_1_0_2
  have v40 := extractStridedSlice S1x64 ![0, 0] arg6 slices_S4x64_S1x64_0_0
  have v41 := shapeCast S64 v40 shapeCasts_S1x64_S64
  have v42 := mulf v39 v39
  have cst_3 := (constant S_ .f32 0x00000000#32)
  have v43 := Host.reduceAdd v42 cst_3 reducesTo_S16384x4x64_S16384x4_d2 h_S_
  have v44 := (broadcastInDim S16384x4x1 ![0, 1] bcast_S16384x4_S16384x4x1_0_1) v43
  have cst_4 := (constant S_ .f32 0x42800000#32)
  have v45 := (broadcastInDim S16384x4x1 ![] bcast_S_S16384x4x1) cst_4
  have v46 := Host.divf v44 v45
  have cst_5 := (constant S_ .f32 0x358637BD#32)
  have v47 := (broadcastInDim S16384x4x1 ![] bcast_S_S16384x4x1) cst_5
  have v48 := addf v46 v47
  have v49 := Host.rsqrt v48
  have v50 := (broadcastInDim S16384x4x64 ![0, 1, 2] bcast_S16384x4x1_S16384x4x64_0_1_2) v49
  have v51 := mulf v39 v50
  have v52 := (broadcastInDim S1x1x64 ![2] bcast_S64_S1x1x64_2) v41
  have v53 := (broadcastInDim S16384x4x64 ![0, 1, 2] bcast_S1x1x64_S16384x4x64_0_1_2) v52
  have v54 := mulf v51 v53
  have v55 := shapeCast S16384x4x64 arg5 shapeCasts_S16384x256_S16384x4x64
  have call0_v0 := Host.negf v55
  have call0_v1 := Host.exp call0_v0
  have call0_cst := (constant S_ .f32 0x3F800000#32)
  have call0_v2 := (broadcastInDim S16384x4x64 ![] bcast_S_S16384x4x64) call0_cst
  have call0_v3 := addf call0_v2 call0_v1
  have call0_cst_0 := (constant S_ .f32 0x3F800000#32)
  have call0_v4 := (broadcastInDim S16384x4x64 ![] bcast_S_S16384x4x64) call0_cst_0
  have call0_v5 := Host.divf call0_v4 call0_v3
  have v56 := mulf v55 call0_v5
  have v57 := mulf v54 v56
  shapeCast S16384x256 v57 shapeCasts_S16384x4x64_S16384x256

/-- The second branch. -/
def refOb (arg7 arg8 : FVec Ideal S8192x256 .bf16) : FVec Ideal S16384x256 .f32 :=
  extf .f32 (fn_main_v58 (F := Ideal) arg7 arg8) bitsLt_bf16_f32

/-- The fourth branch, its heads put in order. -/
def refOd (arg10 arg11 : FVec Ideal S8192x256 .bf16) : FVec Ideal S16384x256 .f32 :=
  have v61 := extf .f32 (fn_main_v60 (F := Ideal) arg10 arg11) bitsLt_bf16_f32
  have v62 := shapeCast S16384x2x2x64 v61 shapeCasts_S16384x256_S16384x2x2x64
  have v63 := transpose S16384x2x2x64 [0, 2, 1, 3] v62 transposes_S16384x2x2x64_S16384x2x2x64_0_2_1_3
  shapeCast S16384x256 v63 shapeCasts_S16384x2x2x64_S16384x256

/-- The four branches side by side. -/
def refBr (v65 v59 : FVec Ideal S16384x256 .f32) (arg9 : FVec Ideal S16384x256 .bf16) (v64 : FVec Ideal S16384x256 .f32) : FVec Ideal S16384x4x256 .f32 :=
  have v66 := extf .f32 arg9 bitsLt_bf16_f32
  have v67 := (broadcastInDim S16384x1x256 ![0, 2] bcast_S16384x256_S16384x1x256_0_2) v65
  have v68 := (broadcastInDim S16384x1x256 ![0, 2] bcast_S16384x256_S16384x1x256_0_2) v59
  have v69 := (broadcastInDim S16384x1x256 ![0, 2] bcast_S16384x256_S16384x1x256_0_2) v66
  have v70 := (broadcastInDim S16384x1x256 ![0, 2] bcast_S16384x256_S16384x1x256_0_2) v64
  fn_main_v71 (F := Ideal) v67 v68 v69 v70

/-- The projections of the branches, gated and added. -/
def refMerged (v82 : FVec Ideal S16384x4x1024 .f32) (v71 : FVec Ideal S16384x4x256 .f32) (arg13 : FVec Ideal S4x4x256x1024 .f32) : FVec Ideal S16384x1024 .f32 :=
  have v72 := extractStridedSlice S1x4x256x1024 ![0, 0, 0, 0] arg13 slices_S4x4x256x1024_S1x4x256x1024_0_0_0_0
  have v73 := shapeCast S4x256x1024 v72 shapeCasts_S1x4x256x1024_S4x256x1024
  have v74 := Host.dotGeneral dot_S4x256x1024_S16384x4x256_S4x1024x16384_1_2_2_0_0_1 none v73 v71
  have v75 := transpose S16384x4x1024 [2, 0, 1] v74 transposes_S4x1024x16384_S16384x4x1024_2_0_1
  have v83 := mulf v82 v75
  have cst_8 := (constant S_ .f32 0x00000000#32)
  Host.reduceAdd v83 cst_8 reducesTo_S16384x4x1024_S16384x1024_d1 h_S_

/-- The merged branches projected, gated and put on the residual. -/
def refOut (arg0 : FVec Ideal S16384x1024 .f32) (v9 : FVec Ideal S16384x6144 .f32) (v84 : FVec Ideal S16384x1024 .f32) (arg14 : FVec Ideal S4x1024x1024 .f32) : FVec Ideal S16384x1024 .f32 :=
  have v85 := extractStridedSlice S1x1024x1024 ![0, 0, 0] arg14 slices_S4x1024x1024_S1x1024x1024_0_0_0
  have v86 := shapeCast S1024x1024 v85 shapeCasts_S1x1024x1024_S1024x1024
  have v87 := Host.dotGeneral dot_S16384x1024_S1024x1024_S16384x1024_1_0_0_1_n_n none v84 v86
  have v12 := extractStridedSlice S16384x1024 ![0, 2048] v9 slices_S16384x6144_S16384x1024_0_2048
  have v88 := mulf v12 v87
  addf arg0 v88

section
variable (m : (ℓ : Loc nD τ sig) → Buf (Elt Ideal) ℓ) (c : Dev nD)

set_option maxHeartbeats 4000000 in
/-- The reference's result is its stages in order. -/
theorem res_stages (v9 : FVec Ideal S16384x6144 .f32) (h9 : v9 = refRows (m (c, Proc.tc.devRef main_arg1))) :
    Value.res_main_v89 m c = refOut (m (c, Proc.tc.devRef main_arg0)) v9
      (refMerged (refMg (refXm (m (c, Proc.tc.devRef main_arg0)) v9 (m (c, Proc.tc.devRef main_arg2))) (m (c, Proc.tc.devRef main_arg12)))
        (refBr (refOa (m (c, Proc.tc.devRef main_arg3)) (m (c, Proc.tc.devRef main_arg4)) (m (c, Proc.tc.devRef main_arg5)) (m (c, Proc.tc.devRef main_arg6)))
          (refOb (m (c, Proc.tc.devRef main_arg7)) (m (c, Proc.tc.devRef main_arg8))) (m (c, Proc.tc.devRef main_arg9))
          (refOd (m (c, Proc.tc.devRef main_arg10)) (m (c, Proc.tc.devRef main_arg11))))
        (m (c, Proc.tc.devRef main_arg13))) (m (c, Proc.tc.devRef main_arg14)) := by
  subst h9
  rfl
end

/-- The modulation of a token is that of its document. -/
theorem rows_at (a : FVec Ideal S4x8x6144 .f32) (r : Fin 16384) (d : Fin 6144) (k : Fin 8)
    (hk : k.val = if r.val < 8192 then 0 else if r.val < 12288 then 1 else 2) : refRows a (ix2 r d) = a (ix3 0 k d) := by
  unfold refRows fn_main_v9
  pointwise
  split_ifs with h1 h2
  · rw [if_pos h1] at hk
    exact congrArg a (congrArg (fun z => ix3 0 z d) (Fin.ext hk.symm))
  · rw [if_neg h1, if_pos (by omega)] at hk
    exact congrArg a (congrArg (fun z => ix3 0 z d) (Fin.ext hk.symm))
  · rw [if_neg h1, if_neg (by omega)] at hk
    exact congrArg a (congrArg (fun z => ix3 0 z d) (Fin.ext hk.symm))

/-- The modulated norm of a token. -/
theorem xm_at (a : FVec Ideal S16384x1024 .f32) (b : FVec Ideal S16384x6144 .f32) (g : FVec Ideal S4x1024 .f32) (r : Fin 16384) (d : Fin 1024) :
    refXm a b g (ix2 r d) = KernelIdeal.Value.norm (fun d => a (ix2 r d)) (fun d => g (ix2 0 d)) (fun d => b (ix2 r ⟨1024 + d.val, by omega⟩))
      (fun d => b (ix2 r ⟨d.val, by omega⟩)) d := by
  unfold refXm
  pointwise
  rfl

/-- A branch's gate of a token is the logistic of its logit. -/
theorem mg_at (x : FVec Ideal S16384x1024 .f32) (w : FVec Ideal S4x1024x6928 .f32) (r : Fin 16384) (n : Fin 4) (e : Fin 1024) :
    refMg x w (ix3 r n e) = sg (∑ d, x (ix2 r d) * w (ix3 0 d ⟨2832 + (1024 * n.val + e.val), by omega⟩)) := by
  unfold refMg
  pointwise
  unfold sg
  simp only [Nat.mul_comm n.val 1024]

/-- The first branch of a token is its heads one after the other. -/
theorem oa_at (a l : FVec Ideal S4x8192x64 .f32) (z : FVec Ideal S16384x256 .f32) (g : FVec Ideal S4x64 .f32) (r : Fin 16384) (k : Fin 256) :
    refOa a l z g (ix2 r k) = heads (fun j k => split (fun r => a (ix3 j r k)) (fun r => l (ix3 j r k)) r) (fun k => g (ix2 0 k)) (fun k => z (ix2 r k)) k := by
  unfold refOa fn_main_v38
  pointwise
  unfold heads head split sg
  rfl

/-- The second branch of a token. -/
theorem ob_at (a l : FVec Ideal S8192x256 .bf16) (r : Fin 16384) (k : Fin 256) :
    refOb a l (ix2 r k) = split (fun r => a (ix2 r k)) (fun r => l (ix2 r k)) r := by
  unfold refOb fn_main_v58
  pointwise
  unfold split
  rfl

/-- The fourth branch of a token, read where it is stored. -/
theorem od_at (a l : FVec Ideal S8192x256 .bf16) (r : Fin 16384) (k : Fin 256) :
    refOd a l (ix2 r k) = split (fun r => a (ix2 r (stored k))) (fun r => l (ix2 r (stored k))) r := by
  unfold refOd fn_main_v60
  pointwise
  unfold split stored
  have e : (⟨k.val / 64 % 2 * 128 + k.val / 128 * 64 + k.val % 64, by omega⟩ : Fin 256) = ⟨64 * (2 * (k.val / 64 % 2) + k.val / 128) + k.val % 64, by omega⟩ :=
    Fin.ext (by show k.val / 64 % 2 * 128 + k.val / 128 * 64 + k.val % 64 = 64 * (2 * (k.val / 64 % 2) + k.val / 128) + k.val % 64; omega)
  simp only [e]

/-- The branches are read one by one. -/
theorem br_at (p q : FVec Ideal S16384x256 .f32) (s : FVec Ideal S16384x256 .bf16) (u : FVec Ideal S16384x256 .f32) (r : Fin 16384) (n : Fin 4) (k : Fin 256) :
    refBr p q s u (ix3 r n k) = ![p (ix2 r k), q (ix2 r k), s (ix2 r k), u (ix2 r k)] n := by
  unfold refBr fn_main_v71
  fin_cases n <;> pointwise

/-- The merged branches of a token. -/
theorem merged_at (x : FVec Ideal S16384x4x1024 .f32) (b : FVec Ideal S16384x4x256 .f32) (w : FVec Ideal S4x4x256x1024 .f32) (r : Fin 16384) (e : Fin 1024) :
    refMerged x b w (ix2 r e) = ∑ n, x (ix3 r n e) * ∑ k, b (ix3 r n k) * w (ix4 0 n k e) := by
  unfold refMerged
  pointwise
  exact Finset.sum_congr rfl fun n _ => congrArg (x (ix3 r n e) * ·) (Finset.sum_congr rfl fun k _ => mul_comm _ _)

/-- A token's result. -/
theorem out_at (h : FVec Ideal S16384x1024 .f32) (b : FVec Ideal S16384x6144 .f32) (a : FVec Ideal S16384x1024 .f32) (w : FVec Ideal S4x1024x1024 .f32) (r : Fin 16384) (f : Fin 1024) :
    refOut h b a w (ix2 r f) = out (fun d => h (ix2 r d)) (fun d => b (ix2 r ⟨2048 + d.val, by omega⟩)) (fun e => a (ix2 r e)) (fun e f => w (ix3 0 e f)) f := by
  unfold refOut
  pointwise
  rfl

end Cert.Reference2Ideal.Value
end
-- ==== Proof.MergeEqual.lean ====
/-
  The merge call and its reference agree: a token's result is the same formula of the arguments in both.
-/
module

public import proofs.«01_k».proof.Proof.MergeValue
public import proofs.«01_k».proof.Proof.MergeRef

@[expose] public section

set_option maxRecDepth 16384

noncomputable section

namespace Cert.Merge

open Idealize.ShloMosaic Idealize.ShloMosaic.TcCoe Idealize.SL.Sem

open Reference2Ideal.Value in
/-- The reference's stages on the kernel's arguments are the kernel's result at every entry. -/
theorem result (m : (ℓ : Loc Kernel2Ideal.nD Kernel2Ideal.τ Kernel2Ideal.sig) → Buf (Elt Ideal) ℓ) (c : Dev Kernel2Ideal.nD)
    (a0 : FVec Ideal Reference2Ideal.S16384x1024 .f32) (a1 : FVec Ideal Reference2Ideal.S4x8x6144 .f32) (a2 : FVec Ideal Reference2Ideal.S4x1024 .f32)
    (a3 a4 : FVec Ideal Reference2Ideal.S4x8192x64 .f32) (a5 : FVec Ideal Reference2Ideal.S16384x256 .f32) (a6 : FVec Ideal Reference2Ideal.S4x64 .f32)
    (a7 a8 : FVec Ideal Reference2Ideal.S8192x256 .bf16) (a9 : FVec Ideal Reference2Ideal.S16384x256 .bf16) (a10 a11 : FVec Ideal Reference2Ideal.S8192x256 .bf16)
    (a12 : FVec Ideal Reference2Ideal.S4x1024x6928 .f32) (a13 : FVec Ideal Reference2Ideal.S4x4x256x1024 .f32) (a14 : FVec Ideal Reference2Ideal.S4x1024x1024 .f32)
    (e0 : a0 = m (c, Proc.tc.devRef Kernel2Ideal.main_arg0)) (e1 : a1 = m (c, Proc.tc.devRef Kernel2Ideal.main_arg1))
    (e2 : a2 = m (c, Proc.tc.devRef Kernel2Ideal.main_arg2)) (e3 : a3 = m (c, Proc.tc.devRef Kernel2Ideal.main_arg3))
    (e4 : a4 = m (c, Proc.tc.devRef Kernel2Ideal.main_arg4)) (e5 : a5 = m (c, Proc.tc.devRef Kernel2Ideal.main_arg5))
    (e6 : a6 = m (c, Proc.tc.devRef Kernel2Ideal.main_arg6)) (e7 : a7 = m (c, Proc.tc.devRef Kernel2Ideal.main_arg7))
    (e8 : a8 = m (c, Proc.tc.devRef Kernel2Ideal.main_arg8)) (e9 : a9 = m (c, Proc.tc.devRef Kernel2Ideal.main_arg9))
    (e10 : a10 = m (c, Proc.tc.devRef Kernel2Ideal.main_arg10)) (e11 : a11 = m (c, Proc.tc.devRef Kernel2Ideal.main_arg11))
    (e12 : a12 = m (c, Proc.tc.devRef Kernel2Ideal.main_arg12)) (e13 : a13 = m (c, Proc.tc.devRef Kernel2Ideal.main_arg13))
    (e14 : a14 = m (c, Proc.tc.devRef Kernel2Ideal.main_arg14))
    (R : Fin 16384) (f : Fin 1024) :
    refOut a0 (refRows a1) (refMerged (refMg (refXm a0 (refRows a1) a2) a12) (refBr (refOa a3 a4 a5 a6) (refOb a7 a8) a9 (refOd a10 a11)) a13) a14 (ix2 R f)
      = Kernel2Ideal.Value.kres m c R f := by
  have hrow : ∀ d, refRows a1 (ix2 R d) = Kernel2Ideal.Value.modAt m c R d := fun d =>
    (rows_at _ R d ⟨Kernel2Ideal.Value.modRow (R.val / 512), Kernel2Ideal.Value.modRow_lt _ (by omega)⟩ (by
      show Kernel2Ideal.Value.modRow (R.val / 512) = _
      unfold Kernel2Ideal.Value.modRow
      split_ifs <;> omega)).trans (by rw [e1]; rfl)
  rw [out_at]
  unfold Kernel2Ideal.Value.kres
  have hh : (fun d => a0 (ix2 R d)) = Kernel2Ideal.Value.hRow m c R := by rw [e0]; rfl
  have hwo : (fun e f => a14 (ix3 0 e f)) = Kernel2Ideal.Value.woAt m c := by rw [e14]; rfl
  have hgt : (fun d : Fin 1024 => refRows a1 (ix2 R ⟨2048 + d.val, by omega⟩))
      = fun d => Kernel2Ideal.Value.modAt m c R ⟨2048 + d.val, by omega⟩ := funext fun d => hrow _
  rw [hgt, hh, hwo]
  refine congrArg (fun a => out _ _ a _ f) (funext fun e => ?_)
  have hx : ∀ d, refXm a0 (refRows a1) a2 (ix2 R d)
      = Kernel2Ideal.Value.xRow m c R d := fun d => by
    rw [xm_at]
    simp only [hrow, e0, e2]
    rfl
  rw [merged_at]
  unfold merged
  refine Finset.sum_congr rfl fun n _ => congrArg₂ (· * ·) ?_ (Finset.sum_congr rfl fun k _ => congrArg₂ (· * ·) ?_ ?_)
  · rw [mg_at, e12]
    exact congrArg sg (Finset.sum_congr rfl fun d _ => congrArg (· * _) (hx d))
  · rw [br_at, oa_at, ob_at, od_at, e3, e4, e5, e6, e7, e8, e9, e10, e11]
    rfl
  · rw [e13]
    rfl

end Cert.Merge
end
-- ==== Proof.In.lean ====
/-
  One token of the in-projection call as formulas over rows of numbers: a column of its projection, the normed values of the
  spatial gate, and a column of the gated branch.
-/
module

public import proofs.«01_k».proof.Proof.Row

@[expose] public section

noncomputable section

namespace Cert.Inproj

open Idealize.ShloMosaic Cert.KernelIdeal.Value

/-- A column of a token's projection. -/
def dot (x w : Fin 1024 → EReal) : EReal := ∑ d, x d * w d

/-- A token's 256 values over their root mean square, times the scale. -/
def scaled (v g : Fin 256 → EReal) (k : Fin 256) : EReal :=
  v k * Ideal.rsqrt (Ideal.div (∑ x, v x * v x) (Ideal.ofBits FTy.f32 1132462080#32) + Ideal.ofBits FTy.f32 897988541#32) * g k

/-- A column of the gated branch: the token's value times the mix of its chunk's normed values with the bias added. -/
def gated (u b : EReal) (w s : Fin 128 → EReal) : EReal := u * ((∑ l, s l * w l) + b)

/-- Of four sums chosen by the column's group, the group's own one is what is added. -/
theorem pick (b : EReal) (x : Fin 4 → EReal) (k : Fin 256) :
    b + Scalar.select (IntOp.cmpi CmpIPredicate.eq (BitVec.ofNat 32 (k.val / 64)) 0#32) (x 0) 0
      + Scalar.select (IntOp.cmpi CmpIPredicate.eq (BitVec.ofNat 32 (k.val / 64)) 1#32) (x 1) 0
      + Scalar.select (IntOp.cmpi CmpIPredicate.eq (BitVec.ofNat 32 (k.val / 64)) 2#32) (x 2) 0
      + Scalar.select (IntOp.cmpi CmpIPredicate.eq (BitVec.ofNat 32 (k.val / 64)) 3#32) (x 3) 0
      = x ⟨k.val / 64, by omega⟩ + b := by
  have h : ∀ n : Fin 4,
      b + Scalar.select (IntOp.cmpi CmpIPredicate.eq (BitVec.ofNat 32 n.val) 0#32) (x 0) 0
        + Scalar.select (IntOp.cmpi CmpIPredicate.eq (BitVec.ofNat 32 n.val) 1#32) (x 1) 0
        + Scalar.select (IntOp.cmpi CmpIPredicate.eq (BitVec.ofNat 32 n.val) 2#32) (x 2) 0
        + Scalar.select (IntOp.cmpi CmpIPredicate.eq (BitVec.ofNat 32 n.val) 3#32) (x 3) 0 = x n + b := by
    have e : ∀ n k : Fin 4, IntOp.cmpi CmpIPredicate.eq (BitVec.ofNat 32 n.val) (BitVec.ofNat 32 k.val) = if n = k then 1#1 else 0#1 := by decide
    have y1 : ∀ p q : EReal, Scalar.select (1#1) p q = p := fun _ _ => rfl
    have y0 : ∀ p q : EReal, Scalar.select (0#1) p q = q := fun _ _ => rfl
    intro n
    have e0 := e n 0
    have e1 := e n 1
    have e2 := e n 2
    have e3 := e n 3
    simp only [Fin.val_zero, Fin.val_one, Fin.val_two, show ((3 : Fin 4).val) = 3 from rfl] at e0 e1 e2 e3
    rw [e0, e1, e2, e3]
    fin_cases n <;> simp [y1, y0, add_comm]
  exact h ⟨k.val / 64, by omega⟩

end Cert.Inproj

end
-- ==== Proof.InBlk.lean ====
/-
  The in-projection call: what the host hands it, entry by entry, and which block of each operand a step reads.
-/
module

public import proofs.«01_k».proof.Proof.Gen.Kernel3Ideal.Frame
public import proofs.«01_k».proof.Proof.In
public import Idealize.ShloMosaic.Lib.Pipeline.ValueKit
public import Idealize.ShloMosaic.Lib.Pointwise

@[expose] public section

set_option maxRecDepth 16384

noncomputable section

namespace Cert.Kernel3Ideal.Value

open Cert.Kernel3Ideal Cert.Kernel3Ideal.Gen Idealize.ShloMosaic Idealize.ShloMosaic.TcCoe Idealize.SL.Sem

variable (m : (ℓ : Loc nD τ sig) → Buf (Elt Ideal) ℓ) (c : Dev nD) (t : Fin cfg0.N)

theorem tile_lt : t.val < 32 := t.isLt

/-- The column of the in-projection a column of the kernel's weights is, where its own columns are taken in order. -/
def source (k : ℕ) : ℕ := if k < 1024 then k else k - 112

/-- The last part of the host's line, from which on the weights are put together, read after all the parts before it. -/
theorem before : ∃ σ : Valuation τ sig (Elt Ideal), ∀ b : Ref sig .tc, V m c b = StableHlo.after hostOps0_36 σ (Proc.devRef .tc b) :=
  ⟨StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35]) (fun b => m (c, b)), fun b => by
    rw [← StableHlo.after_append]
    unfold V
    congr 1⟩

/-- The nine parts of the kernel's weights side by side. -/
def joined (x0 : FVec Ideal S4x1024x1024 .f32) (x1 : FVec Ideal S4x1024x16 .f32) (x2 : FVec Ideal S4x1024x112 .f32) (x3 : FVec Ideal S4x1024x1280 .f32) (x4 : FVec Ideal S4x1024x64 .f32) (x5 : FVec Ideal S4x1024x64 .f32) (x6 : FVec Ideal S4x1024x64 .f32) (x7 : FVec Ideal S4x1024x64 .f32) (x8 : FVec Ideal S4x1024x256 .f32) : FVec Ideal S4x1024x2944 .f32 :=
  concatenate S4x1024x2944 2 [⟨S4x1024x1024, x0⟩, ⟨S4x1024x16, x1⟩, ⟨S4x1024x112, x2⟩, ⟨S4x1024x1280, x3⟩, ⟨S4x1024x64, x4⟩, ⟨S4x1024x64, x5⟩, ⟨S4x1024x64, x6⟩, ⟨S4x1024x64, x7⟩, ⟨S4x1024x256, x8⟩] concatenates_S4x1024x1024_S4x1024x16_S4x1024x112_S4x1024x1280_S4x1024x64_S4x1024x64_S4x1024x64_S4x1024x64_S4x1024x256_S4x1024x2944_d2

/-- The parts put side by side are what the weights hold. -/
theorem join_w (σ : Valuation τ sig (Elt Ideal)) : StableHlo.after (List.take 2 (List.drop 9 hostOps0_36)) σ (Proc.devRef .tc main_v89)
    = truncf .bf16 (joined (σ (Proc.devRef .tc main_v80)) (σ (Proc.devRef .tc main_v79)) (σ (Proc.devRef .tc main_v81)) (σ (Proc.devRef .tc main_v82)) (σ (Proc.devRef .tc main_v83)) (σ (Proc.devRef .tc main_v84)) (σ (Proc.devRef .tc main_v85)) (σ (Proc.devRef .tc main_v86)) (σ (Proc.devRef .tc main_v87))) bitsLt_bf16_f32 := by
  unfold joined
  simp only [hostOps0_36, List.drop_succ_cons, List.drop_zero, List.take_succ_cons, List.take_zero, StableHlo.after_cons, StableHlo.after_nil]
  after_results_simp
  rfl

section
variable (x0 : FVec Ideal S4x1024x1024 .f32) (x1 : FVec Ideal S4x1024x16 .f32) (x2 : FVec Ideal S4x1024x112 .f32) (x3 : FVec Ideal S4x1024x1280 .f32) (x4 : FVec Ideal S4x1024x64 .f32) (x5 : FVec Ideal S4x1024x64 .f32) (x6 : FVec Ideal S4x1024x64 .f32) (x7 : FVec Ideal S4x1024x64 .f32) (x8 : FVec Ideal S4x1024x256 .f32) (d : Fin 1024) (k : Fin 2944)

/-- The joined parts read in the columns of the first, the fourth and the last of them. -/
theorem joined_at0 (h : k.val < 1024) : joined x0 x1 x2 x3 x4 x5 x6 x7 x8 (ix3 0 d k) = x0 (ix3 0 d ⟨k.val, h⟩) := by
  unfold joined
  pointwise
  rw [dif_pos h]

theorem joined_at3 (h : 1152 ≤ k.val) (h' : k.val < 2432) : joined x0 x1 x2 x3 x4 x5 x6 x7 x8 (ix3 0 d k) = x3 (ix3 0 d ⟨k.val - 1152, by omega⟩) := by
  unfold joined
  pointwise
  split_ifs <;> first | omega | rfl

theorem joined_at8 (h : 2688 ≤ k.val) : joined x0 x1 x2 x3 x4 x5 x6 x7 x8 (ix3 0 d k) = x8 (ix3 0 d ⟨k.val - 2688, by omega⟩) := by
  unfold joined
  pointwise
  split_ifs <;> first | omega | rfl
end

/-- The parts are slices of the in-projection's columns. -/
theorem part_w (σ : Valuation τ sig (Elt Ideal)) :
    StableHlo.after (List.take 9 hostOps0_36) σ (Proc.devRef .tc main_v80) = extractStridedSlice S4x1024x1024 ![0, 0, 0] (σ (Proc.devRef .tc main_arg3)) slices_S4x1024x6928_S4x1024x1024_0_0_0
    ∧ StableHlo.after (List.take 9 hostOps0_36) σ (Proc.devRef .tc main_v82) = extractStridedSlice S4x1024x1280 ![0, 0, 1040] (σ (Proc.devRef .tc main_arg3)) slices_S4x1024x6928_S4x1024x1280_0_0_1040
    ∧ StableHlo.after (List.take 9 hostOps0_36) σ (Proc.devRef .tc main_v87) = extractStridedSlice S4x1024x256 ![0, 0, 2576] (σ (Proc.devRef .tc main_arg3)) slices_S4x1024x6928_S4x1024x256_0_0_2576 := by
  simp only [hostOps0_36, List.take_succ_cons, List.take_zero, StableHlo.after_cons, StableHlo.after_nil]
  refine ⟨?_, ?_, ?_⟩
  · after_results_simp
  · after_results_simp
  · after_results_simp

/-- What follows leaves the weights alone. -/
theorem rest_w (σ : Valuation τ sig (Elt Ideal)) :
    StableHlo.after (List.drop 2 (List.drop 9 hostOps0_36)) σ (Proc.devRef .tc main_v89) = σ (Proc.devRef .tc main_v89) := by
  simp only [hostOps0_36, List.drop_succ_cons, List.drop_zero, StableHlo.after_cons, StableHlo.after_nil]
  after_results_simp

/-- The kernel's weights after the last part of the line, in the columns it reads for these arrays. -/
theorem last_w (σ : Valuation τ sig (Elt Ideal)) (d : Fin 1024) (k : Fin 2944) (hk : k.val < 1024 ∨ (1152 ≤ k.val ∧ k.val < 2432) ∨ 2688 ≤ k.val)
    (j : Fin 6928) (hj : j.val = source k.val) :
    StableHlo.after hostOps0_36 σ (Proc.devRef .tc main_v89) (ix3 0 d k) = σ (Proc.devRef .tc main_arg3) (ix3 0 d j) := by
  have e : ∀ n : Fin 6928, n.val = source k.val → σ (Proc.devRef .tc main_arg3) (ix3 0 d n) = σ (Proc.devRef .tc main_arg3) (ix3 0 d j) :=
    fun n hn => congrArg (fun n => σ (Proc.devRef .tc main_arg3) (ix3 0 d n)) (Fin.ext (hn.trans hj.symm))
  rw [← List.take_append_drop 9 hostOps0_36, StableHlo.after_append, ← List.take_append_drop 2 (List.drop 9 hostOps0_36), StableHlo.after_append, rest_w, join_w]
  obtain ⟨p0, p3, p8⟩ := part_w σ
  unfold source at e
  rcases hk with h | ⟨h, h'⟩ | h
  · refine (joined_at0 _ _ _ _ _ _ _ _ _ d k h).trans ?_
    rw [p0]
    pointwise
    exact e _ (by simp only [if_pos h])
  · refine (joined_at3 _ _ _ _ _ _ _ _ _ d k h h').trans ?_
    rw [p3]
    pointwise
    exact e _ (by simp only [if_neg (show ¬ k.val < 1024 by omega)]; omega)
  · refine (joined_at8 _ _ _ _ _ _ _ _ _ d k h).trans ?_
    rw [p8]
    pointwise
    exact e _ (by simp only [if_neg (show ¬ k.val < 1024 by omega)]; omega)

theorem last_arg3 (σ : Valuation τ sig (Elt Ideal)) :
    StableHlo.after hostOps0_36 σ (Proc.devRef .tc main_arg3) = σ (Proc.devRef .tc main_arg3) := by
  entry_read
  rfl

/-- The kernel's weights, in the columns it reads for these arrays. -/
theorem V_w (d : Fin 1024) (k : Fin 2944) (hk : k.val < 1024 ∨ (1152 ≤ k.val ∧ k.val < 2432) ∨ 2688 ≤ k.val) (j : Fin 6928) (hj : j.val = source k.val) :
    V m c main_v89 (ix3 0 d k) = m (c, Proc.tc.devRef main_arg3) (ix3 0 d j) := by
  obtain ⟨σ, h⟩ := before m c
  rw [h main_v89]
  refine (last_w σ d k hk j hj).trans ?_
  rw [← last_arg3 σ, ← h main_arg3, V_main_arg3]

/-- The mix of the spatial gate. -/
theorem V_ws (n : Fin 4) (i l : Fin 128) : V m c main_v90 (ix4 0 n i l) = m (c, Proc.tc.devRef main_arg5) (ix4 0 n i l) := by
  simp only [V, List.flatten_cons, List.flatten_nil, List.append_nil, List.cons_append, List.nil_append]
  entry_read
  pointwise

/-- The bias of the spatial gate: one for each column of the group. -/
theorem V_b (i : Fin 128) (k : Fin 256) : V m c main_v93 (ix3 0 i k) = m (c, Proc.tc.devRef main_arg6) (ix3 0 ⟨k.val / 64, by omega⟩ i) := by
  simp only [V, List.flatten_cons, List.flatten_nil, List.append_nil, List.cons_append, List.nil_append]
  entry_read
  pointwise

theorem V_mod (k : Fin 8) (d : Fin 6144) : V m c main_v102 (ix4 0 k 0 d) = m (c, Proc.tc.devRef main_arg1) (ix3 0 k d) := by
  simp only [V, List.flatten_cons, List.flatten_nil, List.append_nil, List.cons_append, List.nil_append]
  entry_read
  pointwise

theorem V_n1 (d : Fin 1024) : V m c main_v103 (ix3 0 0 d) = m (c, Proc.tc.devRef main_arg2) (ix2 0 d) := by
  simp only [V, List.flatten_cons, List.flatten_nil, List.append_nil, List.cons_append, List.nil_append]
  entry_read
  pointwise

theorem V_sn (k : Fin 256) : V m c main_v104 (ix3 0 0 k) = m (c, Proc.tc.devRef main_arg4) (ix2 0 k) := by
  simp only [V, List.flatten_cons, List.flatten_nil, List.append_nil, List.cons_append, List.nil_append]
  entry_read
  pointwise

/-! Which block of each operand a step reads. -/

theorem idx0 : ∀ t : Fin cfg0.N, win0_0.index t = ![t.val, 0] := (by decide +kernel : ∀ t : Fin grid0.N, _)
theorem idx1 : ∀ t : Fin cfg0.N, win0_1.index t = ![0, if t.val < 16 then 0 else 1 + (t.val - 16) / 8, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0, 0] := (by decide +kernel : ∀ t : Fin grid0.N, _)
theorem idx8 : ∀ t : Fin cfg0.N, win0_8.index t = ![0, 0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx16 : ∀ t : Fin cfg0.N, win0_16.index t = ![t.val, 0] := (by decide +kernel : ∀ t : Fin grid0.N, _)
theorem idx19 : ∀ t : Fin cfg0.N, win0_19.index t = ![t.val, 0] := (by decide +kernel : ∀ t : Fin grid0.N, _)
theorem idx22 : ∀ t : Fin cfg0.N, win0_22.index t = ![t.val, 0] := (by decide +kernel : ∀ t : Fin grid0.N, _)
theorem idx18 : ∀ t : Fin cfg0.N, win0_18.index t = ![0, t.val] := (by decide +kernel : ∀ t : Fin grid0.N, _)
theorem idx24 : ∀ t : Fin cfg0.N, win0_24.index t = ![0, t.val] := (by decide +kernel : ∀ t : Fin grid0.N, _)

/-- The row of the modulation table a tile of tokens takes. -/
def modRow (i : Nat) : Nat := if i < 16 then 0 else 1 + (i - 16) / 8

theorem modRow_lt (i : Nat) (h : i < 32) : modRow i < 8 := by
  unfold modRow; split <;> omega

/-- A token of the tile. -/
theorem blk0 (r : Fin 512) (d : Fin 1024) : iblk m c 0 t (ix2 r d) =
    m (c, Proc.tc.devRef main_arg0) (ix2 ⟨512 * t.val + r.val, by have := tile_lt t; omega⟩ d) := by
  blk_simp [iblk, idx0 t]
  rw [V_main_arg0]
  blk_ext [idx0 t]

/-- The modulation row of the tile. -/
theorem blk1 (d : Fin 6144) : iblk m c 1 t (ix4 0 0 0 d) =
    m (c, Proc.tc.devRef main_arg1) (ix3 0 ⟨modRow t.val, modRow_lt _ (tile_lt t)⟩ d) := by
  blk_simp [iblk, idx1 t]
  refine Eq.trans ?_ (V_mod m c _ d)
  blk_ext [idx1 t, modRow]

/-- The scale of the norm. -/
theorem blk2 (d : Fin 1024) : iblk m c 2 t (ix3 0 0 d) = m (c, Proc.tc.devRef main_arg2) (ix2 0 d) := by
  blk_simp [iblk, idx2 t]
  refine Eq.trans ?_ (V_n1 m c d)
  blk_ext [idx2 t]

/-- The weights, in the columns read for these arrays. -/
theorem blk3 (d : Fin 1024) (k : Fin 2944) (hk : k.val < 1024 ∨ (1152 ≤ k.val ∧ k.val < 2432) ∨ 2688 ≤ k.val) (j : Fin 6928) (hj : j.val = source k.val) :
    iblk m c 3 t (ix3 0 d k) = m (c, Proc.tc.devRef main_arg3) (ix3 0 d j) := by
  blk_simp [iblk, idx3 t]
  refine Eq.trans ?_ (V_w m c d k hk j hj)
  blk_ext [idx3 t]

/-- The scale of the spatial gate's values. -/
theorem blk6 (k : Fin 256) : iblk m c 6 t (ix3 0 0 k) = m (c, Proc.tc.devRef main_arg4) (ix2 0 k) := by
  blk_simp [iblk, idx6 t]
  refine Eq.trans ?_ (V_sn m c k)
  blk_ext [idx6 t]

/-- The mix of the spatial gate. -/
theorem blk7 (n : Fin 4) (i l : Fin 128) : iblk m c 7 t (ix4 0 n i l) = m (c, Proc.tc.devRef main_arg5) (ix4 0 n i l) := by
  blk_simp [iblk, idx7 t]
  refine Eq.trans ?_ (V_ws m c n i l)
  blk_ext [idx7 t]

/-- The bias of the spatial gate. -/
theorem blk8 (i : Fin 128) (k : Fin 256) : iblk m c 8 t (ix3 0 i k) = m (c, Proc.tc.devRef main_arg6) (ix3 0 ⟨k.val / 64, by omega⟩ i) := by
  blk_simp [iblk, idx8 t]
  refine Eq.trans ?_ (V_b m c i k)
  blk_ext [idx8 t]

end Cert.Kernel3Ideal.Value
end
-- ==== Proof.InPay.lean ====
/-
  The in-projection call's body read at one token of the step's tile.
-/
module

public import proofs.«01_k».proof.Proof.Gen.Kernel3Ideal.Skeleton
public import proofs.«01_k».proof.Proof.In
public import Idealize.ShloMosaic.Lib.Pipeline.ValueKit
public import Idealize.ShloMosaic.Lib.Pointwise

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Inproj

/-- The normed token. -/
theorem pay1_at (h : Vec Ideal S512x1024 .f32) (g : Vec Ideal S1x1x1024 .f32) (s t : Vec Ideal S1x1x1x1024 .f32)
    (r : Fin 512) (f : Fin 1024) : k0_pay1 h g s t (ix2 r f)
    = KernelIdeal.Value.norm (fun d => h (ix2 r d)) (fun d => g (ix3 0 0 d)) (fun d => s (ix4 0 0 0 d)) (fun d => t (ix4 0 0 0 d)) f := by
  unfold k0_pay1
  pointwise
  rfl

section
variable (x : FVec Ideal S512x1024 .bf16) (w : Vec Ideal S1x1024x256 .bf16) (w' : Vec Ideal S1x1024x128 .bf16) (r : Fin 512)

/-- The projections. -/
theorem pay2_at (h : Vec Ideal S512x1024 .f32) (g : Vec Ideal S1x1x1024 .f32) (s t : Vec Ideal S1x1x1x1024 .f32) (w : Vec Ideal S1x1024x768 .bf16) (k : Fin 768) :
    k0_pay2 h g s t w (ix2 r k) = dot (fun d => k0_pay1 h g s t (ix2 r d)) (fun d => w (ix3 0 d k)) := by
  unfold k0_pay2 dot
  pointwise

theorem pay4_at (k : Fin 256) : k0_pay4 x (k0_pay3 w) (ix2 r k) = dot (fun d => x (ix2 r d)) (fun d => w (ix3 0 d k)) := by
  unfold k0_pay4 k0_pay3 dot
  pointwise

theorem pay26_at (k : Fin 256) : k0_pay26 x w (ix2 r k) = dot (fun d => x (ix2 r d)) (fun d => w (ix3 0 d k)) := by
  unfold k0_pay26 dot
  pointwise

theorem pay27_at (k : Fin 256) : k0_pay27 x w (ix2 k r) = dot (fun d => x (ix2 r d)) (fun d => w (ix3 0 d k)) := by
  unfold k0_pay27 k0_pay26 dot
  pointwise

theorem pay28_at (k : Fin 256) : k0_pay28 x w (ix2 r k) = dot (fun d => x (ix2 r d)) (fun d => w (ix3 0 d k)) := by
  unfold k0_pay28 dot
  pointwise

theorem pay60_at (k : Fin 128) : k0_pay60 x w' (ix2 r k) = dot (fun d => x (ix2 r d)) (fun d => w' (ix3 0 d k)) := by
  unfold k0_pay60 dot
  pointwise

theorem pay61_at (k : Fin 128) : k0_pay61 x w' (ix2 k r) = dot (fun d => x (ix2 r d)) (fun d => w' (ix3 0 d k)) := by
  unfold k0_pay61 k0_pay60 dot
  pointwise

/-- The normed values of the spatial gate. -/
theorem pay29_at (g : Vec Ideal S1x1x256 .f32) (k : Fin 256) : k0_pay29 x w g (ix2 r k)
    = scaled (fun k => dot (fun d => x (ix2 r d)) (fun d => w (ix3 0 d k))) (fun k => g (ix3 0 0 k)) k := by
  unfold k0_pay29 scaled dot
  pointwise
end

/-- Floor division of a column number by 64, in words. -/
theorem group_word (k : Fin 256) : k0_pay31 (ix2 0 k) = BitVec.ofNat 32 (k.val / 64) := by
  unfold k0_pay31
  pointwise
  revert k
  decide +kernel

section
variable (u s : FVec Ideal S512x256 .f32) (b : Vec Ideal S1x128x256 .f32) (w0 w1 w2 w3 : Vec Ideal S1x1x128x128 .bf16) (i : Fin 128) (k : Fin 256)

/-- The mix of a chunk by the weights of the column's group. -/
def chunk (o : ℕ) (ho : o ≤ 384) : EReal :=
  gated (u (ix2 ⟨o + i.val, by omega⟩ k)) (b (ix3 0 i k)) (fun l => (![w0, w1, w2, w3] ⟨k.val / 64, by omega⟩) (ix4 0 0 i l))
    (fun l => s (ix2 ⟨o + l.val, by omega⟩ k))

/-- The sum of the four choices is the column's mix. -/
theorem chosen (o : ℕ) (ho : o ≤ 384) (a : EReal) (ha : a = u (ix2 ⟨o + i.val, by omega⟩ k)) (s' : Fin 128 → EReal) (hs : ∀ l, s' l = s (ix2 ⟨o + l.val, by omega⟩ k)) :
    a * (b (ix3 0 i k) + Scalar.select (IntOp.cmpi CmpIPredicate.eq (BitVec.ofNat 32 (k.val / 64)) 0#32) (∑ l, w0 (ix4 0 0 i l) * s' l) 0
      + Scalar.select (IntOp.cmpi CmpIPredicate.eq (BitVec.ofNat 32 (k.val / 64)) 1#32) (∑ l, w1 (ix4 0 0 i l) * s' l) 0
      + Scalar.select (IntOp.cmpi CmpIPredicate.eq (BitVec.ofNat 32 (k.val / 64)) 2#32) (∑ l, w2 (ix4 0 0 i l) * s' l) 0
      + Scalar.select (IntOp.cmpi CmpIPredicate.eq (BitVec.ofNat 32 (k.val / 64)) 3#32) (∑ l, w3 (ix4 0 0 i l) * s' l) 0)
      = chunk u s b w0 w1 w2 w3 i k o ho := by
  have hp := pick (b (ix3 0 i k)) (fun n => ∑ l, (![w0, w1, w2, w3] n) (ix4 0 0 i l) * s' l) k
  refine congrArg₂ (· * ·) ha (Eq.trans hp ?_)
  exact congrArg (· + b (ix3 0 i k)) (Finset.sum_congr rfl fun l _ => (mul_comm _ _).trans (congrArg (· * _) (hs l)))

/-- The four chunks of a tile. -/
theorem pay35_at : k0_pay35 u k0_pay31 (k0_pay32 s) (k0_pay33 s b w0) k0_pay34 w1 w2 w3 (ix2 i k) = chunk u s b w0 w1 w2 w3 i k 0 (by omega) := by
  refine Eq.trans ?_ (chosen u s b w0 w1 w2 w3 i k 0 (by omega) (u (ix2 ⟨i.val, by omega⟩ k)) (by simp only [Nat.zero_add]) (fun l => s (ix2 ⟨l.val, by omega⟩ k)) (fun l => by simp only [Nat.zero_add]))
  unfold k0_pay35 k0_pay33 k0_pay34 k0_pay32 k0_pay30
  pointwise
  simp only [group_word]

theorem pay41_at : k0_pay41 u (k0_pay36 (k0_pay30 s)) (k0_pay38 k0_pay31 (k0_pay36 (k0_pay30 s)) (k0_pay37 b) w0 w1 w2) (k0_pay39 k0_pay31) (k0_pay40 w3) (ix2 i k)
    = chunk u s b w0 w1 w2 w3 i k 128 (by omega) := by
  refine Eq.trans ?_ (chosen u s b w0 w1 w2 w3 i k 128 (by omega) _ rfl _ (fun l => rfl))
  unfold k0_pay41 k0_pay38 k0_pay39 k0_pay40 k0_pay37 k0_pay36 k0_pay30
  pointwise
  simp only [group_word]

theorem pay45_at : k0_pay45 u k0_pay31 (k0_pay42 (k0_pay30 s)) (k0_pay43 (k0_pay30 s) k0_pay31 b w0 w1) (k0_pay44 k0_pay31) w2 w3 (ix2 i k)
    = chunk u s b w0 w1 w2 w3 i k 256 (by omega) := by
  refine Eq.trans ?_ (chosen u s b w0 w1 w2 w3 i k 256 (by omega) _ rfl _ (fun l => rfl))
  unfold k0_pay45 k0_pay43 k0_pay44 k0_pay42 k0_pay30
  pointwise
  simp only [group_word]

theorem pay48_at : k0_pay48 u k0_pay31 (k0_pay46 (k0_pay30 s)) (k0_pay47 (k0_pay30 s) k0_pay31 b w0) 1#32 w1 w2 w3 (ix2 i k)
    = chunk u s b w0 w1 w2 w3 i k 384 (by omega) := by
  refine Eq.trans ?_ (chosen u s b w0 w1 w2 w3 i k 384 (by omega) _ rfl _ (fun l => rfl))
  unfold k0_pay48 k0_pay47 k0_pay46 k0_pay30
  pointwise
  simp only [group_word]
end

end Cert.Kernel3Ideal.Value
end
-- ==== Proof.InValue.lean ====
/-
  The in-projection call's result arrays: what a step leaves in its blocks, read at one token.
-/
module

public import proofs.«01_k».proof.Proof.InBlk
public import proofs.«01_k».proof.Proof.InPay
public import proofs.«01_k».proof.Proof.MergeValue

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Inproj
open Cert.Kernel2Ideal.Value (at2 at3 at4)

section
variable (m : (ℓ : Loc nD τ sig) → Buf (Elt Ideal) ℓ) (c : Dev nD)

/-! The rows of numbers a token's results are taken of. -/

def hRow (R : Fin 16384) (d : Fin 1024) : EReal := m (c, Proc.tc.devRef main_arg0) (ix2 R d)
def modAt (R : Fin 16384) (d : Fin 6144) : EReal :=
  m (c, Proc.tc.devRef main_arg1) (ix3 0 ⟨modRow (R.val / 512), modRow_lt _ (by omega)⟩ d)
def xRow (R : Fin 16384) : Fin 1024 → EReal :=
  KernelIdeal.Value.norm (hRow m c R) (fun d => m (c, Proc.tc.devRef main_arg2) (ix2 0 d)) (fun d => modAt m c R ⟨1024 + d.val, by omega⟩)
    (fun d => modAt m c R ⟨d.val, by omega⟩)
def wAt (j : Fin 6928) (d : Fin 1024) : EReal := m (c, Proc.tc.devRef main_arg3) (ix3 0 d j)

/-- A column of a token's in-projection. -/
def proj (R : Fin 16384) (j : Fin 6928) : EReal := dot (xRow m c R) (wAt m c j)

/-- The column a given number of places further on. -/
def col (o n : ℕ) (h : o + n ≤ 6928) (R : Fin 16384) (k : Fin n) : EReal := proj m c R ⟨o + k.val, by omega⟩

/-- A token's normed values of the spatial gate. -/
def sAt (R : Fin 16384) : Fin 256 → EReal :=
  scaled (fun k => proj m c R ⟨2064 + k.val, by omega⟩) (fun k => m (c, Proc.tc.devRef main_arg4) (ix2 0 k))

/-- A token's column of the gated branch. -/
def ocAt (R : Fin 16384) (k : Fin 256) : EReal :=
  gated (proj m c R ⟨1808 + k.val, by omega⟩) (m (c, Proc.tc.devRef main_arg6) (ix3 0 ⟨k.val / 64, by omega⟩ ⟨R.val % 128, by omega⟩))
    (fun l => m (c, Proc.tc.devRef main_arg5) (ix4 0 ⟨k.val / 64, by omega⟩ ⟨R.val % 128, by omega⟩ l))
    (fun l => sAt m c ⟨R.val / 128 * 128 + l.val, by omega⟩ k)

variable (t : Fin cfg0.N)

/-- A token of the step's tile. -/
def tok (r : Fin 512) : Fin 16384 := ⟨512 * t.val + r.val, by have := tile_lt t; omega⟩

theorem tok_div (r : Fin 512) : (tok t r).val / 512 = t.val := by
  show (512 * t.val + r.val) / 512 = t.val
  omega

theorem ld_h (r : Fin 512) (d : Fin 1024) : View.ld (iblk m c 0 t) r0_0 (ix2 r d) = hRow m c (tok t r) d :=
  (congrArg (iblk m c 0 t) (at2 _ r d r d (Nat.zero_add _).symm (Nat.zero_add _).symm)).trans (blk0 m c t r d)

theorem ld_n (d : Fin 1024) : View.ld (iblk m c 2 t) r0_1 (ix3 0 0 d) = m (c, Proc.tc.devRef main_arg2) (ix2 0 d) :=
  (congrArg (iblk m c 2 t) (at3 _ 0 0 d 0 0 d rfl rfl (Nat.zero_add _).symm)).trans (blk2 m c t d)

theorem ld_mod (r : Fin 512) (o : ℕ) (d : Fin 1024) (h : o + d.val < 6144) (hb) :
    View.ld (iblk m c 1 t) (Rect.unit (s := S1x1x1x6144) ![0, 0, 0, o] S1x1x1x1024.size hb) (ix4 0 0 0 d) = modAt m c (tok t r) ⟨o + d.val, h⟩ := by
  refine (congrArg (iblk m c 1 t) (at4 hb 0 0 0 d 0 0 0 ⟨o + d.val, h⟩ rfl rfl rfl rfl)).trans ((blk1 m c t _).trans ?_)
  unfold modAt
  simp only [tok_div]

/-- The step's modulated norm is its tokens' one. -/
theorem x_at (r : Fin 512) (d : Fin 1024) :
    k0_pay1 (View.ld (iblk m c 0 t) r0_0) (View.ld (iblk m c 2 t) r0_1) (View.ld (iblk m c 1 t) r0_2) (View.ld (iblk m c 1 t) r0_3) (ix2 r d) = xRow m c (tok t r) d := by
  rw [pay1_at]
  have h0 : (fun d => View.ld (iblk m c 0 t) r0_0 (ix2 r d)) = hRow m c (tok t r) := funext fun d => ld_h m c t r d
  have h1 : (fun d => View.ld (iblk m c 2 t) r0_1 (ix3 0 0 d)) = fun d => m (c, Proc.tc.devRef main_arg2) (ix2 0 d) := funext fun d => ld_n m c t d
  have h2 : (fun d : Fin 1024 => View.ld (iblk m c 1 t) r0_2 (ix4 0 0 0 d)) = fun d => modAt m c (tok t r) ⟨1024 + d.val, by omega⟩ :=
    funext fun d => ld_mod m c t r 1024 d (by omega) _
  have h3 : (fun d : Fin 1024 => View.ld (iblk m c 1 t) r0_3 (ix4 0 0 0 d)) = fun d => modAt m c (tok t r) ⟨d.val, by omega⟩ :=
    funext fun d => (ld_mod m c t r 0 d (by omega) _).trans (congrArg (modAt m c (tok t r)) (Fin.ext (Nat.zero_add d.val)))
  rw [h0, h1, h2, h3]
  rfl

/-- A part of the weights' columns, read where the in-projection has them. -/
theorem ld_w (o n : ℕ) (k : Fin n) (hl : o + k.val < 2944) (ho : o + k.val < 1024 ∨ (1152 ≤ o + k.val ∧ o + k.val < 2432) ∨ 2688 ≤ o + k.val)
    (hb) (j : Fin 6928) (hj : j.val = source (o + k.val)) (d : Fin 1024) :
    View.ld (iblk m c 3 t) (Rect.unit (s := S1x1024x2944) ![0, 0, o] ![1, 1024, n] hb) (ix3 0 d k) = wAt m c j d :=
  (congrArg (iblk m c 3 t) (at3 hb 0 d k 0 d ⟨o + k.val, hl⟩ rfl (Nat.zero_add _).symm rfl)).trans (blk3 m c t d _ ho j hj)

/-- A projection by a part of the weights is the in-projection's column. -/
theorem dot_at (r : Fin 512) (o n : ℕ) (k : Fin n) (hl : o + k.val < 2944) (ho : o + k.val < 1024 ∨ (1152 ≤ o + k.val ∧ o + k.val < 2432) ∨ 2688 ≤ o + k.val)
    (hb) (j : Fin 6928) (hj : j.val = source (o + k.val)) :
    dot (fun d => k0_pay1 (View.ld (iblk m c 0 t) r0_0) (View.ld (iblk m c 2 t) r0_1) (View.ld (iblk m c 1 t) r0_2) (View.ld (iblk m c 1 t) r0_3) (ix2 r d))
      (fun d => View.ld (iblk m c 3 t) (Rect.unit (s := S1x1024x2944) ![0, 0, o] ![1, 1024, n] hb) (ix3 0 d k)) = proj m c (tok t r) j :=
  Finset.sum_congr rfl fun d _ => congrArg₂ (· * ·) (x_at m c t r d) (ld_w m c t o n k hl ho hb j hj d)

/-! What a step leaves in its blocks is its tokens' projections. -/

theorem out11_at (r : Fin 512) (k : Fin 768) : (dats m 0 c).after 11 t (ix2 r k) = proj m c (tok t r) ⟨0 + k.val, by omega⟩ := by
  rw [after0_11]
  unfold out0_11
  have he : r0_5.emb (ix2 r k) = ix2 r k := at2 _ r k r k (Nat.zero_add _).symm (Nat.zero_add _).symm
  refine Eq.trans (congrArg _ he.symm) ((View.canon_cons_emb _ _ _ _).trans ?_)
  refine (pay2_at r _ _ _ _ _ k).trans ?_
  exact dot_at m c t r 0 768 k (by omega) (by omega) _ _ (by unfold source; dsimp only; split_ifs <;> omega)

theorem out12_at (r : Fin 512) (k : Fin 256) : (dats m 0 c).after 12 t (ix2 r k) = proj m c (tok t r) ⟨768 + k.val, by omega⟩ := by
  rw [after0_12]
  unfold out0_12 k0_pay62
  have he : r0_7.emb (ix2 r k) = ix2 r k := at2 _ r k r k (Nat.zero_add _).symm (Nat.zero_add _).symm
  refine Eq.trans (congrArg _ he.symm) ((View.canon_cons_emb _ _ _ _).trans ?_)
  refine (pay4_at _ _ _ _).trans ?_
  exact dot_at m c t r 768 256 k (by omega) (by omega) _ _ (by unfold source; dsimp only; split_ifs <;> omega)

theorem out16_at (r : Fin 512) (k : Fin 256) : (dats m 0 c).after 16 t (ix2 r k) = proj m c (tok t r) ⟨1552 + k.val, by omega⟩ := by
  rw [after0_16]
  unfold out0_16 k0_pay62
  have he : r0_7.emb (ix2 r k) = ix2 r k := at2 _ r k r k (Nat.zero_add _).symm (Nat.zero_add _).symm
  refine Eq.trans (congrArg _ he.symm) ((View.canon_cons_emb _ _ _ _).trans ?_)
  refine (pay26_at _ _ _ _).trans ?_
  exact dot_at m c t r 1664 256 k (by omega) (by omega) _ _ (by unfold source; dsimp only; split_ifs <;> omega)

theorem out18_at (r : Fin 512) (k : Fin 256) : (dats m 0 c).after 18 t (ix2 k r) = proj m c (tok t r) ⟨1552 + k.val, by omega⟩ := by
  rw [after0_18]
  unfold out0_18 k0_pay62
  have he : r0_24.emb (ix2 k r) = ix2 k r := at2 _ k r k r (Nat.zero_add _).symm (Nat.zero_add _).symm
  refine Eq.trans (congrArg _ he.symm) ((View.canon_cons_emb _ _ _ _).trans ?_)
  refine (pay27_at _ _ _ _).trans ?_
  exact dot_at m c t r 1664 256 k (by omega) (by omega) _ _ (by unfold source; dsimp only; split_ifs <;> omega)

theorem out22_at (r : Fin 512) (k : Fin 128) : (dats m 0 c).after 22 t (ix2 r k) = proj m c (tok t r) ⟨2704 + k.val, by omega⟩ := by
  rw [after0_22]
  unfold out0_22 k0_pay62
  have he : r0_9.emb (ix2 r k) = ix2 r k := at2 _ r k r k (Nat.zero_add _).symm (Nat.zero_add _).symm
  refine Eq.trans (congrArg _ he.symm) ((View.canon_cons_emb _ _ _ _).trans ?_)
  refine (pay60_at _ _ _ _).trans ?_
  exact dot_at m c t r 2816 128 k (by omega) (by omega) _ _ (by unfold source; dsimp only; split_ifs <;> omega)

theorem out24_at (r : Fin 512) (k : Fin 128) : (dats m 0 c).after 24 t (ix2 k r) = proj m c (tok t r) ⟨2704 + k.val, by omega⟩ := by
  rw [after0_24]
  unfold out0_24 k0_pay62
  have he : r0_42.emb (ix2 k r) = ix2 k r := at2 _ k r k r (Nat.zero_add _).symm (Nat.zero_add _).symm
  refine Eq.trans (congrArg _ he.symm) ((View.canon_cons_emb _ _ _ _).trans ?_)
  refine (pay61_at _ _ _ _).trans ?_
  exact dot_at m c t r 2816 128 k (by omega) (by omega) _ _ (by unfold source; dsimp only; split_ifs <;> omega)

/-- The step's half of the gated branch that is not normed, and the other half, normed. -/
theorem u_at (r : Fin 512) (k : Fin 256) :
    k0_pay28 (k0_pay1 (View.ld (iblk m c 0 t) r0_0) (View.ld (iblk m c 2 t) r0_1) (View.ld (iblk m c 1 t) r0_2) (View.ld (iblk m c 1 t) r0_3)) (View.ld (iblk m c 3 t) r0_25) (ix2 r k)
      = proj m c (tok t r) ⟨1808 + k.val, by omega⟩ :=
  (pay28_at _ _ _ _).trans (dot_at m c t r 1920 256 k (by omega) (by omega) _ _ (by unfold source; dsimp only; split_ifs <;> omega))

theorem ld_sn (k : Fin 256) : View.ld (iblk m c 6 t) r0_27 (ix3 0 0 k) = m (c, Proc.tc.devRef main_arg4) (ix2 0 k) :=
  (congrArg (iblk m c 6 t) (at3 _ 0 0 k 0 0 k rfl rfl (Nat.zero_add _).symm)).trans (blk6 m c t k)

theorem s_at (r : Fin 512) (k : Fin 256) :
    k0_pay29 (k0_pay1 (View.ld (iblk m c 0 t) r0_0) (View.ld (iblk m c 2 t) r0_1) (View.ld (iblk m c 1 t) r0_2) (View.ld (iblk m c 1 t) r0_3)) (View.ld (iblk m c 3 t) r0_26)
      (View.ld (iblk m c 6 t) r0_27) (ix2 r k) = sAt m c (tok t r) k := by
  refine (pay29_at _ _ _ _ _).trans ?_
  have h0 : (fun k => dot (fun d => k0_pay1 (View.ld (iblk m c 0 t) r0_0) (View.ld (iblk m c 2 t) r0_1) (View.ld (iblk m c 1 t) r0_2) (View.ld (iblk m c 1 t) r0_3) (ix2 r d))
      (fun d => View.ld (iblk m c 3 t) r0_26 (ix3 0 d k))) = fun k : Fin 256 => proj m c (tok t r) ⟨2064 + k.val, by omega⟩ :=
    funext fun k => dot_at m c t r 2176 256 k (by omega) (by omega) _ _ (by unfold source; dsimp only; split_ifs <;> omega)
  have h1 : (fun k => View.ld (iblk m c 6 t) r0_27 (ix3 0 0 k)) = fun k => m (c, Proc.tc.devRef main_arg4) (ix2 0 k) := funext fun k => ld_sn m c t k
  rw [h0, h1]
  rfl

theorem ld_ws (n : Fin 4) (o : ℕ) (ho : n.val = o) (hb) (i l : Fin 128) :
    View.ld (iblk m c 7 t) (Rect.unit (s := S1x4x128x128) ![0, o, 0, 0] S1x1x128x128.size hb) (ix4 0 0 i l) = m (c, Proc.tc.devRef main_arg5) (ix4 0 n i l) :=
  (congrArg (iblk m c 7 t) (at4 hb 0 0 i l 0 n i l rfl ho (Nat.zero_add _).symm (Nat.zero_add _).symm)).trans (blk7 m c t n i l)

theorem ld_b (i : Fin 128) (k : Fin 256) : View.ld (iblk m c 8 t) r0_28 (ix3 0 i k) = m (c, Proc.tc.devRef main_arg6) (ix3 0 ⟨k.val / 64, by omega⟩ i) :=
  (congrArg (iblk m c 8 t) (at3 _ 0 i k 0 i k rfl (Nat.zero_add _).symm (Nat.zero_add _).symm)).trans (blk8 m c t i k)

/-- A chunk's mix, its operands' entries given. -/
theorem chunk_eq (u s : FVec Ideal S512x256 .f32) (b : Vec Ideal S1x128x256 .f32) (w0 w1 w2 w3 : Vec Ideal S1x1x128x128 .bf16) (i : Fin 128) (k : Fin 256) (o : ℕ) (ho : o ≤ 384)
    (U B : EReal) (W : Fin 4 → Fin 128 → EReal) (S : Fin 128 → EReal) (hu : u (ix2 ⟨o + i.val, by omega⟩ k) = U) (hb : b (ix3 0 i k) = B)
    (h0 : ∀ l, w0 (ix4 0 0 i l) = W 0 l) (h1 : ∀ l, w1 (ix4 0 0 i l) = W 1 l) (h2 : ∀ l, w2 (ix4 0 0 i l) = W 2 l) (h3 : ∀ l, w3 (ix4 0 0 i l) = W 3 l)
    (hs : ∀ l : Fin 128, s (ix2 ⟨o + l.val, by omega⟩ k) = S l) :
    chunk u s b w0 w1 w2 w3 i k o ho = gated U B (W ⟨k.val / 64, by omega⟩) S := by
  have hn : ∀ (n : Fin 4) l, (![w0, w1, w2, w3] n) (ix4 0 0 i l) = W n l := fun n l => by
    match n with
    | ⟨0, _⟩ => exact h0 l
    | ⟨1, _⟩ => exact h1 l
    | ⟨2, _⟩ => exact h2 l
    | ⟨3, _⟩ => exact h3 l
  unfold chunk
  rw [hu, hb]
  exact congrArg₂ (gated U B) (funext fun l => hn _ l) (funext hs)

/-- A chunk's mix on the step's values is the gated branch of the chunk's tokens. -/
theorem chunk_at (i : Fin 128) (k : Fin 256) (o : ℕ) (ho : o ≤ 384) (hd : 128 ∣ o) (r : Fin 512) (hr : r.val = o + i.val) :
    chunk (k0_pay28 (k0_pay1 (View.ld (iblk m c 0 t) r0_0) (View.ld (iblk m c 2 t) r0_1) (View.ld (iblk m c 1 t) r0_2) (View.ld (iblk m c 1 t) r0_3)) (View.ld (iblk m c 3 t) r0_25))
      (k0_pay29 (k0_pay1 (View.ld (iblk m c 0 t) r0_0) (View.ld (iblk m c 2 t) r0_1) (View.ld (iblk m c 1 t) r0_2) (View.ld (iblk m c 1 t) r0_3)) (View.ld (iblk m c 3 t) r0_26)
        (View.ld (iblk m c 6 t) r0_27)) (View.ld (iblk m c 8 t) r0_28) (View.ld (iblk m c 7 t) r0_29) (View.ld (iblk m c 7 t) r0_30)
      (View.ld (iblk m c 7 t) r0_31) (View.ld (iblk m c 7 t) r0_32) i k o ho = ocAt m c (tok t r) k := by
  obtain ⟨r, hlt⟩ := r
  obtain rfl : r = o + i.val := hr
  have hi : (⟨(tok t ⟨o + i.val, by omega⟩).val % 128, by omega⟩ : Fin 128) = i := Fin.ext (by
    show (512 * t.val + (o + i.val)) % 128 = i.val
    omega)
  have hc : ∀ l : Fin 128, (⟨(tok t ⟨o + i.val, by omega⟩).val / 128 * 128 + l.val, by omega⟩ : Fin 16384) = tok t ⟨o + l.val, by omega⟩ := fun l => Fin.ext (by
    show (512 * t.val + (o + i.val)) / 128 * 128 + l.val = 512 * t.val + (o + l.val)
    omega)
  refine (chunk_eq _ _ _ _ _ _ _ i k o ho _ _ (fun n l => m (c, Proc.tc.devRef main_arg5) (ix4 0 n i l)) (fun l => sAt m c (tok t ⟨o + l.val, by omega⟩) k)
    (u_at m c t _ k) (ld_b m c t i k) (fun l => ld_ws m c t 0 0 rfl _ i l) (fun l => ld_ws m c t 1 1 rfl _ i l) (fun l => ld_ws m c t 2 2 rfl _ i l)
    (fun l => ld_ws m c t 3 3 rfl _ i l) (fun l => s_at m c t _ k)).trans ?_
  unfold ocAt
  simp only [hi, hc]

/-- What a step leaves in its block of the gated branch. -/
theorem out19_at (r : Fin 512) (k : Fin 256) : (dats m 0 c).after 19 t (ix2 r k) = ocAt m c (tok t r) k := by
  rw [after0_19]
  unfold out0_19 k0_pay76 k0_pay75 k0_pay74 k0_pay73 k0_pay72 k0_pay62
  refine View.canon_apply_of_pieces (Val := Elt Ideal) (fun y : S512x256.Idx => ocAt m c (tok t (y 0)) (y 1)) _ ?_ (ix2 r k) (cover0_19 _ _ _ _ _)
  have hx : ∀ x : S128x256.Idx, ∃ (i : Fin 128) (k : Fin 256), x = ix2 i k := fun x => ⟨x 0, x 1, by funext a; fin_cases a <;> rfl⟩
  intro p hp
  simp only [List.mem_cons, List.mem_nil_iff, or_false] at hp
  rcases hp with rfl | rfl | rfl | rfl
  · intro x
    obtain ⟨i, k, rfl⟩ := hx x
    have he : r0_36.emb (ix2 i k) = ix2 ⟨384 + i.val, by omega⟩ k := at2 _ i k _ k rfl (Nat.zero_add _).symm
    exact ((pay48_at _ _ _ _ _ _ _ i k).trans (chunk_at m c t i k 384 (by omega) (by omega) ⟨384 + i.val, by omega⟩ rfl)).trans (congrArg (fun y : S512x256.Idx => ocAt m c (tok t (y 0)) (y 1)) he).symm
  · intro x
    obtain ⟨i, k, rfl⟩ := hx x
    have he : r0_35.emb (ix2 i k) = ix2 ⟨256 + i.val, by omega⟩ k := at2 _ i k _ k rfl (Nat.zero_add _).symm
    exact ((pay45_at _ _ _ _ _ _ _ i k).trans (chunk_at m c t i k 256 (by omega) (by omega) ⟨256 + i.val, by omega⟩ rfl)).trans (congrArg (fun y : S512x256.Idx => ocAt m c (tok t (y 0)) (y 1)) he).symm
  · intro x
    obtain ⟨i, k, rfl⟩ := hx x
    have he : r0_34.emb (ix2 i k) = ix2 ⟨128 + i.val, by omega⟩ k := at2 _ i k _ k rfl (Nat.zero_add _).symm
    exact ((pay41_at _ _ _ _ _ _ _ i k).trans (chunk_at m c t i k 128 (by omega) (by omega) ⟨128 + i.val, by omega⟩ rfl)).trans (congrArg (fun y : S512x256.Idx => ocAt m c (tok t (y 0)) (y 1)) he).symm
  · intro x
    obtain ⟨i, k, rfl⟩ := hx x
    have he : r0_33.emb (ix2 i k) = ix2 ⟨i.val, by omega⟩ k := at2 _ i k _ k (Nat.zero_add _).symm (Nat.zero_add _).symm
    exact ((pay35_at _ _ _ _ _ _ _ i k).trans (chunk_at m c t i k 0 (by omega) (by omega) ⟨i.val, by omega⟩ (Nat.zero_add _).symm)).trans (congrArg (fun y : S512x256.Idx => ocAt m c (tok t (y 0)) (y 1)) he).symm
end

/-! The call's result arrays. -/

theorem kernel11_at (m : (ℓ : Loc nD τ sig) → Buf (Elt Ideal) ℓ) (c : Dev nD) :
    (dats m 0 c).arrAt 11 cfg0.N = fun i : S16384x768.Idx => col m c 0 768 (by omega) (i 0) (i 1) := by
  refine (dats m 0 c).arrAt_eq_of_covers 11 _ (by decide +kernel) fun t hf y => ?_
  obtain ⟨r, k, rfl⟩ : ∃ (r : Fin 512) (k : Fin 768), y = ix2 r k := ⟨y 0, y 1, by funext a; fin_cases a <;> rfl⟩
  have he : (win0_11.blk t).view.emb (ix2 r k) = (ix2 (tok t r) k : S16384x768.Idx) := by
    blk_ext [idx11 t, tok]
  have k2 : col m c 0 768 (by omega) (tok t r) k = (fun i : S16384x768.Idx => col m c 0 768 (by omega) (i 0) (i 1)) ((win0_11.blk t).view.emb (ix2 r k)) := by
    rw [he]
    rfl
  exact (out11_at m c t r k).trans k2

theorem kernel12_at (m : (ℓ : Loc nD τ sig) → Buf (Elt Ideal) ℓ) (c : Dev nD) :
    (dats m 0 c).arrAt 12 cfg0.N = fun i : S16384x256.Idx => col m c 768 256 (by omega) (i 0) (i 1) := by
  refine (dats m 0 c).arrAt_eq_of_covers 12 _ (by decide +kernel) fun t hf y => ?_
  obtain ⟨r, k, rfl⟩ : ∃ (r : Fin 512) (k : Fin 256), y = ix2 r k := ⟨y 0, y 1, by funext a; fin_cases a <;> rfl⟩
  have he : (win0_12.blk t).view.emb (ix2 r k) = (ix2 (tok t r) k : S16384x256.Idx) := by
    blk_ext [idx12 t, tok]
  have k2 : col m c 768 256 (by omega) (tok t r) k = (fun i : S16384x256.Idx => col m c 768 256 (by omega) (i 0) (i 1)) ((win0_12.blk t).view.emb (ix2 r k)) := by
    rw [he]
    rfl
  exact (out12_at m c t r k).trans k2

theorem kernel16_at (m : (ℓ : Loc nD τ sig) → Buf (Elt Ideal) ℓ) (c : Dev nD) :
    (dats m 0 c).arrAt 16 cfg0.N = fun i : S16384x256.Idx => col m c 1552 256 (by omega) (i 0) (i 1) := by
  refine (dats m 0 c).arrAt_eq_of_covers 16 _ (by decide +kernel) fun t hf y => ?_
  obtain ⟨r, k, rfl⟩ : ∃ (r : Fin 512) (k : Fin 256), y = ix2 r k := ⟨y 0, y 1, by funext a; fin_cases a <;> rfl⟩
  have he : (win0_16.blk t).view.emb (ix2 r k) = (ix2 (tok t r) k : S16384x256.Idx) := by
    blk_ext [idx16 t, tok]
  have k2 : col m c 1552 256 (by omega) (tok t r) k = (fun i : S16384x256.Idx => col m c 1552 256 (by omega) (i 0) (i 1)) ((win0_16.blk t).view.emb (ix2 r k)) := by
    rw [he]
    rfl
  exact (out16_at m c t r k).trans k2

theorem kernel18_at (m : (ℓ : Loc nD τ sig) → Buf (Elt Ideal) ℓ) (c : Dev nD) :
    (dats m 0 c).arrAt 18 cfg0.N = fun i : S256x16384.Idx => col m c 1552 256 (by omega) (i 1) (i 0) := by
  refine (dats m 0 c).arrAt_eq_of_covers 18 _ (by decide +kernel) fun t hf y => ?_
  obtain ⟨k, r, rfl⟩ : ∃ (k : Fin 256) (r : Fin 512), y = ix2 k r := ⟨y 0, y 1, by funext a; fin_cases a <;> rfl⟩
  have he : (win0_18.blk t).view.emb (ix2 k r) = (ix2 k (tok t r) : S256x16384.Idx) := by
    blk_ext [idx18 t, tok]
  have k2 : col m c 1552 256 (by omega) (tok t r) k = (fun i : S256x16384.Idx => col m c 1552 256 (by omega) (i 1) (i 0)) ((win0_18.blk t).view.emb (ix2 k r)) := by
    rw [he]
    rfl
  exact (out18_at m c t r k).trans k2

theorem kernel19_at (m : (ℓ : Loc nD τ sig) → Buf (Elt Ideal) ℓ) (c : Dev nD) :
    (dats m 0 c).arrAt 19 cfg0.N = fun i : S16384x256.Idx => ocAt m c (i 0) (i 1) := by
  refine (dats m 0 c).arrAt_eq_of_covers 19 _ (by decide +kernel) fun t hf y => ?_
  obtain ⟨r, k, rfl⟩ : ∃ (r : Fin 512) (k : Fin 256), y = ix2 r k := ⟨y 0, y 1, by funext a; fin_cases a <;> rfl⟩
  have he : (win0_19.blk t).view.emb (ix2 r k) = (ix2 (tok t r) k : S16384x256.Idx) := by
    blk_ext [idx19 t, tok]
  have k2 : ocAt m c (tok t r) k = (fun i : S16384x256.Idx => ocAt m c (i 0) (i 1)) ((win0_19.blk t).view.emb (ix2 r k)) := by
    rw [he]
    rfl
  exact (out19_at m c t r k).trans k2

theorem kernel22_at (m : (ℓ : Loc nD τ sig) → Buf (Elt Ideal) ℓ) (c : Dev nD) :
    (dats m 0 c).arrAt 22 cfg0.N = fun i : S16384x128.Idx => col m c 2704 128 (by omega) (i 0) (i 1) := by
  refine (dats m 0 c).arrAt_eq_of_covers 22 _ (by decide +kernel) fun t hf y => ?_
  obtain ⟨r, k, rfl⟩ : ∃ (r : Fin 512) (k : Fin 128), y = ix2 r k := ⟨y 0, y 1, by funext a; fin_cases a <;> rfl⟩
  have he : (win0_22.blk t).view.emb (ix2 r k) = (ix2 (tok t r) k : S16384x128.Idx) := by
    blk_ext [idx22 t, tok]
  have k2 : col m c 2704 128 (by omega) (tok t r) k = (fun i : S16384x128.Idx => col m c 2704 128 (by omega) (i 0) (i 1)) ((win0_22.blk t).view.emb (ix2 r k)) := by
    rw [he]
    rfl
  exact (out22_at m c t r k).trans k2

theorem kernel24_at (m : (ℓ : Loc nD τ sig) → Buf (Elt Ideal) ℓ) (c : Dev nD) :
    (dats m 0 c).arrAt 24 cfg0.N = fun i : S128x16384.Idx => col m c 2704 128 (by omega) (i 1) (i 0) := by
  refine (dats m 0 c).arrAt_eq_of_covers 24 _ (by decide +kernel) fun t hf y => ?_
  obtain ⟨k, r, rfl⟩ : ∃ (k : Fin 128) (r : Fin 512), y = ix2 k r := ⟨y 0, y 1, by funext a; fin_cases a <;> rfl⟩
  have he : (win0_24.blk t).view.emb (ix2 k r) = (ix2 k (tok t r) : S128x16384.Idx) := by
    blk_ext [idx24 t, tok]
  have k2 : col m c 2704 128 (by omega) (tok t r) k = (fun i : S128x16384.Idx => col m c 2704 128 (by omega) (i 1) (i 0)) ((win0_24.blk t).view.emb (ix2 k r)) := by
    rw [he]
    rfl
  exact (out24_at m c t r k).trans k2

end Cert.Kernel3Ideal.Value
end
-- ==== Proof.InRef.lean ====
/-
  The in-projection call's reference as its stages in order, and each stage read at one token.
-/
module

public import proofs.«01_k».proof.Proof.Gen.Reference3Ideal.Run
public import proofs.«01_k».proof.Proof.In
public import Idealize.ShloMosaic.Lib.Pointwise

@[expose] public section

set_option maxRecDepth 16384

noncomputable section

namespace Cert.Reference3Ideal.Value

open Cert.Reference3Ideal Cert.Reference3Ideal.Gen Idealize.ShloMosaic Idealize.ShloMosaic.TcCoe Idealize.SL.Sem
open Cert.Inproj

/-- The modulation of every token, row by row. -/
def refRows (arg1 : FVec Ideal S4x8x6144 .f32) : FVec Ideal S16384x6144 .f32 :=
  have v0 := extractStridedSlice S1x1x6144 ![0, 0, 0] arg1 slices_S4x8x6144_S1x1x6144_0_0_0
  have v1 := shapeCast S6144 v0 shapeCasts_S1x1x6144_S6144
  have v2 := (broadcastInDim S8192x6144 ![1] bcast_S6144_S8192x6144_1) v1
  have v3 := extractStridedSlice S1x1x6144 ![0, 1, 0] arg1 slices_S4x8x6144_S1x1x6144_0_1_0
  have v4 := shapeCast S6144 v3 shapeCasts_S1x1x6144_S6144
  have v5 := (broadcastInDim S4096x6144 ![1] bcast_S6144_S4096x6144_1) v4
  have v6 := extractStridedSlice S1x1x6144 ![0, 2, 0] arg1 slices_S4x8x6144_S1x1x6144_0_2_0
  have v7 := shapeCast S6144 v6 shapeCasts_S1x1x6144_S6144
  have v8 := (broadcastInDim S4096x6144 ![1] bcast_S6144_S4096x6144_1) v7
  fn_main_v9 (F := Ideal) v2 v5 v8

/-- The modulated norm of every token. -/
def refXm (arg0 : FVec Ideal S16384x1024 .f32) (v9 : FVec Ideal S16384x6144 .f32) (arg2 : FVec Ideal S4x1024 .f32) : FVec Ideal S16384x1024 .f32 :=
  have v18 := mulf arg0 arg0
  have cst := (constant S_ .f32 0x00000000#32)
  have v19 := Host.reduceAdd v18 cst reducesTo_S16384x1024_S16384_d1 h_S_
  have v20 := (broadcastInDim S16384x1 ![0] bcast_S16384_S16384x1_0) v19
  have cst_0 := (constant S_ .f32 0x44800000#32)
  have v21 := (broadcastInDim S16384x1 ![] bcast_S_S16384x1) cst_0
  have v22 := Host.divf v20 v21
  have cst_1 := (constant S_ .f32 0x358637BD#32)
  have v23 := (broadcastInDim S16384x1 ![] bcast_S_S16384x1) cst_1
  have v24 := addf v22 v23
  have v25 := Host.rsqrt v24
  have v26 := (broadcastInDim S16384x1024 ![0, 1] bcast_S16384x1_S16384x1024_0_1) v25
  have v27 := mulf arg0 v26
  have v16 := extractStridedSlice S1x1024 ![0, 0] arg2 slices_S4x1024_S1x1024_0_0
  have v17 := shapeCast S1024 v16 shapeCasts_S1x1024_S1024
  have v28 := (broadcastInDim S1x1024 ![1] bcast_S1024_S1x1024_1) v17
  have v29 := (broadcastInDim S16384x1024 ![0, 1] bcast_S1x1024_S16384x1024_0_1) v28
  have v30 := mulf v27 v29
  have cst_2 := (constant S_ .f32 0x3F800000#32)
  have v31 := (broadcastInDim S16384x1024 ![] bcast_S_S16384x1024) cst_2
  have v11 := extractStridedSlice S16384x1024 ![0, 1024] v9 slices_S16384x6144_S16384x1024_0_1024
  have v32 := addf v31 v11
  have v33 := mulf v30 v32
  have v10 := extractStridedSlice S16384x1024 ![0, 0] v9 slices_S16384x6144_S16384x1024_0_0
  addf v33 v10

/-- The in-projection of every token. -/
def refIn (v34 : FVec Ideal S16384x1024 .f32) (arg3 : FVec Ideal S4x1024x6928 .f32) : FVec Ideal S16384x6928 .f32 :=
  have v35 := extractStridedSlice S1x1024x6928 ![0, 0, 0] arg3 slices_S4x1024x6928_S1x1024x6928_0_0_0
  have v36 := shapeCast S1024x6928 v35 shapeCasts_S1x1024x6928_S1024x6928
  Host.dotGeneral dot_S16384x1024_S1024x6928_S16384x6928_1_0_0_1_n_n none v34 v36

/-- The normed values of the spatial gate. -/
def refSv (v37 : FVec Ideal S16384x6928 .f32) (arg4 : FVec Ideal S4x256 .f32) : FVec Ideal S16384x256 .f32 :=
  have v46 := extractStridedSlice S16384x256 ![0, 2064] v37 slices_S16384x6928_S16384x256_0_2064
  have v53 := mulf v46 v46
  have cst_3 := (constant S_ .f32 0x00000000#32)
  have v54 := Host.reduceAdd v53 cst_3 reducesTo_S16384x256_S16384_d1 h_S_
  have v55 := (broadcastInDim S16384x1 ![0] bcast_S16384_S16384x1_0) v54
  have cst_4 := (constant S_ .f32 0x43800000#32)
  have v56 := (broadcastInDim S16384x1 ![] bcast_S_S16384x1) cst_4
  have v57 := Host.divf v55 v56
  have cst_5 := (constant S_ .f32 0x358637BD#32)
  have v58 := (broadcastInDim S16384x1 ![] bcast_S_S16384x1) cst_5
  have v59 := addf v57 v58
  have v60 := Host.rsqrt v59
  have v61 := (broadcastInDim S16384x256 ![0, 1] bcast_S16384x1_S16384x256_0_1) v60
  have v62 := mulf v46 v61
  have v51 := extractStridedSlice S1x256 ![0, 0] arg4 slices_S4x256_S1x256_0_0
  have v52 := shapeCast S256 v51 shapeCasts_S1x256_S256
  have v63 := (broadcastInDim S1x256 ![1] bcast_S256_S1x256_1) v52
  have v64 := (broadcastInDim S16384x256 ![0, 1] bcast_S1x256_S16384x256_0_1) v63
  mulf v62 v64

/-- The spatial gate's mix of the values of each chunk, the bias added, times the other half. -/
def refOc (v37 : FVec Ideal S16384x6928 .f32) (v65 : FVec Ideal S16384x256 .f32) (arg5 : FVec Ideal S4x4x128x128 .f32) (arg6 : FVec Ideal S4x4x128 .f32) : FVec Ideal S16384x256 .bf16 :=
  have v66 := shapeCast S128x128x4x64 v65 shapeCasts_S16384x256_S128x128x4x64
  have v67 := extractStridedSlice S1x4x128x128 ![0, 0, 0, 0] arg5 slices_S4x4x128x128_S1x4x128x128_0_0_0_0
  have v68 := shapeCast S4x128x128 v67 shapeCasts_S1x4x128x128_S4x128x128
  have v69 := Host.dotGeneral dot_S128x128x4x64_S4x128x128_S4x128x64x128_1_2_03_1_2_0 none v66 v68
  have v70 := transpose S128x128x4x64 [1, 3, 0, 2] v69 transposes_S4x128x64x128_S128x128x4x64_1_3_0_2
  have v71 := extractStridedSlice S1x4x128 ![0, 0, 0] arg6 slices_S4x4x128_S1x4x128_0_0_0
  have v72 := shapeCast S4x128 v71 shapeCasts_S1x4x128_S4x128
  have v73 := transpose S128x4 [1, 0] v72 transposes_S4x128_S128x4_1_0
  have v74 := (broadcastInDim S1x128x4x1 ![1, 2] bcast_S128x4_S1x128x4x1_1_2) v73
  have v75 := (broadcastInDim S128x128x4x64 ![0, 1, 2, 3] bcast_S1x128x4x1_S128x128x4x64_0_1_2_3) v74
  have v76 := addf v70 v75
  have v77 := shapeCast S16384x256 v76 shapeCasts_S128x128x4x64_S16384x256
  have v45 := extractStridedSlice S16384x256 ![0, 1808] v37 slices_S16384x6928_S16384x256_0_1808
  truncf .bf16 (mulf v45 v77) bitsLt_bf16_f32

section
variable (m : (ℓ : Loc nD τ sig) → Buf (Elt Ideal) ℓ) (c : Dev nD)

set_option maxHeartbeats 4000000 in
/-- The reference's gated result is its stages in order. -/
theorem res_stages (v9 : FVec Ideal S16384x6144 .f32) (h9 : v9 = refRows (m (c, Proc.tc.devRef main_arg1)))
    (v37 : FVec Ideal S16384x6928 .f32) (h37 : v37 = refIn (refXm (m (c, Proc.tc.devRef main_arg0)) v9 (m (c, Proc.tc.devRef main_arg2))) (m (c, Proc.tc.devRef main_arg3))) :
    Value.res_main_v81 m c = refOc v37 (refSv v37 (m (c, Proc.tc.devRef main_arg4))) (m (c, Proc.tc.devRef main_arg5)) (m (c, Proc.tc.devRef main_arg6)) := by
  subst h37
  subst h9
  rfl
end

/-- The modulation of a token is that of its document. -/
theorem rows_at (a : FVec Ideal S4x8x6144 .f32) (r : Fin 16384) (d : Fin 6144) (k : Fin 8)
    (hk : k.val = if r.val < 8192 then 0 else if r.val < 12288 then 1 else 2) : refRows a (ix2 r d) = a (ix3 0 k d) := by
  unfold refRows fn_main_v9
  pointwise
  split_ifs with h1 h2
  · rw [if_pos h1] at hk
    exact congrArg a (congrArg (fun z => ix3 0 z d) (Fin.ext hk.symm))
  · rw [if_neg h1, if_pos (by omega)] at hk
    exact congrArg a (congrArg (fun z => ix3 0 z d) (Fin.ext hk.symm))
  · rw [if_neg h1, if_neg (by omega)] at hk
    exact congrArg a (congrArg (fun z => ix3 0 z d) (Fin.ext hk.symm))

/-- The modulated norm of a token. -/
theorem xm_at (a : FVec Ideal S16384x1024 .f32) (b : FVec Ideal S16384x6144 .f32) (g : FVec Ideal S4x1024 .f32) (r : Fin 16384) (d : Fin 1024) :
    refXm a b g (ix2 r d) = KernelIdeal.Value.norm (fun d => a (ix2 r d)) (fun d => g (ix2 0 d)) (fun d => b (ix2 r ⟨1024 + d.val, by omega⟩))
      (fun d => b (ix2 r ⟨d.val, by omega⟩)) d := by
  unfold refXm
  pointwise
  rfl

/-- A column of a token's in-projection. -/
theorem in_at (x : FVec Ideal S16384x1024 .f32) (w : FVec Ideal S4x1024x6928 .f32) (r : Fin 16384) (k : Fin 6928) :
    refIn x w (ix2 r k) = dot (fun d => x (ix2 r d)) (fun d => w (ix3 0 d k)) := by
  unfold refIn dot
  pointwise

/-- The normed values of a token. -/
theorem sv_at (p : FVec Ideal S16384x6928 .f32) (g : FVec Ideal S4x256 .f32) (r : Fin 16384) (k : Fin 256) :
    refSv p g (ix2 r k) = scaled (fun k => p (ix2 r ⟨2064 + k.val, by omega⟩)) (fun k => g (ix2 0 k)) k := by
  unfold refSv scaled
  pointwise

/-- A token's column of the gated branch. -/
theorem oc_at (p : FVec Ideal S16384x6928 .f32) (s : FVec Ideal S16384x256 .f32) (w : FVec Ideal S4x4x128x128 .f32) (b : FVec Ideal S4x4x128 .f32) (r : Fin 16384) (k : Fin 256) :
    refOc p s w b (ix2 r k) = gated (p (ix2 r ⟨1808 + k.val, by omega⟩)) (b (ix3 0 ⟨k.val / 64, by omega⟩ ⟨r.val % 128, by omega⟩))
      (fun l => w (ix4 0 ⟨k.val / 64, by omega⟩ ⟨r.val % 128, by omega⟩ l)) (fun l => s (ix2 ⟨r.val / 128 * 128 + l.val, by omega⟩ k)) := by
  unfold refOc gated
  pointwise

end Cert.Reference3Ideal.Value
end
-- ==== Proof.InEqual.lean ====
/-
  The in-projection call and its reference agree: a token's results are the same formulas of the arguments in both.
-/
module

public import proofs.«01_k».proof.Proof.InValue
public import proofs.«01_k».proof.Proof.InRef

@[expose] public section

set_option maxRecDepth 16384

noncomputable section

namespace Cert.Inproj

open Idealize.ShloMosaic Idealize.ShloMosaic.TcCoe Idealize.SL.Sem
open Reference3Ideal.Value

section
variable (m : (ℓ : Loc Kernel3Ideal.nD Kernel3Ideal.τ Kernel3Ideal.sig) → Buf (Elt Ideal) ℓ) (c : Dev Kernel3Ideal.nD)
  (a0 : FVec Ideal Reference3Ideal.S16384x1024 .f32) (a1 : FVec Ideal Reference3Ideal.S4x8x6144 .f32) (a2 : FVec Ideal Reference3Ideal.S4x1024 .f32)
  (a3 : FVec Ideal Reference3Ideal.S4x1024x6928 .f32) (a4 : FVec Ideal Reference3Ideal.S4x256 .f32) (a5 : FVec Ideal Reference3Ideal.S4x4x128x128 .f32)
  (a6 : FVec Ideal Reference3Ideal.S4x4x128 .f32)
  (e0 : a0 = m (c, Proc.tc.devRef Kernel3Ideal.main_arg0)) (e1 : a1 = m (c, Proc.tc.devRef Kernel3Ideal.main_arg1))
  (e2 : a2 = m (c, Proc.tc.devRef Kernel3Ideal.main_arg2)) (e3 : a3 = m (c, Proc.tc.devRef Kernel3Ideal.main_arg3))
  (e4 : a4 = m (c, Proc.tc.devRef Kernel3Ideal.main_arg4)) (e5 : a5 = m (c, Proc.tc.devRef Kernel3Ideal.main_arg5))
  (e6 : a6 = m (c, Proc.tc.devRef Kernel3Ideal.main_arg6))

include e0 e1 e2 e3 in
/-- The reference's in-projection on the kernel's arguments is the kernel's column. -/
theorem in_eq (R : Fin 16384) (j : Fin 6928) : refIn (refXm a0 (refRows a1) a2) a3 (ix2 R j) = Kernel3Ideal.Value.proj m c R j := by
  have hrow : ∀ d, refRows a1 (ix2 R d) = Kernel3Ideal.Value.modAt m c R d := fun d =>
    (rows_at _ R d ⟨Kernel3Ideal.Value.modRow (R.val / 512), Kernel3Ideal.Value.modRow_lt _ (by omega)⟩ (by
      show Kernel3Ideal.Value.modRow (R.val / 512) = _
      unfold Kernel3Ideal.Value.modRow
      split_ifs <;> omega)).trans (by rw [e1]; rfl)
  have hx : ∀ d, refXm a0 (refRows a1) a2 (ix2 R d) = Kernel3Ideal.Value.xRow m c R d := fun d => by
    rw [xm_at]
    simp only [hrow, e0, e2]
    rfl
  rw [in_at]
  refine Finset.sum_congr rfl fun d _ => congrArg₂ (· * ·) (hx d) ?_
  rw [e3]
  rfl

include e0 e1 e2 e3 e4 in
/-- The reference's normed values on the kernel's arguments are the kernel's. -/
theorem sv_eq (R : Fin 16384) (k : Fin 256) : refSv (refIn (refXm a0 (refRows a1) a2) a3) a4 (ix2 R k) = Kernel3Ideal.Value.sAt m c R k := by
  rw [sv_at]
  simp only [in_eq m c a0 a1 a2 a3 e0 e1 e2 e3, e4]
  rfl

include e0 e1 e2 e3 e4 e5 e6 in
/-- The reference's gated branch on the kernel's arguments is the kernel's. -/
theorem oc_eq (R : Fin 16384) (k : Fin 256) : refOc (refIn (refXm a0 (refRows a1) a2) a3) (refSv (refIn (refXm a0 (refRows a1) a2) a3) a4) a5 a6 (ix2 R k)
    = Kernel3Ideal.Value.ocAt m c R k := by
  rw [oc_at]
  simp only [in_eq m c a0 a1 a2 a3 e0 e1 e2 e3, sv_eq m c a0 a1 a2 a3 a4 e0 e1 e2 e3 e4, e5, e6]
  rfl
include e0 e1 e2 e3 in
/-- The queries, keys and values of the first branch. -/
theorem qkv_eq : extractStridedSlice Reference3Ideal.S16384x768 ![0, 0] (refIn (refXm a0 (refRows a1) a2) a3) Reference3Ideal.Gen.slices_S16384x6928_S16384x768_0_0
    = (Kernel3Ideal.Gen.dats m 0 c).arrAt 11 Kernel3Ideal.cfg0.N := by
  rw [Kernel3Ideal.Value.kernel11_at]
  funext y
  obtain ⟨R, k, rfl⟩ : ∃ (R : Fin 16384) (k : Fin 768), y = ix2 R k := ⟨y 0, y 1, by funext a; fin_cases a <;> rfl⟩
  pointwise
  exact (in_eq m c a0 a1 a2 a3 e0 e1 e2 e3 R _).trans (congrArg (Kernel3Ideal.Value.proj m c R) (Fin.ext (Nat.zero_add k.val).symm))

include e0 e1 e2 e3 in
/-- The gate of the first branch. -/
theorem gate_eq : extractStridedSlice Reference3Ideal.S16384x256 ![0, 768] (refIn (refXm a0 (refRows a1) a2) a3) Reference3Ideal.Gen.slices_S16384x6928_S16384x256_0_768
    = (Kernel3Ideal.Gen.dats m 0 c).arrAt 12 Kernel3Ideal.cfg0.N := by
  rw [Kernel3Ideal.Value.kernel12_at]
  funext y
  obtain ⟨R, k, rfl⟩ : ∃ (R : Fin 16384) (k : Fin 256), y = ix2 R k := ⟨y 0, y 1, by funext a; fin_cases a <;> rfl⟩
  pointwise
  exact in_eq m c a0 a1 a2 a3 e0 e1 e2 e3 R _

include e0 e1 e2 e3 in
/-- The values of the second branch. -/
theorem vb_eq : extractStridedSlice Reference3Ideal.S16384x256 ![0, 1552] (refIn (refXm a0 (refRows a1) a2) a3) Reference3Ideal.Gen.slices_S16384x6928_S16384x256_0_1552
    = (Kernel3Ideal.Gen.dats m 0 c).arrAt 16 Kernel3Ideal.cfg0.N := by
  rw [Kernel3Ideal.Value.kernel16_at]
  funext y
  obtain ⟨R, k, rfl⟩ : ∃ (R : Fin 16384) (k : Fin 256), y = ix2 R k := ⟨y 0, y 1, by funext a; fin_cases a <;> rfl⟩
  pointwise
  exact in_eq m c a0 a1 a2 a3 e0 e1 e2 e3 R _

include e0 e1 e2 e3 in
/-- The values of the second branch, turned. -/
theorem vbt_eq : truncf .bf16 (transpose Reference3Ideal.S256x16384 [1, 0] (extractStridedSlice Reference3Ideal.S16384x256 ![0, 1552] (refIn (refXm a0 (refRows a1) a2) a3) Reference3Ideal.Gen.slices_S16384x6928_S16384x256_0_1552) Reference3Ideal.Gen.transposes_S16384x256_S256x16384_1_0) Reference3Ideal.Gen.bitsLt_bf16_f32
    = (Kernel3Ideal.Gen.dats m 0 c).arrAt 18 Kernel3Ideal.cfg0.N := by
  rw [Kernel3Ideal.Value.kernel18_at]
  funext y
  obtain ⟨k, R, rfl⟩ : ∃ (k : Fin 256) (R : Fin 16384), y = ix2 k R := ⟨y 0, y 1, by funext a; fin_cases a <;> rfl⟩
  pointwise
  exact in_eq m c a0 a1 a2 a3 e0 e1 e2 e3 R _

include e0 e1 e2 e3 e4 e5 e6 in
/-- The gated branch. -/
theorem gated_eq : refOc (refIn (refXm a0 (refRows a1) a2) a3) (refSv (refIn (refXm a0 (refRows a1) a2) a3) a4) a5 a6
    = (Kernel3Ideal.Gen.dats m 0 c).arrAt 19 Kernel3Ideal.cfg0.N := by
  rw [Kernel3Ideal.Value.kernel19_at]
  funext y
  obtain ⟨R, k, rfl⟩ : ∃ (R : Fin 16384) (k : Fin 256), y = ix2 R k := ⟨y 0, y 1, by funext a; fin_cases a <;> rfl⟩
  exact oc_eq m c a0 a1 a2 a3 a4 a5 a6 e0 e1 e2 e3 e4 e5 e6 R k

include e0 e1 e2 e3 in
/-- The values of the fourth branch. -/
theorem vd_eq : extractStridedSlice Reference3Ideal.S16384x128 ![0, 2704] (refIn (refXm a0 (refRows a1) a2) a3) Reference3Ideal.Gen.slices_S16384x6928_S16384x128_0_2704
    = (Kernel3Ideal.Gen.dats m 0 c).arrAt 22 Kernel3Ideal.cfg0.N := by
  rw [Kernel3Ideal.Value.kernel22_at]
  funext y
  obtain ⟨R, k, rfl⟩ : ∃ (R : Fin 16384) (k : Fin 128), y = ix2 R k := ⟨y 0, y 1, by funext a; fin_cases a <;> rfl⟩
  pointwise
  exact in_eq m c a0 a1 a2 a3 e0 e1 e2 e3 R _

include e0 e1 e2 e3 in
/-- The values of the fourth branch, turned. -/
theorem vdt_eq : truncf .bf16 (transpose Reference3Ideal.S128x16384 [1, 0] (extractStridedSlice Reference3Ideal.S16384x128 ![0, 2704] (refIn (refXm a0 (refRows a1) a2) a3) Reference3Ideal.Gen.slices_S16384x6928_S16384x128_0_2704) Reference3Ideal.Gen.transposes_S16384x128_S128x16384_1_0) Reference3Ideal.Gen.bitsLt_bf16_f32
    = (Kernel3Ideal.Gen.dats m 0 c).arrAt 24 Kernel3Ideal.cfg0.N := by
  rw [Kernel3Ideal.Value.kernel24_at]
  funext y
  obtain ⟨k, R, rfl⟩ : ∃ (k : Fin 128) (R : Fin 16384), y = ix2 k R := ⟨y 0, y 1, by funext a; fin_cases a <;> rfl⟩
  pointwise
  exact in_eq m c a0 a1 a2 a3 e0 e1 e2 e3 R _

end

end Cert.Inproj
end
-- ==== Proof.lean ====
/-
  The proof of `Cert.Claim`: for each of the three calls, the frames, the preservation of the kernel by its idealization, and
  the value claim: the idealized kernel (the mixture-of-experts call with its routing; the merge call; seven arrays of the
  in-projection call) computes what its plain reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Equal
public import proofs.«01_k».proof.Proof.MergeEqual
public import proofs.«01_k».proof.Proof.InEqual
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference's result from arguments equal to the kernel's is what the kernel leaves. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    Cert.ReferenceIdeal.Value.res_main_v109 m' c = (Cert.KernelIdeal.Gen.dats m 0 c).arrAt 8 Cert.KernelIdeal.cfg0.N := by
  obtain ⟨e0, e1, e2, e3, e4, e5, e6, e7, e8, e9⟩ := hagree c
  rw [Cert.KernelIdeal.Value.kernel_at (Cert.Equal.routed (c := c) hpre), Cert.ReferenceIdeal.Value.res_stages m' c _ _ _ _ rfl rfl rfl rfl]
  funext y
  obtain ⟨R, f, rfl⟩ : ∃ (R : Fin 16384) (f : Fin 1024), y = ix2 R f := ⟨y 0, y 1, by funext a; fin_cases a <;> rfl⟩
  exact Cert.Equal.result hpre _ _ _ _ _ _ _ _ _ _ e0 e1 e2 e3 e4 e5 e6 e7 e8 e9 R f

/-- The merge call's reference result from arguments equal to the kernel's is what the kernel leaves. -/
theorem value2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (hagree : ∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14))
    (c : Dev Cert.Kernel2Ideal.nD) :
    Cert.Reference2Ideal.Value.res_main_v89 m' c = (Cert.Kernel2Ideal.Gen.dats m 0 c).arrAt 16 Cert.Kernel2Ideal.cfg0.N := by
  obtain ⟨e0, e1, e2, e3, e4, e5, e6, e7, e8, e9, e10, e11, e12, e13, e14⟩ := hagree c
  rw [Cert.Kernel2Ideal.Value.kernel_at, Cert.Reference2Ideal.Value.res_stages m' c _ rfl]
  funext y
  obtain ⟨R, f, rfl⟩ : ∃ (R : Fin 16384) (f : Fin 1024), y = ix2 R f := ⟨y 0, y 1, by funext a; fin_cases a <;> rfl⟩
  exact Cert.Merge.result m c _ _ _ _ _ _ _ _ _ _ _ _ _ _ _ e0 e1 e2 e3 e4 e5 e6 e7 e8 e9 e10 e11 e12 e13 e14 R f

set_option maxHeartbeats 4000000 in
/-- The in-projection call: its seven arrays are what the reference gives from equal arguments. -/
theorem value3 (hF : Cert.Kernel3Ideal.Facts) (hR : Cert.Reference3Ideal.Facts) :
    Cert.algebraic_Kernel3Ideal_Reference3Ideal (hKernel3Ideal := hF) (hReference3Ideal := hR) := by
  pair_intro
  · run_from Cert.Kernel3Ideal.Value.run_blocks m g
  · refine Idealize.ShloMosaic.θ_run_mono (Cert.Reference3Ideal.Value.run m' g') ?_
    intro r h c
    have hc := h c
    obtain ⟨e0, e1, e2, e3, e4, e5, e6, -, -⟩ := hagree c
    exact ⟨hc.1.trans (Cert.Inproj.qkv_eq m c _ _ _ _ e0 e1 e2 e3),
      hc.2.1.trans (Cert.Inproj.gate_eq m c _ _ _ _ e0 e1 e2 e3),
      hc.2.2.1.trans (Cert.Inproj.vb_eq m c _ _ _ _ e0 e1 e2 e3),
      hc.2.2.2.1.trans (Cert.Inproj.vbt_eq m c _ _ _ _ e0 e1 e2 e3),
      hc.2.2.2.2.1.trans ((Cert.Reference3Ideal.Value.res_stages m' c _ rfl _ rfl).trans
        (Cert.Inproj.gated_eq m c _ _ _ _ _ _ _ e0 e1 e2 e3 e4 e5 e6)),
      hc.2.2.2.2.2.1.trans (Cert.Inproj.vd_eq m c _ _ _ _ e0 e1 e2 e3),
      hc.2.2.2.2.2.2.1.trans (Cert.Inproj.vdt_eq m c _ _ _ _ e0 e1 e2 e3),
      hc.2.2.2.2.2.2.2⟩

set_option maxHeartbeats 2000000 in
/-- The witnesses of the printed side conditions, and the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite.Gen.facts, by
    refine ⟨?_, ?_, ?_, ?_, ?_, ?_, ?_, ?_, ?_, ?_, ?_, ?_, ?_, ?_, ?_, ?_, ?_⟩
    · exact fun m g _ => Cert.Kernel.Gen.frame m g
    · exact fun m g _ => Cert.KernelIdeal.Gen.frame m g
    · exact fun m g _ => Cert.KernelIdeal.Gen.frame m g
    · exact fun m g _ => (θ_run Cert.ReferenceIdeal.defs _ _).mono
        (fun r h => ⟨fun c => (h c).2, sem_eq_zero_of_no_sems (by decide) r.2⟩) (Cert.ReferenceIdeal.Value.run m g)
    · exact fun m g _ => (θ_run Cert.ReferenceIdeal.defs _ _).mono
        (fun r h => ⟨fun c => (h c).2, sem_eq_zero_of_no_sems (by decide) r.2⟩) (Cert.ReferenceIdeal.Value.run m g)
    · exact fun m g _ => Cert.Kernel2.Gen.frame m g
    · exact fun m g _ => Cert.Kernel2Ideal.Gen.frame m g
    · exact fun m g _ => (θ_run Cert.Reference2Ideal.defs _ _).mono
        (fun r h => ⟨fun c => (h c).2, sem_eq_zero_of_no_sems (by decide) r.2⟩) (Cert.Reference2Ideal.Value.run m g)
    · exact fun m g _ => Cert.Kernel3.Gen.frame m g
    · exact fun m g _ => Cert.Kernel3Ideal.Gen.frame m g
    · exact fun m g _ => (θ_run Cert.Reference3Ideal.defs _ _).mono
        (fun r h => ⟨fun c => (h c).2.2.2.2.2.2.2, sem_eq_zero_of_no_sems (by decide) r.2⟩) (Cert.Reference3Ideal.Value.run m g)
    · trivial
    · pair_intro
      · run_from Cert.KernelIdeal.Gen.run_main m g
      · run_from Cert.ReferenceIdeal.Value.run m' g'
        exact value m m' hpre hagree c
    · trivial
    · pair_intro
      · run_from Cert.Kernel2Ideal.Value.run_blocks m g
      · run_from Cert.Reference2Ideal.Value.run m' g'
        exact value2 m m' hagree c
    · trivial
    · exact value3 _ _⟩

end Cert.Proof

end
